-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)) (v2 : (c : Dev Cert.KernelIdeal.nD) → Buf (Elt Ideal) ((c.tc : Thread Cert.KernelIdeal.nD Cert.KernelIdeal.τ).loc Cert.KernelIdeal.main_v38_2)) (v3 : (c : Dev Cert.KernelIdeal.nD) → Buf (Elt Ideal) ((c.tc : Thread Cert.KernelIdeal.nD Cert.KernelIdeal.τ).loc Cert.KernelIdeal.main_v38_3)) (v4 : (c : Dev Cert.KernelIdeal.nD) → Buf (Elt Ideal) ((c.tc : Thread Cert.KernelIdeal.nD Cert.KernelIdeal.τ).loc Cert.KernelIdeal.main_v38_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_v38_2) = v2 c
          ∧ r.2.mem ((c.tc : Thread Cert.KernelIdeal.nD Cert.KernelIdeal.τ).loc Cert.KernelIdeal.main_v38_3) = v3 c
          ∧ r.2.mem ((c.tc : Thread Cert.KernelIdeal.nD Cert.KernelIdeal.τ).loc Cert.KernelIdeal.main_v38_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_v107) = v2 c
          ∧ r.2.mem ((c.tc : Thread Cert.ReferenceIdeal.nD Cert.ReferenceIdeal.τ).loc Cert.ReferenceIdeal.main_v109) = v3 c
          ∧ r.2.mem ((c.tc : Thread Cert.ReferenceIdeal.nD Cert.ReferenceIdeal.τ).loc Cert.ReferenceIdeal.main_v110) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v60) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  IdealRules.named_const.Statement Cert.Kernel4Ideal.κ "mask" .f32 0xF149F2CA#32 ⊥

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v51) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v56) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v9)) (v1 : (c : Dev Cert.Kernel6Ideal.nD) → Buf (Elt Ideal) ((c.tc : Thread Cert.Kernel6Ideal.nD Cert.Kernel6Ideal.τ).loc Cert.Kernel6Ideal.main_v12)) (v2 : (c : Dev Cert.Kernel6Ideal.nD) → Buf (Elt Ideal) ((c.tc : Thread Cert.Kernel6Ideal.nD Cert.Kernel6Ideal.τ).loc Cert.Kernel6Ideal.main_v15)) (v3 : (c : Dev Cert.Kernel6Ideal.nD) → Buf (Elt Ideal) ((c.tc : Thread Cert.Kernel6Ideal.nD Cert.Kernel6Ideal.τ).loc Cert.Kernel6Ideal.main_v18)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9) = v0 c
          ∧ r.2.mem ((c.tc : Thread Cert.Kernel6Ideal.nD Cert.Kernel6Ideal.τ).loc Cert.Kernel6Ideal.main_v12) = v1 c
          ∧ r.2.mem ((c.tc : Thread Cert.Kernel6Ideal.nD Cert.Kernel6Ideal.τ).loc Cert.Kernel6Ideal.main_v15) = v2 c
          ∧ r.2.mem ((c.tc : Thread Cert.Kernel6Ideal.nD Cert.Kernel6Ideal.τ).loc Cert.Kernel6Ideal.main_v18) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_v19) = v1 c
          ∧ r.2.mem ((c.tc : Thread Cert.Reference6Ideal.nD Cert.Reference6Ideal.τ).loc Cert.Reference6Ideal.main_v38) = v2 c
          ∧ r.2.mem ((c.tc : Thread Cert.Reference6Ideal.nD Cert.Reference6Ideal.τ).loc Cert.Reference6Ideal.main_v39) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S4x4096x1024 : Shape := ⟨3, ![4, 4096, 1024]⟩
abbrev S4x1x1024 : Shape := ⟨3, ![4, 1, 1024]⟩
abbrev S1024x6400 : Shape := ⟨2, ![1024, 6400]⟩
abbrev S4096 : Shape := ⟨1, ![4096]⟩
abbrev S_ : Shape := ⟨0, ![]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x64 : Shape := ⟨2, ![4096, 64]⟩
abbrev S1x4096x1x64 : Shape := ⟨4, ![1, 4096, 1, 64]⟩
abbrev S1x4096x4x64 : Shape := ⟨4, ![1, 4096, 4, 64]⟩
abbrev S4096x256 : Shape := ⟨2, ![4096, 256]⟩
abbrev S4x4096x2304 : Shape := ⟨3, ![4, 4096, 2304]⟩
abbrev S4x512x2048 : Shape := ⟨3, ![4, 512, 2048]⟩
abbrev S4x4096x4096 : Shape := ⟨3, ![4, 4096, 4096]⟩
abbrev S4x4096x256 : Shape := ⟨3, ![4, 4096, 256]⟩
abbrev S1x1024x1024 : Shape := ⟨3, ![1, 1024, 1024]⟩
abbrev S1x1x1024 : Shape := ⟨3, ![1, 1, 1024]⟩
abbrev S1024x1152 : Shape := ⟨2, ![1024, 1152]⟩
abbrev S1024x2048 : Shape := ⟨2, ![1024, 2048]⟩
abbrev S1024x256 : Shape := ⟨2, ![1024, 256]⟩
abbrev S1x1024x1152 : Shape := ⟨3, ![1, 1024, 1152]⟩
abbrev S1x128x2048 : Shape := ⟨3, ![1, 128, 2048]⟩
abbrev S1x1024x2048 : Shape := ⟨3, ![1, 1024, 2048]⟩
abbrev S1x1024x256 : Shape := ⟨3, ![1, 1024, 256]⟩
abbrev S1024x512 : Shape := ⟨2, ![1024, 512]⟩
abbrev S2x1024x128 : Shape := ⟨3, ![2, 1024, 128]⟩
abbrev S1024x1024 : Shape := ⟨2, ![1024, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S512x1152 : Shape := ⟨2, ![512, 1152]⟩
abbrev S1x512x1152 : Shape := ⟨3, ![1, 512, 1152]⟩
abbrev S512x128 : Shape := ⟨2, ![512, 128]⟩
abbrev S1x512x128 : Shape := ⟨3, ![1, 512, 128]⟩
abbrev S1x128x128 : Shape := ⟨3, ![1, 128, 128]⟩
abbrev S128x128 : Shape := ⟨2, ![128, 128]⟩

abbrev nBuf : Space → Nat
  | .hbm => 89
  | .vmem => 27
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024x6400, .f32⟩
  | .hbm, ⟨4, _⟩ => ⟨S1024x6400, .bf16⟩
  | .hbm, ⟨5, _⟩ => ⟨S4096, .i32⟩
  | .hbm, ⟨6, _⟩ => ⟨S_, .i32⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S4096, .i1⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S4096, .f32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S_, .i1⟩
  | .hbm, ⟨41, _⟩ => ⟨S4096, .i1⟩
  | .hbm, ⟨42, _⟩ => ⟨S4096, .i1⟩
  | .hbm, ⟨43, _⟩ => ⟨S4096, .i1⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S4096, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S_, .f32⟩
  | .hbm, ⟨56, _⟩ => ⟨S16, .f32⟩
  | .hbm, ⟨57, _⟩ => ⟨S16, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S4096x1, .f32⟩
  | .hbm, ⟨63, _⟩ => ⟨S1x16, .f32⟩
  | .hbm, ⟨64, _⟩ => ⟨S4096x16, .f32⟩
  | .hbm, ⟨65, _⟩ => ⟨S4096x16, .f32⟩
  | .hbm, ⟨66, _⟩ => ⟨S4096x16, .f32⟩
  | .hbm, ⟨67, _⟩ => ⟨S4096x1, .f32⟩
  | .hbm, ⟨68, _⟩ => ⟨S1x16, .f32⟩
  | .hbm, ⟨69, _⟩ => ⟨S4096x16, .f32⟩
  | .hbm, ⟨70, _⟩ => ⟨S4096x16, .f32⟩
  | .hbm, ⟨71, _⟩ => ⟨S4096x16, .f32⟩
  | .hbm, ⟨72, _⟩ => ⟨S4096x32, .f32⟩
  | .hbm, ⟨73, _⟩ => ⟨S4096x32, .f32⟩
  | .hbm, ⟨74, _⟩ => ⟨S4096x32, .f32⟩
  | .hbm, ⟨75, _⟩ => ⟨S4096x64, .f32⟩
  | .hbm, ⟨76, _⟩ => ⟨S1x4096x1x64, .f32⟩
  | .hbm, ⟨77, _⟩ => ⟨S1x4096x4x64, .f32⟩
  | .hbm, ⟨78, _⟩ => ⟨S4096x256, .f32⟩
  | .hbm, ⟨79, _⟩ => ⟨S4096x32, .f32⟩
  | .hbm, ⟨80, _⟩ => ⟨S4096x64, .f32⟩
  | .hbm, ⟨81, _⟩ => ⟨S1x4096x1x64, .f32⟩
  | .hbm, ⟨82, _⟩ => ⟨S1x4096x4x64, .f32⟩
  | .hbm, ⟨83, _⟩ => ⟨S4096x256, .f32⟩
  | .hbm, ⟨84, _⟩ => ⟨S4x4096x2304, .bf16⟩
  | .hbm, ⟨85, _⟩ => ⟨S4x512x2048, .bf16⟩
  | .hbm, ⟨86, _⟩ => ⟨S4x4096x4096, .bf16⟩
  | .hbm, ⟨87, _⟩ => ⟨S4x4096x256, .bf16⟩
  | .hbm, ⟨88, _⟩ => ⟨S4x4096x256, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1152, .bf16⟩
  | .local _ .vmem, ⟨7, _⟩ => ⟨S1024x1152, .bf16⟩
  | .local _ .vmem, ⟨8, _⟩ => ⟨S1024x2048, .bf16⟩
  | .local _ .vmem, ⟨9, _⟩ => ⟨S1024x2048, .bf16⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1x1024x1152, .bf16⟩
  | .local _ .vmem, ⟨15, _⟩ => ⟨S1x1024x1152, .bf16⟩
  | .local _ .vmem, ⟨16, _⟩ => ⟨S1x128x2048, .bf16⟩
  | .local _ .vmem, ⟨17, _⟩ => ⟨S1x128x2048, .bf16⟩
  | .local _ .vmem, ⟨18, _⟩ => ⟨S1x1024x2048, .bf16⟩
  | .local _ .vmem, ⟨19, _⟩ => ⟨S1x1024x2048, .bf16⟩
  | .local _ .vmem, ⟨20, _⟩ => ⟨S1x1024x256, .bf16⟩
  | .local _ .vmem, ⟨21, _⟩ => ⟨S1x1024x256, .bf16⟩
  | .local _ .vmem, ⟨22, _⟩ => ⟨S1x1024x256, .bf16⟩
  | .local _ .vmem, ⟨23, _⟩ => ⟨S1x1024x256, .bf16⟩
  | .local _ .vmem, ⟨24, _⟩ => ⟨S1024x512, .f32⟩
  | .local _ .vmem, ⟨25, _⟩ => ⟨S2x1024x128, .f32⟩
  | .local _ .vmem, ⟨26, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_v3 : Ref sig .tc := ⟨.hbm, 24, rfl⟩
abbrev main_c_0 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_cst : Ref sig .tc := ⟨.hbm, 49, rfl⟩
abbrev main_v7 : Ref sig .tc := ⟨.hbm, 50, rfl⟩
abbrev main_v8 : Ref sig .tc := ⟨.hbm, 51, rfl⟩
abbrev main_cst_1 : Ref sig .tc := ⟨.hbm, 52, rfl⟩
abbrev main_v9 : Ref sig .tc := ⟨.hbm, 53, rfl⟩
abbrev main_v10 : Ref sig .tc := ⟨.hbm, 54, rfl⟩
abbrev main_cst_2 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_cst_3 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38_0 : Ref sig .tc := ⟨.hbm, 84, rfl⟩
abbrev main_v38_1 : Ref sig .tc := ⟨.hbm, 85, rfl⟩
abbrev main_v38_2 : Ref sig .tc := ⟨.hbm, 86, rfl⟩
abbrev main_v38_3 : Ref sig .tc := ⟨.hbm, 87, rfl⟩
abbrev main_v38_4 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![4, 4, 4], ![false, false, false]⟩

def k0_mult1 (i : grid0.Coords) : BitVec 32 :=
  let arg2 : BitVec 32 := BitVec.ofNat 32 (i 2).val
  let c1_i32 : BitVec 32 := 1#32
  let v0 : BitVec 32 := Scalar.minsi arg2 c1_i32
  let c1152_i32 : BitVec 32 := 1152#32
  let v1 : BitVec 32 := Scalar.muli v0 c1152_i32
  v1
def k0_mult2 (i : grid0.Coords) : BitVec 32 :=
  let c2304_i32 : BitVec 32 := 2304#32
  let arg2 : BitVec 32 := BitVec.ofNat 32 (i 2).val
  let c2_i32 : BitVec 32 := 2#32
  let v0 : BitVec 32 := Scalar.subi arg2 c2_i32
  let c0_i32 : BitVec 32 := 0#32
  let v1 : BitVec 32 := Scalar.maxsi v0 c0_i32
  let c2048_i32 : BitVec 32 := 2048#32
  let v2 : BitVec 32 := Scalar.muli v1 c2048_i32
  let v3 : BitVec 32 := Scalar.addi c2304_i32 v2
  v3
def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let c2_i32 : BitVec 32 := 2#32
  let v4 : BitVec 1 := Scalar.cmpi .slt arg2 c2_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond4 (i : grid0.Coords) : BitVec 1 :=
  let arg2 : BitVec 32 := BitVec.ofNat 32 (i 2).val
  let c2_i32_3 : BitVec 32 := 2#32
  let v8 : BitVec 1 := Scalar.cmpi .sge arg2 c2_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c1152_i32 : BitVec 32 := 1152#32
  let v1 : BitVec 32 := Scalar.muli v0 c1152_i32
  let v2 : BitVec 32 := v1
  let c0_i32 : BitVec 32 := 0#32
  let c0_i32_0 : BitVec 32 := 0#32
  ![c0_i32.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let v1 : BitVec 32 := Scalar.maxsi v0 c0_i32
  let c2048_i32 : BitVec 32 := 2048#32
  let v2 : BitVec 32 := Scalar.muli v1 c2048_i32
  let c2304_i32 : BitVec 32 := 2304#32
  let v3 : BitVec 32 := Scalar.addi c2304_i32 v2
  let v4 : BitVec 32 := v3
  let c0_i32_0 : BitVec 32 := 0#32
  let c0_i32_1 : BitVec 32 := 0#32
  ![c0_i32_0.toNat, v4.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  ![arg0.toNat, arg1.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let v1 : BitVec 32 := Scalar.maxsi v0 c0_i32
  let c0_i32_0 : BitVec 32 := 0#32
  ![arg0.toNat, arg1.toNat, v1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1024x1152 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1024x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== ReferenceIdeal.lean ====
abbrev S4x4096x1024 : Shape := ⟨3, ![4, 4096, 1024]⟩
abbrev S4x1x1024 : Shape := ⟨3, ![4, 1, 1024]⟩
abbrev S1024x6400 : Shape := ⟨2, ![1024, 6400]⟩
abbrev S_ : Shape := ⟨0, ![]⟩
abbrev S4x4096 : Shape := ⟨2, ![4, 4096]⟩
abbrev S4x4096x1 : Shape := ⟨3, ![4, 4096, 1]⟩
abbrev S4x4096x6400 : Shape := ⟨3, ![4, 4096, 6400]⟩
abbrev S4x4096x256 : Shape := ⟨3, ![4, 4096, 256]⟩
abbrev S4x4096x768 : Shape := ⟨3, ![4, 4096, 768]⟩
abbrev S4x4096x512 : Shape := ⟨3, ![4, 4096, 512]⟩
abbrev S4x4096x4096 : Shape := ⟨3, ![4, 4096, 4096]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4x4096x4x64 : Shape := ⟨4, ![4, 4096, 4, 64]⟩
abbrev S4x4096x4x32 : Shape := ⟨4, ![4, 4096, 4, 32]⟩
abbrev S1x4096x1x32 : Shape := ⟨4, ![1, 4096, 1, 32]⟩
abbrev S4x4096x128 : Shape := ⟨3, ![4, 4096, 128]⟩
abbrev S4x4096x2x64 : Shape := ⟨4, ![4, 4096, 2, 64]⟩
abbrev S4x4096x2x32 : Shape := ⟨4, ![4, 4096, 2, 32]⟩
abbrev S4x4096x2304 : Shape := ⟨3, ![4, 4096, 2304]⟩
abbrev S4x512x2048 : Shape := ⟨3, ![4, 512, 2048]⟩

abbrev nBuf : Space → Nat
  | .hbm => 166
  | .vmem => 0
  | .smem => 0
  | _ => 0

abbrev hbmTy0_0 (i : Nat) : BufTy := match i % 128 with
  | 0 => ⟨S4x4096x1024, .f32⟩
  | 1 => ⟨S4x1x1024, .f32⟩
  | 2 => ⟨S4x1x1024, .f32⟩
  | 3 => ⟨S1024x6400, .f32⟩
  | 4 => ⟨S_, .f32⟩
  | 5 => ⟨S4x4096, .f32⟩
  | 6 => ⟨S4x4096x1, .f32⟩
  | 7 => ⟨S_, .f32⟩
  | 8 => ⟨S4x4096x1, .f32⟩
  | 9 => ⟨S4x4096x1, .f32⟩
  | 10 => ⟨S4x4096x1024, .f32⟩
  | 11 => ⟨S4x4096x1024, .f32⟩
  | 12 => ⟨S4x4096x1024, .f32⟩
  | 13 => ⟨S_, .f32⟩
  | 14 => ⟨S4x4096, .f32⟩
  | 15 => ⟨S4x4096x1, .f32⟩
  | 16 => ⟨S_, .f32⟩
  | 17 => ⟨S4x4096x1, .f32⟩
  | 18 => ⟨S4x4096x1, .f32⟩
  | 19 => ⟨S4x4096x1024, .f32⟩
  | 20 => ⟨S4x4096x1024, .f32⟩
  | 21 => ⟨S_, .f32⟩
  | 22 => ⟨S4x4096x1, .f32⟩
  | 23 => ⟨S4x4096x1, .f32⟩
  | 24 => ⟨S4x4096x1, .f32⟩
  | 25 => ⟨S4x4096x1024, .f32⟩
  | 26 => ⟨S4x4096x1024, .f32⟩
  | 27 => ⟨S_, .f32⟩
  | 28 => ⟨S4x1x1024, .f32⟩
  | 29 => ⟨S4x1x1024, .f32⟩
  | 30 => ⟨S4x4096x1024, .f32⟩
  | 31 => ⟨S4x4096x1024, .f32⟩
  | 32 => ⟨S4x4096x1024, .f32⟩
  | 33 => ⟨S4x4096x1024, .f32⟩
  | 34 => ⟨S4x4096x6400, .f32⟩
  | 35 => ⟨S4x4096x256, .f32⟩
  | 36 => ⟨S4x4096x768, .f32⟩
  | 37 => ⟨S4x4096x768, .f32⟩
  | 38 => ⟨S4x4096x512, .f32⟩
  | 39 => ⟨S4x4096x4096, .f32⟩
  | 40 => ⟨S4096, .i32⟩
  | 41 => ⟨S_, .i32⟩
  | 42 => ⟨S_, .i32⟩
  | 43 => ⟨S4096, .i32⟩
  | 44 => ⟨S4096, .i32⟩
  | 45 => ⟨S4096, .i32⟩
  | 46 => ⟨S_, .i32⟩
  | 47 => ⟨S4096, .i32⟩
  | 48 => ⟨S4096, .i1⟩
  | 49 => ⟨S4096, .i32⟩
  | 50 => ⟨S4096, .i32⟩
  | 51 => ⟨S_, .i32⟩
  | 52 => ⟨S4096, .i32⟩
  | 53 => ⟨S4096, .i1⟩
  | 54 => ⟨S4096, .i1⟩
  | 55 => ⟨S_, .i32⟩
  | 56 => ⟨S4096, .i32⟩
  | 57 => ⟨S4096, .i32⟩
  | 58 => ⟨S4096, .i32⟩
  | 59 => ⟨S4096, .f32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S4096, .i32⟩
  | 67 => ⟨S4096, .i32⟩
  | 68 => ⟨S_, .i32⟩
  | 69 => ⟨S4096, .i32⟩
  | 70 => ⟨S4096, .i1⟩
  | 71 => ⟨S_, .i32⟩
  | 72 => ⟨S4096, .i32⟩
  | 73 => ⟨S4096, .i1⟩
  | 74 => ⟨S_, .i32⟩
  | 75 => ⟨S_, .i1⟩
  | 76 => ⟨S4096, .i1⟩
  | 77 => ⟨S4096, .i1⟩
  | 78 => ⟨S4096, .i1⟩
  | 79 => ⟨S4096, .i32⟩
  | 80 => ⟨S4096, .i32⟩
  | 81 => ⟨S4096, .i32⟩
  | 82 => ⟨S4096, .f32⟩
  | 83 => ⟨S16, .f32⟩
  | 84 => ⟨S_, .f32⟩
  | 85 => ⟨S16, .f32⟩
  | 86 => ⟨S16, .f32⟩
  | 87 => ⟨S_, .f32⟩
  | 88 => ⟨S16, .f32⟩
  | 89 => ⟨S16, .f32⟩
  | 90 => ⟨S_, .f32⟩
  | 91 => ⟨S16, .f32⟩
  | 92 => ⟨S16, .f32⟩
  | 93 => ⟨S16, .f32⟩
  | 94 => ⟨S_, .f32⟩
  | 95 => ⟨S16, .f32⟩
  | 96 => ⟨S16, .f32⟩
  | 97 => ⟨S4096x1, .f32⟩
  | 98 => ⟨S1x16, .f32⟩
  | 99 => ⟨S4096x16, .f32⟩
  | 100 => ⟨S4096x16, .f32⟩
  | 101 => ⟨S4096x16, .f32⟩
  | 102 => ⟨S4096x1, .f32⟩
  | 103 => ⟨S1x16, .f32⟩
  | 104 => ⟨S4096x16, .f32⟩
  | 105 => ⟨S4096x16, .f32⟩
  | 106 => ⟨S4096x16, .f32⟩
  | 107 => ⟨S4096x32, .f32⟩
  | 108 => ⟨S4096x32, .f32⟩
  | 109 => ⟨S4096x32, .f32⟩
  | 110 => ⟨S4x4096x256, .f32⟩
  | 111 => ⟨S4x4096x4x64, .f32⟩
  | 112 => ⟨S4x4096x4x32, .f32⟩
  | 113 => ⟨S4x4096x4x32, .f32⟩
  | 114 => ⟨S1x4096x1x32, .f32⟩
  | 115 => ⟨S1x4096x1x32, .f32⟩
  | 116 => ⟨S4x4096x4x32, .f32⟩
  | 117 => ⟨S4x4096x4x32, .f32⟩
  | 118 => ⟨S4x4096x4x32, .f32⟩
  | 119 => ⟨S4x4096x4x32, .f32⟩
  | 120 => ⟨S4x4096x4x32, .f32⟩
  | 121 => ⟨S4x4096x4x32, .f32⟩
  | 122 => ⟨S4x4096x4x32, .f32⟩
  | 123 => ⟨S4x4096x4x32, .f32⟩
  | 124 => ⟨S4x4096x4x32, .f32⟩
  | 125 => ⟨S4x4096x4x32, .f32⟩
  | 126 => ⟨S4x4096x4x64, .f32⟩
  | 127 => ⟨S_, .f32⟩
  | _ => ⟨S4x4096x1024, .f32⟩

abbrev hbmTy0_1 (i : Nat) : BufTy := match i % 128 with
  | 0 => ⟨S4x4096x4x64, .f32⟩
  | 1 => ⟨S4x4096x4x64, .f32⟩
  | 2 => ⟨S4x4096x128, .f32⟩
  | 3 => ⟨S4x4096x2x64, .f32⟩
  | 4 => ⟨S4x4096x2x32, .f32⟩
  | 5 => ⟨S4x4096x2x32, .f32⟩
  | 6 => ⟨S1x4096x1x32, .f32⟩
  | 7 => ⟨S1x4096x1x32, .f32⟩
  | 8 => ⟨S4x4096x2x32, .f32⟩
  | 9 => ⟨S4x4096x2x32, .f32⟩
  | 10 => ⟨S4x4096x2x32, .f32⟩
  | 11 => ⟨S4x4096x2x32, .f32⟩
  | 12 => ⟨S4x4096x2x32, .f32⟩
  | 13 => ⟨S4x4096x2x32, .f32⟩
  | 14 => ⟨S4x4096x2x32, .f32⟩
  | 15 => ⟨S4x4096x2x32, .f32⟩
  | 16 => ⟨S4x4096x2x32, .f32⟩
  | 17 => ⟨S4x4096x2x32, .f32⟩
  | 18 => ⟨S4x4096x2x64, .f32⟩
  | 19 => ⟨S4x4096x128, .f32⟩
  | 20 => ⟨S4x4096x128, .f32⟩
  | 21 => ⟨S4x4096x256, .f32⟩
  | 22 => ⟨S4x4096x2304, .f32⟩
  | 23 => ⟨S4x4096x2304, .bf16⟩
  | 24 => ⟨S4x512x2048, .f32⟩
  | 25 => ⟨S4x512x2048, .bf16⟩
  | 26 => ⟨S4x4096x4096, .f32⟩
  | 27 => ⟨S4x4096x4096, .f32⟩
  | 28 => ⟨S_, .f32⟩
  | 29 => ⟨S4x4096x4096, .f32⟩
  | 30 => ⟨S4x4096x4096, .f32⟩
  | 31 => ⟨S_, .f32⟩
  | 32 => ⟨S4x4096x4096, .f32⟩
  | 33 => ⟨S4x4096x4096, .f32⟩
  | 34 => ⟨S4x4096x4096, .bf16⟩
  | 35 => ⟨S4x4096x256, .f32⟩
  | 36 => ⟨S4x4096x256, .bf16⟩
  | 37 => ⟨S4x4096x256, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_c : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_0 : Ref sig .tc := ⟨.hbm, 55, rfl⟩
abbrev main_call0_v12 : Ref sig .tc := ⟨.hbm, 56, rfl⟩
abbrev main_call0_v13 : Ref sig .tc := ⟨.hbm, 57, rfl⟩
abbrev main_v31 : Ref sig .tc := ⟨.hbm, 58, rfl⟩
abbrev main_v32 : Ref sig .tc := ⟨.hbm, 59, rfl⟩
abbrev main_c_5 : Ref sig .tc := ⟨.hbm, 60, rfl⟩
abbrev main_call1_v0 : Ref sig .tc := ⟨.hbm, 61, rfl⟩
abbrev main_call1_c : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_c_1 : Ref sig .tc := ⟨.hbm, 68, rfl⟩
abbrev main_call1_v5 : Ref sig .tc := ⟨.hbm, 69, rfl⟩
abbrev main_call1_v6 : Ref sig .tc := ⟨.hbm, 70, rfl⟩
abbrev main_call1_c_2 : Ref sig .tc := ⟨.hbm, 71, rfl⟩
abbrev main_call1_v7 : Ref sig .tc := ⟨.hbm, 72, rfl⟩
abbrev main_call1_v8 : Ref sig .tc := ⟨.hbm, 73, rfl⟩
abbrev main_call1_c_3 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_v12 : Ref sig .tc := ⟨.hbm, 78, rfl⟩
abbrev main_call1_v13 : Ref sig .tc := ⟨.hbm, 79, rfl⟩
abbrev main_call1_v14 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_cst_6 : Ref sig .tc := ⟨.hbm, 84, rfl⟩
abbrev main_v36 : Ref sig .tc := ⟨.hbm, 85, rfl⟩
abbrev main_v37 : Ref sig .tc := ⟨.hbm, 86, rfl⟩
abbrev main_cst_7 : Ref sig .tc := ⟨.hbm, 87, rfl⟩
abbrev main_v38 : Ref sig .tc := ⟨.hbm, 88, rfl⟩
abbrev main_v39 : Ref sig .tc := ⟨.hbm, 89, rfl⟩
abbrev main_cst_8 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_cst_9 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_cst_10 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_cst_11 : Ref sig .tc := ⟨.hbm, 156, rfl⟩
abbrev main_v103 : Ref sig .tc := ⟨.hbm, 157, rfl⟩
abbrev main_v104 : Ref sig .tc := ⟨.hbm, 158, rfl⟩
abbrev main_cst_12 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x1x1024 : Shape := ⟨3, ![4, 1, 1024]⟩
abbrev S1024x4096 : Shape := ⟨2, ![1024, 4096]⟩
abbrev S4096x1024 : Shape := ⟨2, ![4096, 1024]⟩
abbrev S1024 : Shape := ⟨1, ![1024]⟩
abbrev S1x1024 : Shape := ⟨2, ![1, 1024]⟩
abbrev S1x1024x1024 : Shape := ⟨3, ![1, 1024, 1024]⟩
abbrev S1x1x1024 : Shape := ⟨3, ![1, 1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1024x2048 : Shape := ⟨2, ![1024, 2048]⟩
abbrev S512x2048 : Shape := ⟨2, ![512, 2048]⟩
abbrev S2048x1024 : Shape := ⟨2, ![2048, 1024]⟩

abbrev nBuf : Space → Nat
  | .hbm => 13
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S4x1x1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S1024, .f32⟩
  | .hbm, ⟨8, _⟩ => ⟨S1024x4096, .bf16⟩
  | .hbm, ⟨9, _⟩ => ⟨S4096x1024, .bf16⟩
  | .hbm, ⟨10, _⟩ => ⟨S1x1024, .f32⟩
  | .hbm, ⟨11, _⟩ => ⟨S1x1024, .f32⟩
  | .hbm, ⟨12, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x1024, .f32⟩
  | .local _ .vmem, ⟨11, _⟩ => ⟨S1x1024, .f32⟩
  | .local _ .vmem, ⟨12, _⟩ => ⟨S1x1024x1024, .f32⟩
  | .local _ .vmem, ⟨13, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S4x4096x1024 : Shape := ⟨3, ![4, 4096, 1024]⟩
abbrev S4x1x1024 : Shape := ⟨3, ![4, 1, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S4x4096x4096 : Shape := ⟨3, ![4, 4096, 4096]⟩
abbrev S1x1x1024 : Shape := ⟨3, ![1, 1, 1024]⟩

abbrev nBuf : Space → Nat
  | .hbm => 79
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S4x1x1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S4x4096x1024, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1024, .f32⟩
  | .hbm, ⟨24, _⟩ => ⟨S4x4096x1024, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x1, .f32⟩
  | .hbm, ⟨29, _⟩ => ⟨S4x4096x1024, .f32⟩
  | .hbm, ⟨30, _⟩ => ⟨S4x4096x1024, .f32⟩
  | .hbm, ⟨31, _⟩ => ⟨S_, .f32⟩
  | .hbm, ⟨32, _⟩ => ⟨S4x1x1024, .f32⟩
  | .hbm, ⟨33, _⟩ => ⟨S4x1x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S4x4096x4096, .f32⟩
  | .hbm, ⟨39, _⟩ => ⟨S_, .f32⟩
  | .hbm, ⟨40, _⟩ => ⟨S4x4096x4096, .f32⟩
  | .hbm, ⟨41, _⟩ => ⟨S4x4096x4096, .f32⟩
  | .hbm, ⟨42, _⟩ => ⟨S4x4096x4096, .f32⟩
  | .hbm, ⟨43, _⟩ => ⟨S4x4096x1024, .f32⟩
  | .hbm, ⟨44, _⟩ => ⟨S_, .f32⟩
  | .hbm, ⟨45, _⟩ => ⟨S4x4096x1024, .f32⟩
  | .hbm, ⟨46, _⟩ => ⟨S4x4096x1024, .f32⟩
  | .hbm, ⟨47, _⟩ => ⟨S4x4096x1024, .f32⟩
  | .hbm, ⟨48, _⟩ => ⟨S4x4096x1024, .f32⟩
  | .hbm, ⟨49, _⟩ => ⟨S4x4096x1024, .f32⟩
  | .hbm, ⟨50, _⟩ => ⟨S_, .f32⟩
  | .hbm, ⟨51, _⟩ => ⟨S4x4096, .f32⟩
  | .hbm, ⟨52, _⟩ => ⟨S4x4096x1, .f32⟩
  | .hbm, ⟨53, _⟩ => ⟨S_, .f32⟩
  | .hbm, ⟨54, _⟩ => ⟨S4x4096x1, .f32⟩
  | .hbm, ⟨55, _⟩ => ⟨S4x4096x1, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S_, .f32⟩
  | .hbm, ⟨60, _⟩ => ⟨S4x4096, .f32⟩
  | .hbm, ⟨61, _⟩ => ⟨S4x4096x1, .f32⟩
  | .hbm, ⟨62, _⟩ => ⟨S_, .f32⟩
  | .hbm, ⟨63, _⟩ => ⟨S4x4096x1, .f32⟩
  | .hbm, ⟨64, _⟩ => ⟨S4x4096x1, .f32⟩
  | .hbm, ⟨65, _⟩ => ⟨S4x4096x1024, .f32⟩
  | .hbm, ⟨66, _⟩ => ⟨S4x4096x1024, .f32⟩
  | .hbm, ⟨67, _⟩ => ⟨S_, .f32⟩
  | .hbm, ⟨68, _⟩ => ⟨S4x4096x1, .f32⟩
  | .hbm, ⟨69, _⟩ => ⟨S4x4096x1, .f32⟩
  | .hbm, ⟨70, _⟩ => ⟨S4x4096x1, .f32⟩
  | .hbm, ⟨71, _⟩ => ⟨S4x4096x1024, .f32⟩
  | .hbm, ⟨72, _⟩ => ⟨S4x4096x1024, .f32⟩
  | .hbm, ⟨73, _⟩ => ⟨S1x1x1024, .f32⟩
  | .hbm, ⟨74, _⟩ => ⟨S4x4096x1024, .f32⟩
  | .hbm, ⟨75, _⟩ => ⟨S4x4096x1024, .f32⟩
  | .hbm, ⟨76, _⟩ => ⟨S1x1x1024, .f32⟩
  | .hbm, ⟨77, _⟩ => ⟨S4x4096x1024, .f32⟩
  | .hbm, ⟨78, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_cst : Ref sig .tc := ⟨.hbm, 39, rfl⟩
abbrev main_call0_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x4096x256 : Shape := ⟨3, ![4, 4096, 256]⟩
abbrev S4x4096x4096 : Shape := ⟨3, ![4, 4096, 4096]⟩
abbrev S4x1x1024 : Shape := ⟨3, ![4, 1, 1024]⟩
abbrev S256x256 : Shape := ⟨2, ![256, 256]⟩
abbrev S4x256x1024 : Shape := ⟨3, ![4, 256, 1024]⟩
abbrev S1024x1024 : Shape := ⟨2, ![1024, 1024]⟩
abbrev S1024 : Shape := ⟨1, ![1024]⟩
abbrev S1x1024 : Shape := ⟨2, ![1, 1024]⟩
abbrev S4x512x2048 : Shape := ⟨3, ![4, 512, 2048]⟩
abbrev S1x1024x1024 : Shape := ⟨3, ![1, 1024, 1024]⟩
abbrev S1x128x2048 : Shape := ⟨3, ![1, 128, 2048]⟩
abbrev S1x1024x256 : Shape := ⟨3, ![1, 1024, 256]⟩
abbrev S1x1024x4096 : Shape := ⟨3, ![1, 1024, 4096]⟩
abbrev S1x1x1024 : Shape := ⟨3, ![1, 1, 1024]⟩
abbrev S2x1024x128 : Shape := ⟨3, ![2, 1024, 128]⟩
abbrev S1x128x128 : Shape := ⟨3, ![1, 128, 128]⟩
abbrev S128x128 : Shape := ⟨2, ![128, 128]⟩
abbrev S1x512x128 : Shape := ⟨3, ![1, 512, 128]⟩
abbrev S512x128 : Shape := ⟨2, ![512, 128]⟩
abbrev S512x256 : Shape := ⟨2, ![512, 256]⟩
abbrev S1x512x256 : Shape := ⟨3, ![1, 512, 256]⟩
abbrev S1x256x1024 : Shape := ⟨3, ![1, 256, 1024]⟩
abbrev S256x1024 : Shape := ⟨2, ![256, 1024]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 19
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S4x4096x256, .f32⟩
  | .hbm, ⟨2, _⟩ => ⟨S4x4096x256, .f32⟩
  | .hbm, ⟨3, _⟩ => ⟨S4x4096x256, .f32⟩
  | .hbm, ⟨4, _⟩ => ⟨S4x4096x256, .f32⟩
  | .hbm, ⟨5, _⟩ => ⟨S4x4096x4096, .bf16⟩
  | .hbm, ⟨6, _⟩ => ⟨S4x1x1024, .f32⟩
  | .hbm, ⟨7, _⟩ => ⟨S256x256, .f32⟩
  | .hbm, ⟨8, _⟩ => ⟨S4x256x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S256x256, .bf16⟩
  | .hbm, ⟨13, _⟩ => ⟨S4x256x1024, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S4x512x2048, .f32⟩
  | .hbm, ⟨18, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x128x2048, .f32⟩
  | .local _ .vmem, ⟨3, _⟩ => ⟨S1x128x2048, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .vmem, ⟨9, _⟩ => ⟨S1x1024x256, .f32⟩
  | .local _ .vmem, ⟨10, _⟩ => ⟨S1x1024x4096, .bf16⟩
  | .local _ .vmem, ⟨11, _⟩ => ⟨S1x1024x4096, .bf16⟩
  | .local _ .vmem, ⟨12, _⟩ => ⟨S1x1x1024, .f32⟩
  | .local _ .vmem, ⟨13, _⟩ => ⟨S1x1x1024, .f32⟩
  | .local _ .vmem, ⟨14, _⟩ => ⟨S256x256, .bf16⟩
  | .local _ .vmem, ⟨15, _⟩ => ⟨S4x256x1024, .bf16⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S1x1024x1024, .f32⟩
  | .local _ .vmem, ⟨20, _⟩ => ⟨S1x1024x1024, .f32⟩
  | .local _ .vmem, ⟨21, _⟩ => ⟨S2x1024x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S4x4096x1024 : Shape := ⟨3, ![4, 4096, 1024]⟩
abbrev S4x4096x256 : Shape := ⟨3, ![4, 4096, 256]⟩
abbrev S4x4096x4096 : Shape := ⟨3, ![4, 4096, 4096]⟩
abbrev S4x1x1024 : Shape := ⟨3, ![4, 1, 1024]⟩
abbrev S256x256 : Shape := ⟨2, ![256, 256]⟩
abbrev S4x256x1024 : Shape := ⟨3, ![4, 256, 1024]⟩
abbrev S1024x1024 : Shape := ⟨2, ![1024, 1024]⟩
abbrev S1024 : Shape := ⟨1, ![1024]⟩
abbrev S_ : Shape := ⟨0, ![]⟩
abbrev S4x4096x1x256 : Shape := ⟨4, ![4, 4096, 1, 256]⟩
abbrev S4x4096x4x256 : Shape := ⟨4, ![4, 4096, 4, 256]⟩
abbrev S4x1024x4x4096 : Shape := ⟨4, ![4, 1024, 4, 4096]⟩
abbrev S4x4096x4x1024 : Shape := ⟨4, ![4, 4096, 4, 1024]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 85
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x256, .f32⟩
  | .hbm, ⟨2, _⟩ => ⟨S4x4096x256, .f32⟩
  | .hbm, ⟨3, _⟩ => ⟨S4x4096x256, .f32⟩
  | .hbm, ⟨4, _⟩ => ⟨S4x4096x256, .f32⟩
  | .hbm, ⟨5, _⟩ => ⟨S4x4096x4096, .bf16⟩
  | .hbm, ⟨6, _⟩ => ⟨S4x1x1024, .f32⟩
  | .hbm, ⟨7, _⟩ => ⟨S256x256, .f32⟩
  | .hbm, ⟨8, _⟩ => ⟨S4x256x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S4x4096x256, .f32⟩
  | .hbm, ⟨13, _⟩ => ⟨S4x4096x256, .f32⟩
  | .hbm, ⟨14, _⟩ => ⟨S_, .f32⟩
  | .hbm, ⟨15, _⟩ => ⟨S4x4096x256, .f32⟩
  | .hbm, ⟨16, _⟩ => ⟨S4x4096x256, .f32⟩
  | .hbm, ⟨17, _⟩ => ⟨S4x4096x256, .f32⟩
  | .hbm, ⟨18, _⟩ => ⟨S_, .f32⟩
  | .hbm, ⟨19, _⟩ => ⟨S4x4096x256, .f32⟩
  | .hbm, ⟨20, _⟩ => ⟨S4x4096x256, .f32⟩
  | .hbm, ⟨21, _⟩ => ⟨S4x4096x256, .f32⟩
  | .hbm, ⟨22, _⟩ => ⟨S_, .f32⟩
  | .hbm, ⟨23, _⟩ => ⟨S4x4096x256, .f32⟩
  | .hbm, ⟨24, _⟩ => ⟨S4x4096x256, .f32⟩
  | .hbm, ⟨25, _⟩ => ⟨S_, .f32⟩
  | .hbm, ⟨26, _⟩ => ⟨S4x4096x256, .f32⟩
  | .hbm, ⟨27, _⟩ => ⟨S4x4096x256, .f32⟩
  | .hbm, ⟨28, _⟩ => ⟨S4x4096x256, .f32⟩
  | .hbm, ⟨29, _⟩ => ⟨S4x4096x256, .f32⟩
  | .hbm, ⟨30, _⟩ => ⟨S4x4096x256, .f32⟩
  | .hbm, ⟨31, _⟩ => ⟨S4x4096x256, .f32⟩
  | .hbm, ⟨32, _⟩ => ⟨S_, .f32⟩
  | .hbm, ⟨33, _⟩ => ⟨S4x4096x256, .f32⟩
  | .hbm, ⟨34, _⟩ => ⟨S4x4096x256, .f32⟩
  | .hbm, ⟨35, _⟩ => ⟨S_, .f32⟩
  | .hbm, ⟨36, _⟩ => ⟨S4x4096x256, .f32⟩
  | .hbm, ⟨37, _⟩ => ⟨S4x4096x256, .f32⟩
  | .hbm, ⟨38, _⟩ => ⟨S4x4096x256, .f32⟩
  | .hbm, ⟨39, _⟩ => ⟨S4x4096x1x256, .f32⟩
  | .hbm, ⟨40, _⟩ => ⟨S4x4096x1x256, .f32⟩
  | .hbm, ⟨41, _⟩ => ⟨S4x4096x1x256, .f32⟩
  | .hbm, ⟨42, _⟩ => ⟨S4x4096x1x256, .f32⟩
  | .hbm, ⟨43, _⟩ => ⟨S4x4096x4x256, .f32⟩
  | .hbm, ⟨44, _⟩ => ⟨S4x1024x4x4096, .f32⟩
  | .hbm, ⟨45, _⟩ => ⟨S4x4096x4x1024, .f32⟩
  | .hbm, ⟨46, _⟩ => ⟨S4x4096x4096, .f32⟩
  | .hbm, ⟨47, _⟩ => ⟨S4x4096x4x1024, .f32⟩
  | .hbm, ⟨48, _⟩ => ⟨S4x4096x1024, .f32⟩
  | .hbm, ⟨49, _⟩ => ⟨S4x4096x1024, .f32⟩
  | .hbm, ⟨50, _⟩ => ⟨S_, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S_, .f32⟩
  | .hbm, ⟨57, _⟩ => ⟨S4x4096, .f32⟩
  | .hbm, ⟨58, _⟩ => ⟨S4x4096x1, .f32⟩
  | .hbm, ⟨59, _⟩ => ⟨S_, .f32⟩
  | .hbm, ⟨60, _⟩ => ⟨S4x4096x1, .f32⟩
  | .hbm, ⟨61, _⟩ => ⟨S4x4096x1, .f32⟩
  | .hbm, ⟨62, _⟩ => ⟨S4x4096x1024, .f32⟩
  | .hbm, ⟨63, _⟩ => ⟨S4x4096x1024, .f32⟩
  | .hbm, ⟨64, _⟩ => ⟨S4x4096x1024, .f32⟩
  | .hbm, ⟨65, _⟩ => ⟨S_, .f32⟩
  | .hbm, ⟨66, _⟩ => ⟨S4x4096, .f32⟩
  | .hbm, ⟨67, _⟩ => ⟨S4x4096x1, .f32⟩
  | .hbm, ⟨68, _⟩ => ⟨S_, .f32⟩
  | .hbm, ⟨69, _⟩ => ⟨S4x4096x1, .f32⟩
  | .hbm, ⟨70, _⟩ => ⟨S4x4096x1, .f32⟩
  | .hbm, ⟨71, _⟩ => ⟨S4x4096x1024, .f32⟩
  | .hbm, ⟨72, _⟩ => ⟨S4x4096x1024, .f32⟩
  | .hbm, ⟨73, _⟩ => ⟨S_, .f32⟩
  | .hbm, ⟨74, _⟩ => ⟨S4x4096x1, .f32⟩
  | .hbm, ⟨75, _⟩ => ⟨S4x4096x1, .f32⟩
  | .hbm, ⟨76, _⟩ => ⟨S4x4096x1, .f32⟩
  | .hbm, ⟨77, _⟩ => ⟨S4x4096x1024, .f32⟩
  | .hbm, ⟨78, _⟩ => ⟨S4x4096x1024, .f32⟩
  | .hbm, ⟨79, _⟩ => ⟨S1x1x1024, .f32⟩
  | .hbm, ⟨80, _⟩ => ⟨S4x4096x1024, .f32⟩
  | .hbm, ⟨81, _⟩ => ⟨S4x4096x1024, .f32⟩
  | .hbm, ⟨82, _⟩ => ⟨S1x1x1024, .f32⟩
  | .hbm, ⟨83, _⟩ => ⟨S4x4096x1024, .f32⟩
  | .hbm, ⟨84, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]
-- ==== Kernel4.lean ====
abbrev S4x4096x256 : Shape := ⟨3, ![4, 4096, 256]⟩
abbrev S4x256x2304 : Shape := ⟨3, ![4, 256, 2304]⟩
abbrev S4 : Shape := ⟨1, ![4]⟩
abbrev S1x256x256 : Shape := ⟨3, ![1, 256, 256]⟩
abbrev S1x128x256 : Shape := ⟨3, ![1, 128, 256]⟩
abbrev S1x256x128 : Shape := ⟨3, ![1, 256, 128]⟩
abbrev S256x256 : Shape := ⟨2, ![256, 256]⟩
abbrev S128x256 : Shape := ⟨2, ![128, 256]⟩
abbrev S512x256 : Shape := ⟨2, ![512, 256]⟩
abbrev S256x128 : Shape := ⟨2, ![256, 128]⟩
abbrev S512x512 : Shape := ⟨2, ![512, 512]⟩
abbrev S256x64 : Shape := ⟨2, ![256, 64]⟩
abbrev S512x64 : Shape := ⟨2, ![512, 64]⟩
abbrev S512x1 : Shape := ⟨2, ![512, 1]⟩
abbrev S1 : Shape := ⟨1, ![1]⟩
abbrev S512 : Shape := ⟨1, ![512]⟩

abbrev nBuf : Space → Nat
  | .hbm => 5
  | .vmem => 16
  | .smem => 1
  | _ => 0

abbrev bufTy : (tb : Table) → Fin (tcTables nBuf tb) → BufTy
  | .hbm, ⟨0, _⟩ => ⟨S4x4096x256, .bf16⟩
  | .hbm, ⟨1, _⟩ => ⟨S4x4096x256, .bf16⟩
  | .hbm, ⟨2, _⟩ => ⟨S4x256x2304, .bf16⟩
  | .hbm, ⟨3, _⟩ => ⟨S4, .f32⟩
  | .hbm, ⟨4, _⟩ => ⟨S4x4096x256, .f32⟩
  | .local _ .vmem, ⟨0, _⟩ => ⟨S1x256x256, .bf16⟩
  | .local _ .vmem, ⟨1, _⟩ => ⟨S1x256x256, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x256x128, .bf16⟩
  | .local _ .vmem, ⟨11, _⟩ => ⟨S1x256x128, .bf16⟩
  | .local _ .vmem, ⟨12, _⟩ => ⟨S1x256x128, .bf16⟩
  | .local _ .vmem, ⟨13, _⟩ => ⟨S1x256x128, .bf16⟩
  | .local _ .vmem, ⟨14, _⟩ => ⟨S1x256x256, .f32⟩
  | .local _ .vmem, ⟨15, _⟩ => ⟨S1x256x256, .f32⟩
  | .local _ .smem, ⟨0, _⟩ => ⟨S4, .f32⟩
  | _, _ => ⟨S4x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.addi v1 c0_i32
  let c0_i32_0 : BitVec 32 := 0#32
  let c31_i32 : BitVec 32 := 31#32
  let v3 : BitVec 32 := Scalar.maxsi c0_i32_0 v2
  let v4 : BitVec 32 := Scalar.minsi c31_i32 v3
  let c0_i32_1 : BitVec 32 := 0#32
  let c0_i32_2 : BitVec 32 := 0#32
  ![arg0.toNat, v4.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c1_i32_0 : BitVec 32 := 1#32
  let v2 : BitVec 32 := Scalar.addi v1 c1_i32_0
  let c0_i32 : BitVec 32 := 0#32
  let c31_i32 : BitVec 32 := 31#32
  let v3 : BitVec 32 := Scalar.maxsi c0_i32 v2
  let v4 : BitVec 32 := Scalar.minsi c31_i32 v3
  let c0_i32_1 : BitVec 32 := 0#32
  let c0_i32_2 : BitVec 32 := 0#32
  ![arg0.toNat, v4.toNat, c0_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c2_i32_0 : BitVec 32 := 2#32
  let v2 : BitVec 32 := Scalar.addi v1 c2_i32_0
  let c0_i32 : BitVec 32 := 0#32
  let c31_i32 : BitVec 32 := 31#32
  let v3 : BitVec 32 := Scalar.maxsi c0_i32 v2
  let v4 : BitVec 32 := Scalar.minsi c31_i32 v3
  let c0_i32_1 : BitVec 32 := 0#32
  let c0_i32_2 : BitVec 32 := 0#32
  ![arg0.toNat, v4.toNat, c0_i32_1.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c3_i32 : BitVec 32 := 3#32
  let v2 : BitVec 32 := Scalar.addi v1 c3_i32
  let c0_i32 : BitVec 32 := 0#32
  let c31_i32 : BitVec 32 := 31#32
  let v3 : BitVec 32 := Scalar.maxsi c0_i32 v2
  let v4 : BitVec 32 := Scalar.minsi c31_i32 v3
  let c0_i32_0 : BitVec 32 := 0#32
  let c0_i32_1 : BitVec 32 := 0#32
  ![arg0.toNat, v4.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c16_i32 : BitVec 32 := 16#32
  let c0_i32_0 : BitVec 32 := 0#32
  ![arg0.toNat, c0_i32.toNat, c16_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c17_i32 : BitVec 32 := 17#32
  let c0_i32_0 : BitVec 32 := 0#32
  ![arg0.toNat, c0_i32.toNat, c17_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .smem S4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel4Ideal.lean ====
variable {F : FTy → Type} [FloatOps F] [Named F]
def κ : String → Option EReal := fun
  | "mask" => some ⊥
  | _ => none
-- ==== Reference4Ideal.lean ====
abbrev S4x4096x256 : Shape := ⟨3, ![4, 4096, 256]⟩
abbrev S4x256x2304 : Shape := ⟨3, ![4, 256, 2304]⟩
abbrev S4 : Shape := ⟨1, ![4]⟩
abbrev S4x4096x4x64 : Shape := ⟨4, ![4, 4096, 4, 64]⟩
abbrev S4x256x256 : Shape := ⟨3, ![4, 256, 256]⟩
abbrev S4x4096x128 : Shape := ⟨3, ![4, 4096, 128]⟩
abbrev S4x4096x2x64 : Shape := ⟨4, ![4, 4096, 2, 64]⟩
abbrev S4x4096x2x2x64 : Shape := ⟨5, ![4, 4096, 2, 2, 64]⟩
abbrev S4x256x128 : Shape := ⟨3, ![4, 256, 128]⟩
abbrev S4x256x2x64 : Shape := ⟨4, ![4, 256, 2, 64]⟩
abbrev S4x256x2x2x64 : Shape := ⟨5, ![4, 256, 2, 2, 64]⟩
abbrev S4x256x4x64 : Shape := ⟨4, ![4, 256, 4, 64]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S4x4x4096x4096 : Shape := ⟨4, ![4, 4, 4096, 4096]⟩
abbrev S4x4x4096x256 : Shape := ⟨4, ![4, 4, 4096, 256]⟩
abbrev S1x4x1x1 : Shape := ⟨4, ![1, 4, 1, 1]⟩
abbrev S4x4x4096x1 : Shape := ⟨4, ![4, 4, 4096, 1]⟩
abbrev S4x4x4096x4353 : Shape := ⟨4, ![4, 4, 4096, 4353]⟩
abbrev S4x4x4096 : Shape := ⟨3, ![4, 4, 4096]⟩
abbrev S4x4x4096x64 : Shape := ⟨4, ![4, 4, 4096, 64]⟩

abbrev nBuf : Space → Nat
  | .hbm => 63
  | .vmem => 0
  | .smem => 0
  | _ => 0

abbrev bufTy : (tb : Table) → Fin (tcTables nBuf tb) → BufTy
  | .hbm, ⟨0, _⟩ => ⟨S4x4096x256, .bf16⟩
  | .hbm, ⟨1, _⟩ => ⟨S4x4096x256, .bf16⟩
  | .hbm, ⟨2, _⟩ => ⟨S4x256x2304, .bf16⟩
  | .hbm, ⟨3, _⟩ => ⟨S4, .f32⟩
  | .hbm, ⟨4, _⟩ => ⟨S4x4096x256, .f32⟩
  | .hbm, ⟨5, _⟩ => ⟨S4x4096x4x64, .f32⟩
  | .hbm, ⟨6, _⟩ => ⟨S4x4096x256, .f32⟩
  | .hbm, ⟨7, _⟩ => ⟨S4x256x2304, .f32⟩
  | .hbm, ⟨8, _⟩ => ⟨S4x256x256, .f32⟩
  | .hbm, ⟨9, _⟩ => ⟨S4x4096x128, .f32⟩
  | .hbm, ⟨10, _⟩ => ⟨S4x4096x2x64, .f32⟩
  | .hbm, ⟨11, _⟩ => ⟨S4x4096x2x2x64, .f32⟩
  | .hbm, ⟨12, _⟩ => ⟨S4x4096x4x64, .f32⟩
  | .hbm, ⟨13, _⟩ => ⟨S4x4096x128, .f32⟩
  | .hbm, ⟨14, _⟩ => ⟨S4x4096x2x64, .f32⟩
  | .hbm, ⟨15, _⟩ => ⟨S4x4096x2x2x64, .f32⟩
  | .hbm, ⟨16, _⟩ => ⟨S4x4096x4x64, .f32⟩
  | .hbm, ⟨17, _⟩ => ⟨S4x256x128, .f32⟩
  | .hbm, ⟨18, _⟩ => ⟨S4x256x2x64, .f32⟩
  | .hbm, ⟨19, _⟩ => ⟨S4x256x2x2x64, .f32⟩
  | .hbm, ⟨20, _⟩ => ⟨S4x256x4x64, .f32⟩
  | .hbm, ⟨21, _⟩ => ⟨S4x256x128, .f32⟩
  | .hbm, ⟨22, _⟩ => ⟨S4x256x2x64, .f32⟩
  | .hbm, ⟨23, _⟩ => ⟨S4x256x2x2x64, .f32⟩
  | .hbm, ⟨24, _⟩ => ⟨S4x256x4x64, .f32⟩
  | .hbm, ⟨25, _⟩ => ⟨S4096, .i32⟩
  | .hbm, ⟨26, _⟩ => ⟨S1x4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i32⟩
  | .hbm, ⟨31, _⟩ => ⟨S4096x4096, .i32⟩
  | .hbm, ⟨32, _⟩ => ⟨S_, .i32⟩
  | .hbm, ⟨33, _⟩ => ⟨S4096x4096, .i32⟩
  | .hbm, ⟨34, _⟩ => ⟨S4096x4096, .i1⟩
  | .hbm, ⟨35, _⟩ => ⟨S4x4x4096x4096, .f32⟩
  | .hbm, ⟨36, _⟩ => ⟨S_, .f32⟩
  | .hbm, ⟨37, _⟩ => ⟨S_, .f32⟩
  | .hbm, ⟨38, _⟩ => ⟨S4x4x4096x4096, .i1⟩
  | .hbm, ⟨39, _⟩ => ⟨S4x4x4096x4096, .f32⟩
  | .hbm, ⟨40, _⟩ => ⟨S4x4x4096x4096, .f32⟩
  | .hbm, ⟨41, _⟩ => ⟨S4x4x4096x256, .f32⟩
  | .hbm, ⟨42, _⟩ => ⟨S1x4x1x1, .f32⟩
  | .hbm, ⟨43, _⟩ => ⟨S4x4x4096x1, .f32⟩
  | .hbm, ⟨44, _⟩ => ⟨S4x4x4096x4353, .f32⟩
  | .hbm, ⟨45, _⟩ => ⟨S_, .f32⟩
  | .hbm, ⟨46, _⟩ => ⟨S4x4x4096, .f32⟩
  | .hbm, ⟨47, _⟩ => ⟨S4x4x4096x1, .f32⟩
  | .hbm, ⟨48, _⟩ => ⟨S4x4x4096x4353, .f32⟩
  | .hbm, ⟨49, _⟩ => ⟨S4x4x4096x4353, .f32⟩
  | .hbm, ⟨50, _⟩ => ⟨S4x4x4096x4353, .f32⟩
  | .hbm, ⟨51, _⟩ => ⟨S4x4x4096x4096, .f32⟩
  | .hbm, ⟨52, _⟩ => ⟨S4x4x4096x64, .f32⟩
  | .hbm, ⟨53, _⟩ => ⟨S4x4x4096x256, .f32⟩
  | .hbm, ⟨54, _⟩ => ⟨S4x4x4096x64, .f32⟩
  | .hbm, ⟨55, _⟩ => ⟨S4x4x4096x64, .f32⟩
  | .hbm, ⟨56, _⟩ => ⟨S_, .f32⟩
  | .hbm, ⟨57, _⟩ => ⟨S4x4x4096, .f32⟩
  | .hbm, ⟨58, _⟩ => ⟨S4x4x4096x1, .f32⟩
  | .hbm, ⟨59, _⟩ => ⟨S4x4x4096x64, .f32⟩
  | .hbm, ⟨60, _⟩ => ⟨S4x4x4096x64, .f32⟩
  | .hbm, ⟨61, _⟩ => ⟨S4x4096x4x64, .f32⟩
  | .hbm, ⟨62, _⟩ => ⟨S4x4096x256, .f32⟩
  | _, _ => ⟨S4x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_c : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_0 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_1 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩

abbrev nD : Nat := 1
abbrev τ : Topo := Topo.v7x

variable {F : FTy → Type} [FloatOps F]
-- ==== Kernel5.lean ====
abbrev S4x256x1024 : Shape := ⟨3, ![4, 256, 1024]⟩
abbrev S1x1x1024 : Shape := ⟨3, ![1, 1, 1024]⟩
abbrev S1024x4096 : Shape := ⟨2, ![1024, 4096]⟩
abbrev S4096x1024 : Shape := ⟨2, ![4096, 1024]⟩
abbrev S1024 : Shape := ⟨1, ![1024]⟩
abbrev S1x1024 : Shape := ⟨2, ![1, 1024]⟩
abbrev S1x1024x1024 : Shape := ⟨3, ![1, 1024, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 15
  | .vmem => 9
  | .smem => 0
  | _ => 0

abbrev bufTy : (tb : Table) → Fin (tcTables nBuf tb) → BufTy
  | .hbm, ⟨0, _⟩ => ⟨S4x256x1024, .f32⟩
  | .hbm, ⟨1, _⟩ => ⟨S1x1x1024, .f32⟩
  | .hbm, ⟨2, _⟩ => ⟨S1x1x1024, .f32⟩
  | .hbm, ⟨3, _⟩ => ⟨S1x1x1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S1024, .f32⟩
  | .hbm, ⟨8, _⟩ => ⟨S1024x4096, .bf16⟩
  | .hbm, ⟨9, _⟩ => ⟨S4096x1024, .bf16⟩
  | .hbm, ⟨10, _⟩ => ⟨S1x1024, .f32⟩
  | .hbm, ⟨11, _⟩ => ⟨S1x1024, .f32⟩
  | .hbm, ⟨12, _⟩ => ⟨S1x1024x1024, .f32⟩
  | .hbm, ⟨13, _⟩ => ⟨S1x1024x1024, .f32⟩
  | .hbm, ⟨14, _⟩ => ⟨S4x256x1024, .f32⟩
  | .local _ .vmem, ⟨0, _⟩ => ⟨S1x1024x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1024x4096, .bf16⟩
  | .local _ .vmem, ⟨5, _⟩ => ⟨S4096x1024, .bf16⟩
  | .local _ .vmem, ⟨6, _⟩ => ⟨S1x1024, .f32⟩
  | .local _ .vmem, ⟨7, _⟩ => ⟨S1x1024, .f32⟩
  | .local _ .vmem, ⟨8, _⟩ => ⟨S1x1024x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== Reference5Ideal.lean ====
abbrev S4x256x1024 : Shape := ⟨3, ![4, 256, 1024]⟩
abbrev S1x1x1024 : Shape := ⟨3, ![1, 1, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S4x256x4096 : Shape := ⟨3, ![4, 256, 4096]⟩

abbrev nBuf : Space → Nat
  | .hbm => 79
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1x1x1024, .f32⟩
  | .hbm, ⟨2, _⟩ => ⟨S1x1x1024, .f32⟩
  | .hbm, ⟨3, _⟩ => ⟨S1x1x1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S4x256, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1024, .f32⟩
  | .hbm, ⟨15, _⟩ => ⟨S4x256x1024, .f32⟩
  | .hbm, ⟨16, _⟩ => ⟨S4x256x1024, .f32⟩
  | .hbm, ⟨17, _⟩ => ⟨S_, .f32⟩
  | .hbm, ⟨18, _⟩ => ⟨S4x256, .f32⟩
  | .hbm, ⟨19, _⟩ => ⟨S4x256x1, .f32⟩
  | .hbm, ⟨20, _⟩ => ⟨S_, .f32⟩
  | .hbm, ⟨21, _⟩ => ⟨S4x256x1, .f32⟩
  | .hbm, ⟨22, _⟩ => ⟨S4x256x1, .f32⟩
  | .hbm, ⟨23, _⟩ => ⟨S4x256x1024, .f32⟩
  | .hbm, ⟨24, _⟩ => ⟨S4x256x1024, .f32⟩
  | .hbm, ⟨25, _⟩ => ⟨S_, .f32⟩
  | .hbm, ⟨26, _⟩ => ⟨S4x256x1, .f32⟩
  | .hbm, ⟨27, _⟩ => ⟨S4x256x1, .f32⟩
  | .hbm, ⟨28, _⟩ => ⟨S4x256x1, .f32⟩
  | .hbm, ⟨29, _⟩ => ⟨S4x256x1024, .f32⟩
  | .hbm, ⟨30, _⟩ => ⟨S4x256x1024, .f32⟩
  | .hbm, ⟨31, _⟩ => ⟨S_, .f32⟩
  | .hbm, ⟨32, _⟩ => ⟨S1x1x1024, .f32⟩
  | .hbm, ⟨33, _⟩ => ⟨S1x1x1024, .f32⟩
  | .hbm, ⟨34, _⟩ => ⟨S4x256x1024, .f32⟩
  | .hbm, ⟨35, _⟩ => ⟨S4x256x1024, .f32⟩
  | .hbm, ⟨36, _⟩ => ⟨S4x256x1024, .f32⟩
  | .hbm, ⟨37, _⟩ => ⟨S4x256x1024, .f32⟩
  | .hbm, ⟨38, _⟩ => ⟨S4x256x4096, .f32⟩
  | .hbm, ⟨39, _⟩ => ⟨S_, .f32⟩
  | .hbm, ⟨40, _⟩ => ⟨S4x256x4096, .f32⟩
  | .hbm, ⟨41, _⟩ => ⟨S4x256x4096, .f32⟩
  | .hbm, ⟨42, _⟩ => ⟨S4x256x4096, .f32⟩
  | .hbm, ⟨43, _⟩ => ⟨S4x256x1024, .f32⟩
  | .hbm, ⟨44, _⟩ => ⟨S_, .f32⟩
  | .hbm, ⟨45, _⟩ => ⟨S4x256x1024, .f32⟩
  | .hbm, ⟨46, _⟩ => ⟨S4x256x1024, .f32⟩
  | .hbm, ⟨47, _⟩ => ⟨S4x256x1024, .f32⟩
  | .hbm, ⟨48, _⟩ => ⟨S4x256x1024, .f32⟩
  | .hbm, ⟨49, _⟩ => ⟨S4x256x1024, .f32⟩
  | .hbm, ⟨50, _⟩ => ⟨S_, .f32⟩
  | .hbm, ⟨51, _⟩ => ⟨S4x256, .f32⟩
  | .hbm, ⟨52, _⟩ => ⟨S4x256x1, .f32⟩
  | .hbm, ⟨53, _⟩ => ⟨S_, .f32⟩
  | .hbm, ⟨54, _⟩ => ⟨S4x256x1, .f32⟩
  | .hbm, ⟨55, _⟩ => ⟨S4x256x1, .f32⟩
  | .hbm, ⟨56, _⟩ => ⟨S4x256x1024, .f32⟩
  | .hbm, ⟨57, _⟩ => ⟨S4x256x1024, .f32⟩
  | .hbm, ⟨58, _⟩ => ⟨S4x256x1024, .f32⟩
  | .hbm, ⟨59, _⟩ => ⟨S_, .f32⟩
  | .hbm, ⟨60, _⟩ => ⟨S4x256, .f32⟩
  | .hbm, ⟨61, _⟩ => ⟨S4x256x1, .f32⟩
  | .hbm, ⟨62, _⟩ => ⟨S_, .f32⟩
  | .hbm, ⟨63, _⟩ => ⟨S4x256x1, .f32⟩
  | .hbm, ⟨64, _⟩ => ⟨S4x256x1, .f32⟩
  | .hbm, ⟨65, _⟩ => ⟨S4x256x1024, .f32⟩
  | .hbm, ⟨66, _⟩ => ⟨S4x256x1024, .f32⟩
  | .hbm, ⟨67, _⟩ => ⟨S_, .f32⟩
  | .hbm, ⟨68, _⟩ => ⟨S4x256x1, .f32⟩
  | .hbm, ⟨69, _⟩ => ⟨S4x256x1, .f32⟩
  | .hbm, ⟨70, _⟩ => ⟨S4x256x1, .f32⟩
  | .hbm, ⟨71, _⟩ => ⟨S4x256x1024, .f32⟩
  | .hbm, ⟨72, _⟩ => ⟨S4x256x1024, .f32⟩
  | .hbm, ⟨73, _⟩ => ⟨S1x1x1024, .f32⟩
  | .hbm, ⟨74, _⟩ => ⟨S4x256x1024, .f32⟩
  | .hbm, ⟨75, _⟩ => ⟨S4x256x1024, .f32⟩
  | .hbm, ⟨76, _⟩ => ⟨S1x1x1024, .f32⟩
  | .hbm, ⟨77, _⟩ => ⟨S4x256x1024, .f32⟩
  | .hbm, ⟨78, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_cst : Ref sig .tc := ⟨.hbm, 39, rfl⟩
abbrev main_call0_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Kernel6.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S8x1024 : Shape := ⟨2, ![8, 1024]⟩
abbrev S1 : Shape := ⟨1, ![1]⟩
abbrev S2x1x6144 : Shape := ⟨3, ![2, 1, 6144]⟩
abbrev S2x8x6144 : Shape := ⟨3, ![2, 8, 6144]⟩
abbrev S1x1024x512 : Shape := ⟨3, ![1, 1024, 512]⟩
abbrev S1x1x512 : Shape := ⟨3, ![1, 1, 512]⟩
abbrev S1x8x512 : Shape := ⟨3, ![1, 8, 512]⟩
abbrev S1024x512 : Shape := ⟨2, ![1024, 512]⟩
abbrev S8x512 : Shape := ⟨2, ![8, 512]⟩
abbrev S1x512 : Shape := ⟨2, ![1, 512]⟩
abbrev S1x4x6144 : Shape := ⟨3, ![1, 4, 6144]⟩
abbrev S4x6144 : Shape := ⟨2, ![4, 6144]⟩
abbrev S4x1x6x1024 : Shape := ⟨4, ![4, 1, 6, 1024]⟩
abbrev S1x1x6144 : Shape := ⟨3, ![1, 1, 6144]⟩
abbrev S6144 : Shape := ⟨1, ![6144]⟩
abbrev S1x1x6x1024 : Shape := ⟨4, ![1, 1, 6, 1024]⟩

abbrev nBuf : Space → Nat
  | .hbm => 26
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S_, .f32⟩
  | .hbm, ⟨5, _⟩ => ⟨S8x1024, .f32⟩
  | .hbm, ⟨6, _⟩ => ⟨S_, .i32⟩
  | .hbm, ⟨7, _⟩ => ⟨S1, .i32⟩
  | .hbm, ⟨8, _⟩ => ⟨S8x1024, .f32⟩
  | .hbm, ⟨9, _⟩ => ⟨S_, .i32⟩
  | .hbm, ⟨10, _⟩ => ⟨S1, .i32⟩
  | .hbm, ⟨11, _⟩ => ⟨S8x1024, .f32⟩
  | .hbm, ⟨12, _⟩ => ⟨S2x1x6144, .f32⟩
  | .hbm, ⟨13, _⟩ => ⟨S2x8x6144, .f32⟩
  | .hbm, ⟨14, _⟩ => ⟨S1x4x6144, .f32⟩
  | .hbm, ⟨15, _⟩ => ⟨S4x6144, .f32⟩
  | .hbm, ⟨16, _⟩ => ⟨S4x1x6x1024, .f32⟩
  | .hbm, ⟨17, _⟩ => ⟨S1x1x6144, .f32⟩
  | .hbm, ⟨18, _⟩ => ⟨S6144, .f32⟩
  | .hbm, ⟨19, _⟩ => ⟨S1x1x6x1024, .f32⟩
  | .hbm, ⟨20, _⟩ => ⟨S1x4x6144, .f32⟩
  | .hbm, ⟨21, _⟩ => ⟨S4x6144, .f32⟩
  | .hbm, ⟨22, _⟩ => ⟨S4x1x6x1024, .f32⟩
  | .hbm, ⟨23, _⟩ => ⟨S1x1x6144, .f32⟩
  | .hbm, ⟨24, _⟩ => ⟨S6144, .f32⟩
  | .hbm, ⟨25, _⟩ => ⟨S1x1x6x1024, .f32⟩
  | .local _ .vmem, ⟨0, _⟩ => ⟨S8x1024, .f32⟩
  | .local _ .vmem, ⟨1, _⟩ => ⟨S1x1024x512, .f32⟩
  | .local _ .vmem, ⟨2, _⟩ => ⟨S1x1024x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S4x6144 : Shape := ⟨2, ![4, 6144]⟩
abbrev S1x6144 : Shape := ⟨2, ![1, 6144]⟩
abbrev S6144 : Shape := ⟨1, ![6144]⟩
abbrev S4x1x6144 : Shape := ⟨3, ![4, 1, 6144]⟩
abbrev S1x1x6144 : Shape := ⟨3, ![1, 1, 6144]⟩
abbrev S4x1x6x1024 : Shape := ⟨4, ![4, 1, 6, 1024]⟩
abbrev S1x1x6x1024 : Shape := ⟨4, ![1, 1, 6, 1024]⟩

abbrev nBuf : Space → Nat
  | .hbm => 76
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S4x1024, .f32⟩
  | .hbm, ⟨5, _⟩ => ⟨S4x1024, .f32⟩
  | .hbm, ⟨6, _⟩ => ⟨S_, .f32⟩
  | .hbm, ⟨7, _⟩ => ⟨S4x1024, .f32⟩
  | .hbm, ⟨8, _⟩ => ⟨S4x1024, .f32⟩
  | .hbm, ⟨9, _⟩ => ⟨S_, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S1x1024x6144, .f32⟩
  | .hbm, ⟨14, _⟩ => ⟨S1024x6144, .f32⟩
  | .hbm, ⟨15, _⟩ => ⟨S4x6144, .f32⟩
  | .hbm, ⟨16, _⟩ => ⟨S1x6144, .f32⟩
  | .hbm, ⟨17, _⟩ => ⟨S6144, .f32⟩
  | .hbm, ⟨18, _⟩ => ⟨S1x6144, .f32⟩
  | .hbm, ⟨19, _⟩ => ⟨S4x6144, .f32⟩
  | .hbm, ⟨20, _⟩ => ⟨S4x6144, .f32⟩
  | .hbm, ⟨21, _⟩ => ⟨S4x1x6144, .f32⟩
  | .hbm, ⟨22, _⟩ => ⟨S1024, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1024, .f32⟩
  | .hbm, ⟨31, _⟩ => ⟨S1x1024x6144, .f32⟩
  | .hbm, ⟨32, _⟩ => ⟨S1024x6144, .f32⟩
  | .hbm, ⟨33, _⟩ => ⟨S6144, .f32⟩
  | .hbm, ⟨34, _⟩ => ⟨S1x6144, .f32⟩
  | .hbm, ⟨35, _⟩ => ⟨S6144, .f32⟩
  | .hbm, ⟨36, _⟩ => ⟨S6144, .f32⟩
  | .hbm, ⟨37, _⟩ => ⟨S1x1x6144, .f32⟩
  | .hbm, ⟨38, _⟩ => ⟨S4x1x6x1024, .f32⟩
  | .hbm, ⟨39, _⟩ => ⟨S1x1x6x1024, .f32⟩
  | .hbm, ⟨40, _⟩ => ⟨S4x1024, .f32⟩
  | .hbm, ⟨41, _⟩ => ⟨S4x1024, .f32⟩
  | .hbm, ⟨42, _⟩ => ⟨S_, .f32⟩
  | .hbm, ⟨43, _⟩ => ⟨S4x1024, .f32⟩
  | .hbm, ⟨44, _⟩ => ⟨S4x1024, .f32⟩
  | .hbm, ⟨45, _⟩ => ⟨S_, .f32⟩
  | .hbm, ⟨46, _⟩ => ⟨S4x1024, .f32⟩
  | .hbm, ⟨47, _⟩ => ⟨S4x1024, .f32⟩
  | .hbm, ⟨48, _⟩ => ⟨S4x1024, .f32⟩
  | .hbm, ⟨49, _⟩ => ⟨S1x1024x6144, .f32⟩
  | .hbm, ⟨50, _⟩ => ⟨S1024x6144, .f32⟩
  | .hbm, ⟨51, _⟩ => ⟨S4x6144, .f32⟩
  | .hbm, ⟨52, _⟩ => ⟨S1x6144, .f32⟩
  | .hbm, ⟨53, _⟩ => ⟨S6144, .f32⟩
  | .hbm, ⟨54, _⟩ => ⟨S1x6144, .f32⟩
  | .hbm, ⟨55, _⟩ => ⟨S4x6144, .f32⟩
  | .hbm, ⟨56, _⟩ => ⟨S4x6144, .f32⟩
  | .hbm, ⟨57, _⟩ => ⟨S4x1x6144, .f32⟩
  | .hbm, ⟨58, _⟩ => ⟨S1024, .f32⟩
  | .hbm, ⟨59, _⟩ => ⟨S1024, .f32⟩
  | .hbm, ⟨60, _⟩ => ⟨S_, .f32⟩
  | .hbm, ⟨61, _⟩ => ⟨S1024, .f32⟩
  | .hbm, ⟨62, _⟩ => ⟨S1024, .f32⟩
  | .hbm, ⟨63, _⟩ => ⟨S_, .f32⟩
  | .hbm, ⟨64, _⟩ => ⟨S1024, .f32⟩
  | .hbm, ⟨65, _⟩ => ⟨S1024, .f32⟩
  | .hbm, ⟨66, _⟩ => ⟨S1024, .f32⟩
  | .hbm, ⟨67, _⟩ => ⟨S1x1024x6144, .f32⟩
  | .hbm, ⟨68, _⟩ => ⟨S1024x6144, .f32⟩
  | .hbm, ⟨69, _⟩ => ⟨S6144, .f32⟩
  | .hbm, ⟨70, _⟩ => ⟨S1x6144, .f32⟩
  | .hbm, ⟨71, _⟩ => ⟨S6144, .f32⟩
  | .hbm, ⟨72, _⟩ => ⟨S6144, .f32⟩
  | .hbm, ⟨73, _⟩ => ⟨S1x1x6144, .f32⟩
  | .hbm, ⟨74, _⟩ => ⟨S4x1x6x1024, .f32⟩
  | .hbm, ⟨75, _⟩ => ⟨S1x1x6x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_call2_v0 : Ref sig .tc := ⟨.hbm, 40, rfl⟩
abbrev main_call2_v1 : Ref sig .tc := ⟨.hbm, 41, rfl⟩
abbrev main_call2_cst : Ref sig .tc := ⟨.hbm, 42, rfl⟩
abbrev main_call2_v2 : Ref sig .tc := ⟨.hbm, 43, rfl⟩
abbrev main_call2_v3 : Ref sig .tc := ⟨.hbm, 44, rfl⟩
abbrev main_call2_cst_0 : Ref sig .tc := ⟨.hbm, 45, rfl⟩
abbrev main_call2_v4 : Ref sig .tc := ⟨.hbm, 46, rfl⟩
abbrev main_call2_v5 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_call3_v0 : Ref sig .tc := ⟨.hbm, 58, rfl⟩
abbrev main_call3_v1 : Ref sig .tc := ⟨.hbm, 59, rfl⟩
abbrev main_call3_cst : Ref sig .tc := ⟨.hbm, 60, rfl⟩
abbrev main_call3_v2 : Ref sig .tc := ⟨.hbm, 61, rfl⟩
abbrev main_call3_v3 : Ref sig .tc := ⟨.hbm, 62, rfl⟩
abbrev main_call3_cst_0 : Ref sig .tc := ⟨.hbm, 63, rfl⟩
abbrev main_call3_v4 : Ref sig .tc := ⟨.hbm, 64, rfl⟩
abbrev main_call3_v5 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩

abbrev nD : Nat := 1
abbrev τ : Topo := Topo.v7x

variable {F : FTy → Type} [FloatOps F]
-- ==== Proof.TA.lean ====
/- The body run at a first column step: it normalises and modulates the block of tokens, and multiplies it by the first
   half of the mixer columns. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

set_option maxHeartbeats 2000000 in
/-- The body where its first condition alone holds. Its three lists are the pieces that it writes into the mixer columns' block,
    the scratch for the first 256 columns, and the scratch for the normalised rows. -/
noncomputable def runA (c : Dev nD) (i : grid0.Coords) (arg3 : Memref sig .tc .vmem S1x1024x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x1152 .bf16) (harg6 : arg6.IsWhole) (arg7 : Memref sig .tc .vmem S1024x2048 .bf16) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1x1024x1152 .bf16) (harg10 : arg10.IsWhole) (arg11 : Memref sig .tc .vmem S1x128x2048 .bf16) (harg11 : arg11.IsWhole) (arg12 : Memref sig .tc .vmem S1x1024x2048 .bf16) (harg12 : arg12.IsWhole) (arg13 : Memref sig .tc .vmem S1x1024x256 .bf16) (harg13 : arg13.IsWhole) (arg14 : Memref sig .tc .vmem S1x1024x256 .bf16) (harg14 : arg14.IsWhole) (arg15 : Memref sig .tc .vmem S1024x512 .f32) (harg15 : arg15.IsWhole) (arg16 : Memref sig .tc .vmem S2x1024x128 .f32) (harg16 : arg16.IsWhole) (arg17 : Memref sig .tc .vmem S1024x1024 .bf16) (harg17 : arg17.IsWhole)
    (hc0 :  (k0_cond1 i = 1#1)) (hc1 : ¬ (k0_cond2 i = 1#1)) (hc2 : ¬ (k0_cond4 i = 1#1))
     (x0 : Vec F S1x1024x1024 .f32) (x1 : Vec F S1x1x1024 .f32) (x2 : Vec F S1x1x1024 .f32) (x3 : Vec F S1024x1152 .bf16) (x4 : Vec F S1024x2048 .bf16) (x5 : Vec F S1024x256 .f32) (x6 : Vec F S1024x256 .f32) (y8 : Vec F S1x128x2048 .bf16) (y9 : Vec F S1x1024x2048 .bf16) (y10 : Vec F S1x1024x256 .bf16) (y11 : Vec F S1x1024x256 .bf16) :
    Σ' (L10 : List (View.Piece (Elt F) S1x1024x1152 .bf16)) (L16 : List (View.Piece (Elt F) S2x1024x128 .f32)), { L17 : List (View.Piece (Elt F) S1024x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare y8 ∗ owns (c : Thread nD τ) arg12 fullShare y9 ∗ owns (c : Thread nD τ) arg13 fullShare y10 ∗ owns (c : Thread nD τ) arg14 fullShare y11 ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L10) ∗ owns (c : Thread nD τ) arg11 fullShare y8 ∗ owns (c : Thread nD τ) arg12 fullShare y9 ∗ owns (c : Thread nD τ) arg13 fullShare y10 ∗ owns (c : Thread nD τ) arg14 fullShare y11 ∗ (∃ d, owns (c : Thread nD τ) arg15 fullShare d) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17)) -∗ K ⟨⟩))
          ⊢ wp frame (wpE (defs₀ (F := F)) Variants.none c none) E (cc0_in_proj i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0_in_proj_eq_skeleton]; unfold cc0_in_proj_skel
    simp only [k0_part1_eq_skeleton, k0_part2_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg12.eq_unread hf12; obtain rfl := harg13.eq_unread hf13; obtain rfl := harg14.eq_unread hf14
    sl_exec (disch := first | sl_exact hc0 | sl_exact hc1 | sl_exact hc2)
    sl_step

    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _, _; isplitr; swap; · iexact H15
      ipureintro; rfl
    isplitl [H16]
    · iexists _; iexact H16
    iexists _; iexact H17

end Cert.KernelIdeal.Hand

end
-- ==== Proof.TB.lean ====
/- The body run at the second column step: it multiplies the kept rows by the second half of the mixer columns, and keeps
   the 512 last columns for the rotation. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

set_option maxHeartbeats 2000000 in
/-- The body where its second condition alone holds. Its lists are the pieces that it writes into the mixer columns' block and
    into the scratch that keeps the columns to rotate. -/
noncomputable def runB (c : Dev nD) (i : grid0.Coords) (arg3 : Memref sig .tc .vmem S1x1024x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x1152 .bf16) (harg6 : arg6.IsWhole) (arg7 : Memref sig .tc .vmem S1024x2048 .bf16) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1x1024x1152 .bf16) (harg10 : arg10.IsWhole) (arg11 : Memref sig .tc .vmem S1x128x2048 .bf16) (harg11 : arg11.IsWhole) (arg12 : Memref sig .tc .vmem S1x1024x2048 .bf16) (harg12 : arg12.IsWhole) (arg13 : Memref sig .tc .vmem S1x1024x256 .bf16) (harg13 : arg13.IsWhole) (arg14 : Memref sig .tc .vmem S1x1024x256 .bf16) (harg14 : arg14.IsWhole) (arg15 : Memref sig .tc .vmem S1024x512 .f32) (harg15 : arg15.IsWhole) (arg16 : Memref sig .tc .vmem S2x1024x128 .f32) (harg16 : arg16.IsWhole) (arg17 : Memref sig .tc .vmem S1024x1024 .bf16) (harg17 : arg17.IsWhole)
    (hc0 : ¬ (k0_cond1 i = 1#1)) (hc1 :  (k0_cond2 i = 1#1)) (hc2 : ¬ (k0_cond4 i = 1#1))
    (hc3 : (Scalar.cmpi .ne (Scalar.extui (Scalar.cmpi .eq (BitVec.ofNat 32 (i 2).val) 1#32)) 0#32) = 1#1) (x0 : Vec F S1x1024x1024 .f32) (x1 : Vec F S1x1x1024 .f32) (x2 : Vec F S1x1x1024 .f32) (x3 : Vec F S1024x1152 .bf16) (x4 : Vec F S1024x2048 .bf16) (x5 : Vec F S1024x256 .f32) (x6 : Vec F S1024x256 .f32) (y8 : Vec F S1x128x2048 .bf16) (y9 : Vec F S1x1024x2048 .bf16) (y10 : Vec F S1x1024x256 .bf16) (y11 : Vec F S1x1024x256 .bf16) (s1 : Vec F S2x1024x128 .f32) (s2 : Vec F S1024x1024 .bf16) :
    Σ' (L10 : List (View.Piece (Elt F) S1x1024x1152 .bf16)), { L15 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare y8 ∗ owns (c : Thread nD τ) arg12 fullShare y9 ∗ owns (c : Thread nD τ) arg13 fullShare y10 ∗ owns (c : Thread nD τ) arg14 fullShare y11 ∗ (∃ d, owns (c : Thread nD τ) arg15 fullShare d) ∗ owns (c : Thread nD τ) arg16 fullShare s1 ∗ owns (c : Thread nD τ) arg17 fullShare s2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L10) ∗ owns (c : Thread nD τ) arg11 fullShare y8 ∗ owns (c : Thread nD τ) arg12 fullShare y9 ∗ owns (c : Thread nD τ) arg13 fullShare y10 ∗ owns (c : Thread nD τ) arg14 fullShare y11 ∗ (∃ f, arg15.view.loc (c : Thread nD τ) ↦[arg15.view.set]{fullShare} arg15.view.writes (Elt F) f L15) ∗ owns (c : Thread nD τ) arg16 fullShare s1 ∗ owns (c : Thread nD τ) arg17 fullShare s2) -∗ K ⟨⟩))
          ⊢ wp frame (wpE (defs₀ (F := F)) Variants.none c none) E (cc0_in_proj i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc0_in_proj_eq_skeleton]; unfold cc0_in_proj_skel
    skip
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, ⟨%f14, %hf14, H14⟩, ⟨%d15, %f15, -, H15⟩, ⟨%f16, %hf16, H16⟩, ⟨%f17, %hf17, H17⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg12.eq_unread hf12; obtain rfl := harg13.eq_unread hf13; obtain rfl := harg14.eq_unread hf14; obtain rfl := harg16.eq_unread hf16; obtain rfl := harg17.eq_unread hf17
    sl_exec (disch := first | sl_exact hc0 | sl_exact hc1 | sl_exact hc2 | sl_exact hc3)
    sl_step

    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; iexact H15
    isplitl [H16]
    · iexists _; isplitr; · ipureintro; exact harg16.read_unread _
      iexact H16
    iexists _; isplitr; · ipureintro; exact harg17.read_unread _
    iexact H17

end Cert.KernelIdeal.Hand

end
-- ==== Proof.TC.lean ====
/- The body run at the two last column steps: it multiplies the kept rows by gate columns, takes the sigmoid, lays the first
   256 columns out by groups of eight tokens and rotates the kept query and key columns. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

set_option maxHeartbeats 2000000 in
/-- The body where its last condition alone holds. Its lists are the pieces that it writes into the grouped tokens' block, the
    gates' block and the two rotated blocks. -/
noncomputable def runC (c : Dev nD) (i : grid0.Coords) (arg3 : Memref sig .tc .vmem S1x1024x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x1152 .bf16) (harg6 : arg6.IsWhole) (arg7 : Memref sig .tc .vmem S1024x2048 .bf16) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1x1024x1152 .bf16) (harg10 : arg10.IsWhole) (arg11 : Memref sig .tc .vmem S1x128x2048 .bf16) (harg11 : arg11.IsWhole) (arg12 : Memref sig .tc .vmem S1x1024x2048 .bf16) (harg12 : arg12.IsWhole) (arg13 : Memref sig .tc .vmem S1x1024x256 .bf16) (harg13 : arg13.IsWhole) (arg14 : Memref sig .tc .vmem S1x1024x256 .bf16) (harg14 : arg14.IsWhole) (arg15 : Memref sig .tc .vmem S1024x512 .f32) (harg15 : arg15.IsWhole) (arg16 : Memref sig .tc .vmem S2x1024x128 .f32) (harg16 : arg16.IsWhole) (arg17 : Memref sig .tc .vmem S1024x1024 .bf16) (harg17 : arg17.IsWhole)
    (hc0 : ¬ (k0_cond1 i = 1#1)) (hc1 : ¬ (k0_cond2 i = 1#1)) (hc2 :  (k0_cond4 i = 1#1))
     (x0 : Vec F S1x1024x1024 .f32) (x1 : Vec F S1x1x1024 .f32) (x2 : Vec F S1x1x1024 .f32) (x3 : Vec F S1024x1152 .bf16) (x4 : Vec F S1024x2048 .bf16) (x5 : Vec F S1024x256 .f32) (x6 : Vec F S1024x256 .f32) (y7 : Vec F S1x1024x1152 .bf16) (s0 : Vec F S1024x512 .f32) (s1 : Vec F S2x1024x128 .f32) (s2 : Vec F S1024x1024 .bf16) :
    Σ' (L11 : List (View.Piece (Elt F) S1x128x2048 .bf16)) (L12 : List (View.Piece (Elt F) S1x1024x2048 .bf16)) (L13 : List (View.Piece (Elt F) S1x1024x256 .bf16)), { L14 : List (View.Piece (Elt F) S1x1024x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare s0 ∗ owns (c : Thread nD τ) arg16 fullShare s1 ∗ owns (c : Thread nD τ) arg17 fullShare s2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y7 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ owns (c : Thread nD τ) arg15 fullShare s0 ∗ owns (c : Thread nD τ) arg16 fullShare s1 ∗ owns (c : Thread nD τ) arg17 fullShare s2) -∗ K ⟨⟩))
          ⊢ wp frame (wpE (defs₀ (F := F)) Variants.none c none) E (cc0_in_proj i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun E K => ?run⟩
  case run =>
    simp only [cc0_in_proj_eq_skeleton]; unfold cc0_in_proj_skel
    simp only [k0_part3_eq_skeleton, k0_part4_eq_skeleton, k0_part5_eq_skeleton, k0_part6_eq_skeleton, k0_part7_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%f15, %hf15, H15⟩, ⟨%f16, %hf16, H16⟩, ⟨%f17, %hf17, H17⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg15.eq_unread hf15; obtain rfl := harg16.eq_unread hf16; obtain rfl := harg17.eq_unread hf17
    sl_exec (disch := first | sl_exact hc0 | sl_exact hc1 | sl_exact hc2)
    sl_step

    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    isplitl [H12]
    · iexists _; iexact H12
    isplitl [H13]
    · iexists _; iexact H13
    isplitl [H14]
    · iexists _; iexact H14
    isplitl [H15]
    · iexists _; isplitr; · ipureintro; exact harg15.read_unread _
      iexact H15
    isplitl [H16]
    · iexists _; isplitr; · ipureintro; exact harg16.read_unread _
      iexact H16
    iexists _; isplitr; · ipureintro; exact harg17.read_unread _
    iexact H17

end Cert.KernelIdeal.Hand

end
-- ==== Proof.At.lean ====
/- The body at one point of the grid, over any floats: which case the point is in, the buffers it runs on, and what a description of
   the buffers' contents has to say of it. -/
module

public import proofs.«01_k».proof.Proof.Gen.KernelIdeal.Launch
public import proofs.«01_k».proof.Proof.Gen.KernelIdeal.Points
public import proofs.«01_k».proof.Proof.Gen.KernelIdeal.Frame
public import proofs.«01_k».proof.Proof.TA
public import proofs.«01_k».proof.Proof.TB
public import proofs.«01_k».proof.Proof.TC
public import Idealize.ShloMosaic.Lib.Pipeline.FrameBody
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## Which case a point is in, and where windows are idle or written back -/

theorem first_iff : ∀ t : Fin cfg0.N, k0_cond1 (grid0.coords t) = 1#1 ↔ t.val % 4 = 0 := (by decide +kernel : ∀ t : Fin grid0.N, _)
theorem second_iff : ∀ t : Fin cfg0.N, k0_cond2 (grid0.coords t) = 1#1 ↔ t.val % 4 = 1 := (by decide +kernel : ∀ t : Fin grid0.N, _)
theorem late_iff : ∀ t : Fin cfg0.N, k0_cond4 (grid0.coords t) = 1#1 ↔ 2 ≤ t.val % 4 := (by decide +kernel : ∀ t : Fin grid0.N, _)
theorem tail_iff : ∀ t : Fin cfg0.N, (Scalar.cmpi .ne (Scalar.extui (Scalar.cmpi .eq (BitVec.ofNat 32 (grid0.coords t 2).val) 1#32)) 0#32) = 1#1 ↔ t.val % 4 = 1 :=
  (by decide +kernel : ∀ t : Fin grid0.N, _)

theorem idle_7 : ∀ t : Fin cfg0.N, cfg0.idle 7 (grid0.coords t) = decide (2 ≤ t.val % 4) := (by decide +kernel : ∀ t : Fin grid0.N, _)
theorem idle_8 : ∀ t : Fin cfg0.N, cfg0.idle 8 (grid0.coords t) = decide (t.val % 4 < 2) := (by decide +kernel : ∀ t : Fin grid0.N, _)
theorem idle_9 : ∀ t : Fin cfg0.N, cfg0.idle 9 (grid0.coords t) = decide (t.val % 4 < 2) := (by decide +kernel : ∀ t : Fin grid0.N, _)
theorem idle_10 : ∀ t : Fin cfg0.N, cfg0.idle 10 (grid0.coords t) = decide (t.val % 4 < 2) := (by decide +kernel : ∀ t : Fin grid0.N, _)
theorem idle_11 : ∀ t : Fin cfg0.N, cfg0.idle 11 (grid0.coords t) = decide (t.val % 4 < 2) := (by decide +kernel : ∀ t : Fin grid0.N, _)
theorem flush_7 : ∀ t : Fin cfg0.N, (cfg0.win 7).flush t = decide (t.val % 4 = 0 ∨ t.val % 4 = 3) := (by decide +kernel : ∀ t : Fin grid0.N, win0_7.flush t = _)
theorem flush_8 : ∀ t : Fin cfg0.N, (cfg0.win 8).flush t = decide (t.val % 4 = 3) := (by decide +kernel : ∀ t : Fin grid0.N, win0_8.flush t = _)
theorem flush_9 : ∀ t : Fin cfg0.N, (cfg0.win 9).flush t = decide (2 ≤ t.val % 4) := (by decide +kernel : ∀ t : Fin grid0.N, win0_9.flush t = _)
theorem flush_10 : ∀ t : Fin cfg0.N, (cfg0.win 10).flush t = decide (t.val % 4 = 3) := (by decide +kernel : ∀ t : Fin grid0.N, win0_10.flush t = _)
theorem flush_11 : ∀ t : Fin cfg0.N, (cfg0.win 11).flush t = decide (t.val % 4 = 3) := (by decide +kernel : ∀ t : Fin grid0.N, win0_11.flush t = _)

/-! ## The buffers a point runs on -/

abbrev ms0 (t : Fin cfg0.N) : Memref sig .tc .vmem S1x1024x1024 .f32 := win0_0.stage (cfg0.slots t 0)
abbrev ms1 (t : Fin cfg0.N) : Memref sig .tc .vmem S1x1x1024 .f32 := win0_1.stage (cfg0.slots t 1)
abbrev ms2 (t : Fin cfg0.N) : Memref sig .tc .vmem S1x1x1024 .f32 := win0_2.stage (cfg0.slots t 2)
abbrev ms3 (t : Fin cfg0.N) : Memref sig .tc .vmem S1024x1152 .bf16 := win0_3.stage (cfg0.slots t 3)
abbrev ms4 (t : Fin cfg0.N) : Memref sig .tc .vmem S1024x2048 .bf16 := win0_4.stage (cfg0.slots t 4)
abbrev ms5 (t : Fin cfg0.N) : Memref sig .tc .vmem S1024x256 .f32 := win0_5.stage (cfg0.slots t 5)
abbrev ms6 (t : Fin cfg0.N) : Memref sig .tc .vmem S1024x256 .f32 := win0_6.stage (cfg0.slots t 6)
abbrev ms7 (t : Fin cfg0.N) : Memref sig .tc .vmem S1x1024x1152 .bf16 := win0_7.stage (cfg0.slots t 7)
abbrev ms8 (t : Fin cfg0.N) : Memref sig .tc .vmem S1x128x2048 .bf16 := win0_8.stage (cfg0.slots t 8)
abbrev ms9 (t : Fin cfg0.N) : Memref sig .tc .vmem S1x1024x2048 .bf16 := win0_9.stage (cfg0.slots t 9)
abbrev ms10 (t : Fin cfg0.N) : Memref sig .tc .vmem S1x1024x256 .bf16 := win0_10.stage (cfg0.slots t 10)
abbrev ms11 (t : Fin cfg0.N) : Memref sig .tc .vmem S1x1024x256 .bf16 := win0_11.stage (cfg0.slots t 11)
/-- The three scratch buffers: the last columns unrounded, the raw columns, the normalised rows. -/
abbrev scTail : Memref sig .tc .vmem S1024x512 .f32 := Memref.whole cc0_scratch0
abbrev scTok : Memref sig .tc .vmem S2x1024x128 .f32 := Memref.whole cc0_scratch1
abbrev scH : Memref sig .tc .vmem S1024x1024 .bf16 := Memref.whole cc0_scratch2

/-! ## The three cases at a point -/

/-- The first point of a block of four. -/
abbrev atA (t : Fin cfg0.N) (h : t.val % 4 = 0) (y8 : Vec F S1x128x2048 .bf16) (y9 : Vec F S1x1024x2048 .bf16) (y10 : Vec F S1x1024x256 .bf16) (y11 : Vec F S1x1024x256 .bf16) :=
  runA (F := F) c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) scTail (Memref.isWhole_whole _) scTok (Memref.isWhole_whole _) scH (Memref.isWhole_whole _) ((first_iff t).mpr h) (fun e => absurd ((second_iff t).mp e) (by omega)) (fun e => absurd ((late_iff t).mp e) (by omega)) (iblk m c 0 t) (iblk m c 1 t) (iblk m c 2 t) (iblk m c 3 t) (iblk m c 4 t) (iblk m c 5 t) (iblk m c 6 t) y8 y9 y10 y11
/-- The second. -/
abbrev atB (t : Fin cfg0.N) (h : t.val % 4 = 1) (y8 : Vec F S1x128x2048 .bf16) (y9 : Vec F S1x1024x2048 .bf16) (y10 : Vec F S1x1024x256 .bf16) (y11 : Vec F S1x1024x256 .bf16) (s1 : Vec F S2x1024x128 .f32) (s2 : Vec F S1024x1024 .bf16) :=
  runB (F := F) c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) scTail (Memref.isWhole_whole _) scTok (Memref.isWhole_whole _) scH (Memref.isWhole_whole _) (fun e => absurd ((first_iff t).mp e) (by omega)) ((second_iff t).mpr h) (fun e => absurd ((late_iff t).mp e) (by omega)) ((tail_iff t).mpr h) (iblk m c 0 t) (iblk m c 1 t) (iblk m c 2 t) (iblk m c 3 t) (iblk m c 4 t) (iblk m c 5 t) (iblk m c 6 t) y8 y9 y10 y11 s1 s2
/-- The third and the last. -/
abbrev atC (t : Fin cfg0.N) (h : 2 ≤ t.val % 4) (y7 : Vec F S1x1024x1152 .bf16) (s0 : Vec F S1024x512 .f32) (s1 : Vec F S2x1024x128 .f32) (s2 : Vec F S1024x1024 .bf16) :=
  runC (F := F) c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) scTail (Memref.isWhole_whole _) scTok (Memref.isWhole_whole _) scH (Memref.isWhole_whole _) (fun e => absurd ((first_iff t).mp e) (by omega)) (fun e => absurd ((second_iff t).mp e) (by omega)) ((late_iff t).mpr (by omega)) (iblk m c 0 t) (iblk m c 1 t) (iblk m c 2 t) (iblk m c 3 t) (iblk m c 4 t) (iblk m c 5 t) (iblk m c 6 t) y7 s0 s1 s2

/-- What the scratch buffers and the output blocks hold at each point: contents that stay the same within a block of four, and that the
    pieces which the body writes come to. -/
structure Held where
  h : ℕ → Vec F S1024x1024 .bf16
  tok : ℕ → Vec F S2x1024x128 .f32
  tail : ℕ → Vec F S1024x512 .f32
  out7 : ℕ → Vec F S1x1024x1152 .bf16
  out8 : ℕ → Vec F S1x128x2048 .bf16
  out9 : ℕ → Vec F S1x1024x2048 .bf16
  out10 : ℕ → Vec F S1x1024x256 .bf16
  out11 : ℕ → Vec F S1x1024x256 .bf16
  h_eq : ∀ {n k : ℕ}, n / 4 = k / 4 → h n = h k
  tok_eq : ∀ {n k : ℕ}, n / 4 = k / 4 → tok n = tok k
  tail_eq : ∀ {n k : ℕ}, n / 4 = k / 4 → tail n = tail k
  out7_eq : ∀ {n k : ℕ}, n / 4 = k / 4 → min (n % 4) 1 = min (k % 4) 1 → out7 n = out7 k
  first_h : ∀ (t : Fin cfg0.N) (ht : t.val % 4 = 0) (y8 : Vec F S1x128x2048 .bf16) (y9 : Vec F S1x1024x2048 .bf16) (y10 : Vec F S1x1024x256 .bf16) (y11 : Vec F S1x1024x256 .bf16) (f : scH.view.ty.Contents (Elt F)),
    scH.view.read (Elt F) (scH.view.writes (Elt F) f (atA m c t ht y8 y9 y10 y11).2.2.1) = h t.val
  first_tok : ∀ (t : Fin cfg0.N) (ht : t.val % 4 = 0) (y8 : Vec F S1x128x2048 .bf16) (y9 : Vec F S1x1024x2048 .bf16) (y10 : Vec F S1x1024x256 .bf16) (y11 : Vec F S1x1024x256 .bf16) (f : scTok.view.ty.Contents (Elt F)),
    scTok.view.read (Elt F) (scTok.view.writes (Elt F) f (atA m c t ht y8 y9 y10 y11).2.1) = tok t.val
  first_z : ∀ (t : Fin cfg0.N) (ht : t.val % 4 = 0) (y8 : Vec F S1x128x2048 .bf16) (y9 : Vec F S1x1024x2048 .bf16) (y10 : Vec F S1x1024x256 .bf16) (y11 : Vec F S1x1024x256 .bf16) (f : (ms7 t).view.ty.Contents (Elt F)),
    (ms7 t).view.read (Elt F) ((ms7 t).view.writes (Elt F) f (atA m c t ht y8 y9 y10 y11).1) = out7 t.val
  second_tail : ∀ (t : Fin cfg0.N) (ht : t.val % 4 = 1) (y8 : Vec F S1x128x2048 .bf16) (y9 : Vec F S1x1024x2048 .bf16) (y10 : Vec F S1x1024x256 .bf16) (y11 : Vec F S1x1024x256 .bf16) (f : scTail.view.ty.Contents (Elt F)),
    scTail.view.read (Elt F) (scTail.view.writes (Elt F) f (atB m c t ht y8 y9 y10 y11 (tok t.val) (h t.val)).2.1) = tail t.val
  second_z : ∀ (t : Fin cfg0.N) (ht : t.val % 4 = 1) (y8 : Vec F S1x128x2048 .bf16) (y9 : Vec F S1x1024x2048 .bf16) (y10 : Vec F S1x1024x256 .bf16) (y11 : Vec F S1x1024x256 .bf16) (f : (ms7 t).view.ty.Contents (Elt F)),
    (ms7 t).view.read (Elt F) ((ms7 t).view.writes (Elt F) f (atB m c t ht y8 y9 y10 y11 (tok t.val) (h t.val)).1) = out7 t.val
  late_u : ∀ (t : Fin cfg0.N) (ht : 2 ≤ t.val % 4) (y7 : Vec F S1x1024x1152 .bf16) (f : (ms8 t).view.ty.Contents (Elt F)),
    (ms8 t).view.read (Elt F) ((ms8 t).view.writes (Elt F) f (atC m c t ht y7 (tail t.val) (tok t.val) (h t.val)).1) = out8 t.val
  late_g : ∀ (t : Fin cfg0.N) (ht : 2 ≤ t.val % 4) (y7 : Vec F S1x1024x1152 .bf16) (f : (ms9 t).view.ty.Contents (Elt F)),
    (ms9 t).view.read (Elt F) ((ms9 t).view.writes (Elt F) f (atC m c t ht y7 (tail t.val) (tok t.val) (h t.val)).2.1) = out9 t.val
  late_q : ∀ (t : Fin cfg0.N) (ht : 2 ≤ t.val % 4) (y7 : Vec F S1x1024x1152 .bf16) (f : (ms10 t).view.ty.Contents (Elt F)),
    (ms10 t).view.read (Elt F) ((ms10 t).view.writes (Elt F) f (atC m c t ht y7 (tail t.val) (tok t.val) (h t.val)).2.2.1) = out10 t.val
  late_kv : ∀ (t : Fin cfg0.N) (ht : 2 ≤ t.val % 4) (y7 : Vec F S1x1024x1152 .bf16) (f : (ms11 t).view.ty.Contents (Elt F)),
    (ms11 t).view.read (Elt F) ((ms11 t).view.writes (Elt F) f (atC m c t ht y7 (tail t.val) (tok t.val) (h t.val)).2.2.2.1) = out11 t.val

end Cert.KernelIdeal.Hand
-- ==== Proof.Data.lean ====
/- The pipeline's proof data: what each output block and the three scratch buffers hold point by point, given a description of it. -/
module

public import proofs.«01_k».proof.Proof.At
public import Idealize.ShloMosaic.Lib.Pipeline.FrameBody
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (H : (c : Dev nD) → Held m c) (c : Dev nD)

/-- What a launch hands the region, buffer by buffer. -/
theorem rest_eq : (Pipeline.ΦA spec0 c : sProp 𝕄)
    = iprop(iprop((∃ d, owns (c : Thread nD τ) scTail fullShare d) ∗ (∃ d, owns (c : Thread nD τ) scTok fullShare d) ∗ (∃ d, owns (c : Thread nD τ) scH fullShare d)) ∗ (∃ r, prngReg c r)) := by
  unfold Pipeline.ΦA; rw [scopedRest0_eq]; simp only [scTail, scTok, scH, owns_whole]; try rfl

/-- The invariant before point `n`, by the point's place in its block of four: what the points before it left in the scratch buffers. -/
def inv : ℕ → sProp 𝕄 := fun n =>
  match n % 4 with
  | 0 => iprop(iprop((∃ d, owns (c : Thread nD τ) scTail fullShare d) ∗ (∃ d, owns (c : Thread nD τ) scTok fullShare d) ∗ (∃ d, owns (c : Thread nD τ) scH fullShare d)) ∗ (∃ r, prngReg c r))
  | 1 => iprop(iprop((∃ d, owns (c : Thread nD τ) scTail fullShare d) ∗ owns (c : Thread nD τ) scTok fullShare ((H c).tok n) ∗ owns (c : Thread nD τ) scH fullShare ((H c).h n)) ∗ (∃ r, prngReg c r))
  | _ => iprop(iprop(owns (c : Thread nD τ) scTail fullShare ((H c).tail n) ∗ owns (c : Thread nD τ) scTok fullShare ((H c).tok n) ∗ owns (c : Thread nD τ) scH fullShare ((H c).h n)) ∗ (∃ r, prngReg c r))

theorem inv_zero {n : ℕ} (h : n % 4 = 0) : inv m H c n
    = iprop(iprop((∃ d, owns (c : Thread nD τ) scTail fullShare d) ∗ (∃ d, owns (c : Thread nD τ) scTok fullShare d) ∗ (∃ d, owns (c : Thread nD τ) scH fullShare d)) ∗ (∃ r, prngReg c r)) := by
  unfold inv; rw [h]; rfl
theorem inv_one {n : ℕ} (h : n % 4 = 1) : inv m H c n
    = iprop(iprop((∃ d, owns (c : Thread nD τ) scTail fullShare d) ∗ owns (c : Thread nD τ) scTok fullShare ((H c).tok n) ∗ owns (c : Thread nD τ) scH fullShare ((H c).h n)) ∗ (∃ r, prngReg c r)) := by
  unfold inv; rw [h]; rfl
theorem inv_late {n : ℕ} (h : 2 ≤ n % 4) : inv m H c n
    = iprop(iprop(owns (c : Thread nD τ) scTail fullShare ((H c).tail n) ∗ owns (c : Thread nD τ) scTok fullShare ((H c).tok n) ∗ owns (c : Thread nD τ) scH fullShare ((H c).h n)) ∗ (∃ r, prngReg c r)) := by
  unfold inv
  obtain h | h : n % 4 = 2 ∨ n % 4 = 3 := by omega
  all_goals (rw [h]; rfl)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (H c).out7 t.val
    | ⟨8, _⟩ => (H c).out8 t.val
    | ⟨9, _⟩ => (H c).out9 t.val
    | ⟨10, _⟩ => (H c).out10 t.val
    | ⟨11, _⟩ => (H c).out11 t.val
  Φ t := inv m H c t.val
  q w := Pipeline.shareOf spec0 w
  owed _ := 0

theorem dats_A (w : Fin cfg0.W) : (dats m H 0 c).A w = V m c (Pipeline.arrRef spec0 w) := by dsimp only [dats]

theorem after_0 (t : Fin cfg0.N) : (dats m H 0 c).after 0 t = iblk m c 0 t := by dsimp only [dats]
theorem after_1 (t : Fin cfg0.N) : (dats m H 0 c).after 1 t = iblk m c 1 t := by dsimp only [dats]
theorem after_2 (t : Fin cfg0.N) : (dats m H 0 c).after 2 t = iblk m c 2 t := by dsimp only [dats]
theorem after_3 (t : Fin cfg0.N) : (dats m H 0 c).after 3 t = iblk m c 3 t := by dsimp only [dats]
theorem after_4 (t : Fin cfg0.N) : (dats m H 0 c).after 4 t = iblk m c 4 t := by dsimp only [dats]
theorem after_5 (t : Fin cfg0.N) : (dats m H 0 c).after 5 t = iblk m c 5 t := by dsimp only [dats]
theorem after_6 (t : Fin cfg0.N) : (dats m H 0 c).after 6 t = iblk m c 6 t := by dsimp only [dats]
theorem after_7 (t : Fin cfg0.N) : (dats m H 0 c).after 7 t = (H c).out7 t.val := by dsimp only [dats]
theorem after_8 (t : Fin cfg0.N) : (dats m H 0 c).after 8 t = (H c).out8 t.val := by dsimp only [dats]
theorem after_9 (t : Fin cfg0.N) : (dats m H 0 c).after 9 t = (H c).out9 t.val := by dsimp only [dats]
theorem after_10 (t : Fin cfg0.N) : (dats m H 0 c).after 10 t = (H c).out10 t.val := by dsimp only [dats]
theorem after_11 (t : Fin cfg0.N) : (dats m H 0 c).after 11 t = (H c).out11 t.val := by dsimp only [dats]

theorem before_0 (t : Fin cfg0.N) (d) : (dats m H 0 c).before 0 t d = iblk m c 0 t := before0_0_of m (dats m H 0 c) (dats_A m H c 0) (after_0 m H c) t d
theorem before_1 (t : Fin cfg0.N) (d) : (dats m H 0 c).before 1 t d = iblk m c 1 t := before0_1_of m (dats m H 0 c) (dats_A m H c 1) (after_1 m H c) t d
theorem before_2 (t : Fin cfg0.N) (d) : (dats m H 0 c).before 2 t d = iblk m c 2 t := before0_2_of m (dats m H 0 c) (dats_A m H c 2) (after_2 m H c) t d
theorem before_3 (t : Fin cfg0.N) (d) : (dats m H 0 c).before 3 t d = iblk m c 3 t := before0_3_of m (dats m H 0 c) (dats_A m H c 3) (after_3 m H c) t d
theorem before_4 (t : Fin cfg0.N) (d) : (dats m H 0 c).before 4 t d = iblk m c 4 t := before0_4_of m (dats m H 0 c) (dats_A m H c 4) (after_4 m H c) t d
theorem before_5 (t : Fin cfg0.N) (d) : (dats m H 0 c).before 5 t d = iblk m c 5 t := before0_5_of m (dats m H 0 c) (dats_A m H c 5) (after_5 m H c) t d
theorem before_6 (t : Fin cfg0.N) (d) : (dats m H 0 c).before 6 t d = iblk m c 6 t := before0_6_of m (dats m H 0 c) (dats_A m H c 6) (after_6 m H c) t d

/-- The mixed columns' buffer after the second point of a block holds what that point left. -/
theorem before_7_third (t : Fin cfg0.N) (h : t.val % 4 = 2) (d) : (dats m H 0 c).before 7 t d = (H c).out7 t.val := by
  have hlt : t.val - 1 < cfg0.N := Nat.lt_of_le_of_lt (Nat.sub_le _ _) t.isLt
  have hf : (cfg0.win 7).flush ⟨t.val - 1, hlt⟩ = false := (flush_7 _).trans (decide_eq_false (by dsimp only; omega))
  have hi : cfg0.idle 7 (cfg0.grid.coords ⟨t.val - 1, hlt⟩) = false := (idle_7 _).trans (decide_eq_false (by dsimp only; omega))
  rw [(dats m H 0 c).before_of_pos 7 t (by omega) rfl, hf, if_neg Bool.false_ne_true]
  unfold Dat.left
  rw [hi]
  show (dats m H 0 c).after 7 _ = _
  rw [after_7]
  exact (H c).out7_eq (by dsimp only; omega) (by dsimp only; omega)

/-- And it does so still at the last point. -/
theorem before_7 (t : Fin cfg0.N) (h : t.val % 4 = 3) (d) : (dats m H 0 c).before 7 t d = (H c).out7 t.val := by
  have hlt : t.val - 1 < cfg0.N := Nat.lt_of_le_of_lt (Nat.sub_le _ _) t.isLt
  have hf : (cfg0.win 7).flush ⟨t.val - 1, hlt⟩ = false := (flush_7 _).trans (decide_eq_false (by dsimp only; omega))
  have hi : cfg0.idle 7 (cfg0.grid.coords ⟨t.val - 1, hlt⟩) = true := (idle_7 _).trans (decide_eq_true (by dsimp only; omega))
  rw [(dats m H 0 c).before_of_pos 7 t (by omega) rfl, hf, if_neg Bool.false_ne_true]
  unfold Dat.left
  rw [hi]
  show (dats m H 0 c).before 7 _ d = _
  rw [before_7_third m H c _ (by dsimp only; omega)]
  exact (H c).out7_eq (by dsimp only; omega) (by dsimp only; omega)

/-! ## What is left in each window -/

theorem leaves_0 (t : Fin cfg0.N) : (dats m H 0 c).leavesExact 0 t = owns (c : Thread nD τ) (ms0 t) fullShare (iblk m c 0 t) := by
  unfold Dat.leavesExact; rw [show cfg0.idle 0 (cfg0.grid.coords t) = false from rfl, after_0]
theorem leaves_1 (t : Fin cfg0.N) : (dats m H 0 c).leavesExact 1 t = owns (c : Thread nD τ) (ms1 t) fullShare (iblk m c 1 t) := by
  unfold Dat.leavesExact; rw [show cfg0.idle 1 (cfg0.grid.coords t) = false from rfl, after_1]
theorem leaves_2 (t : Fin cfg0.N) : (dats m H 0 c).leavesExact 2 t = owns (c : Thread nD τ) (ms2 t) fullShare (iblk m c 2 t) := by
  unfold Dat.leavesExact; rw [show cfg0.idle 2 (cfg0.grid.coords t) = false from rfl, after_2]
theorem leaves_3 (t : Fin cfg0.N) : (dats m H 0 c).leavesExact 3 t = owns (c : Thread nD τ) (ms3 t) fullShare (iblk m c 3 t) := by
  unfold Dat.leavesExact; rw [show cfg0.idle 3 (cfg0.grid.coords t) = false from rfl, after_3]
theorem leaves_4 (t : Fin cfg0.N) : (dats m H 0 c).leavesExact 4 t = owns (c : Thread nD τ) (ms4 t) fullShare (iblk m c 4 t) := by
  unfold Dat.leavesExact; rw [show cfg0.idle 4 (cfg0.grid.coords t) = false from rfl, after_4]
theorem leaves_5 (t : Fin cfg0.N) : (dats m H 0 c).leavesExact 5 t = owns (c : Thread nD τ) (ms5 t) fullShare (iblk m c 5 t) := by
  unfold Dat.leavesExact; rw [show cfg0.idle 5 (cfg0.grid.coords t) = false from rfl, after_5]
theorem leaves_6 (t : Fin cfg0.N) : (dats m H 0 c).leavesExact 6 t = owns (c : Thread nD τ) (ms6 t) fullShare (iblk m c 6 t) := by
  unfold Dat.leavesExact; rw [show cfg0.idle 6 (cfg0.grid.coords t) = false from rfl, after_6]
theorem leaves_7 (t : Fin cfg0.N) (h : t.val % 4 ≠ 2) : (dats m H 0 c).leavesExact 7 t = owns (c : Thread nD τ) (ms7 t) fullShare ((H c).out7 t.val) := by
  have hi := idle_7 t
  have hf := flush_7 t
  unfold Dat.leavesExact
  by_cases h3 : t.val % 4 = 3
  · rw [decide_eq_true (by omega)] at hi hf
    rw [hi, hf, after_7]
  · rw [decide_eq_false (by omega)] at hi
    rw [hi, after_7]
theorem leaves_7_idle (t : Fin cfg0.N) (h : t.val % 4 = 2) : (dats m H 0 c).leavesExact 7 t = iprop(∃ d, owns (c : Thread nD τ) (ms7 t) fullShare ((dats m H 0 c).before 7 t d)) := by
  have hi := idle_7 t
  have hf := flush_7 t
  rw [decide_eq_true (by omega)] at hi
  rw [decide_eq_false (by omega)] at hf
  exact (dats m H 0 c).leavesExact_idle 7 t hi hf
theorem leaves_8 (t : Fin cfg0.N) (h : 2 ≤ t.val % 4) : (dats m H 0 c).leavesExact 8 t = owns (c : Thread nD τ) (ms8 t) fullShare ((H c).out8 t.val) := by
  have hi := idle_8 t
  rw [decide_eq_false (by omega)] at hi
  unfold Dat.leavesExact
  rw [hi, after_8]
theorem leaves_8_idle (t : Fin cfg0.N) (h : t.val % 4 < 2) : (dats m H 0 c).leavesExact 8 t = iprop(∃ d, owns (c : Thread nD τ) (ms8 t) fullShare ((dats m H 0 c).before 8 t d)) := by
  have hi := idle_8 t
  have hf := flush_8 t
  rw [decide_eq_true (by omega)] at hi
  rw [decide_eq_false (by omega)] at hf
  exact (dats m H 0 c).leavesExact_idle 8 t hi hf
theorem leaves_9 (t : Fin cfg0.N) (h : 2 ≤ t.val % 4) : (dats m H 0 c).leavesExact 9 t = owns (c : Thread nD τ) (ms9 t) fullShare ((H c).out9 t.val) := by
  have hi := idle_9 t
  rw [decide_eq_false (by omega)] at hi
  unfold Dat.leavesExact
  rw [hi, after_9]
theorem leaves_9_idle (t : Fin cfg0.N) (h : t.val % 4 < 2) : (dats m H 0 c).leavesExact 9 t = iprop(∃ d, owns (c : Thread nD τ) (ms9 t) fullShare ((dats m H 0 c).before 9 t d)) := by
  have hi := idle_9 t
  have hf := flush_9 t
  rw [decide_eq_true (by omega)] at hi
  rw [decide_eq_false (by omega)] at hf
  exact (dats m H 0 c).leavesExact_idle 9 t hi hf
theorem leaves_10 (t : Fin cfg0.N) (h : 2 ≤ t.val % 4) : (dats m H 0 c).leavesExact 10 t = owns (c : Thread nD τ) (ms10 t) fullShare ((H c).out10 t.val) := by
  have hi := idle_10 t
  rw [decide_eq_false (by omega)] at hi
  unfold Dat.leavesExact
  rw [hi, after_10]
theorem leaves_10_idle (t : Fin cfg0.N) (h : t.val % 4 < 2) : (dats m H 0 c).leavesExact 10 t = iprop(∃ d, owns (c : Thread nD τ) (ms10 t) fullShare ((dats m H 0 c).before 10 t d)) := by
  have hi := idle_10 t
  have hf := flush_10 t
  rw [decide_eq_true (by omega)] at hi
  rw [decide_eq_false (by omega)] at hf
  exact (dats m H 0 c).leavesExact_idle 10 t hi hf
theorem leaves_11 (t : Fin cfg0.N) (h : 2 ≤ t.val % 4) : (dats m H 0 c).leavesExact 11 t = owns (c : Thread nD τ) (ms11 t) fullShare ((H c).out11 t.val) := by
  have hi := idle_11 t
  rw [decide_eq_false (by omega)] at hi
  unfold Dat.leavesExact
  rw [hi, after_11]
theorem leaves_11_idle (t : Fin cfg0.N) (h : t.val % 4 < 2) : (dats m H 0 c).leavesExact 11 t = iprop(∃ d, owns (c : Thread nD τ) (ms11 t) fullShare ((dats m H 0 c).before 11 t d)) := by
  have hi := idle_11 t
  have hf := flush_11 t
  rw [decide_eq_true (by omega)] at hi
  rw [decide_eq_false (by omega)] at hf
  exact (dats m H 0 c).leavesExact_idle 11 t hi hf

end Cert.KernelIdeal.Hand
-- ==== Proof.Body.lean ====
/- The body at every point: from what the buffers hold before it to what they hold after. -/
module

public import proofs.«01_k».proof.Proof.Data

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (H : (c : Dev nD) → Held m c) (c : Dev nD)

/-- What the body is called with at point `t`, the windows one by one, -/
def bodyPre (t : Fin cfg0.N) : sProp 𝕄 :=
  iprop((dats m H 0 c).Φ t.castSucc ∗ (dats m H 0 c).owesAt () t.castSucc
    ∗ (∃ d, owns (c : Thread nD τ) (ms0 t) fullShare ((dats m H 0 c).before 0 t d))
    ∗ (∃ d, owns (c : Thread nD τ) (ms1 t) fullShare ((dats m H 0 c).before 1 t d))
    ∗ (∃ d, owns (c : Thread nD τ) (ms2 t) fullShare ((dats m H 0 c).before 2 t d))
    ∗ (∃ d, owns (c : Thread nD τ) (ms3 t) fullShare ((dats m H 0 c).before 3 t d))
    ∗ (∃ d, owns (c : Thread nD τ) (ms4 t) fullShare ((dats m H 0 c).before 4 t d))
    ∗ (∃ d, owns (c : Thread nD τ) (ms5 t) fullShare ((dats m H 0 c).before 5 t d))
    ∗ (∃ d, owns (c : Thread nD τ) (ms6 t) fullShare ((dats m H 0 c).before 6 t d))
    ∗ (∃ d, owns (c : Thread nD τ) (ms7 t) fullShare ((dats m H 0 c).before 7 t d))
    ∗ (∃ d, owns (c : Thread nD τ) (ms8 t) fullShare ((dats m H 0 c).before 8 t d))
    ∗ (∃ d, owns (c : Thread nD τ) (ms9 t) fullShare ((dats m H 0 c).before 9 t d))
    ∗ (∃ d, owns (c : Thread nD τ) (ms10 t) fullShare ((dats m H 0 c).before 10 t d))
    ∗ (∃ d, owns (c : Thread nD τ) (ms11 t) fullShare ((dats m H 0 c).before 11 t d)))

/-- and what it returns. -/
def bodyPost (t : Fin cfg0.N) : sProp 𝕄 :=
  iprop((dats m H 0 c).Φ t.succ ∗ (dats m H 0 c).owesAt () t.succ
    ∗ (dats m H 0 c).leavesExact 0 t
    ∗ (dats m H 0 c).leavesExact 1 t
    ∗ (dats m H 0 c).leavesExact 2 t
    ∗ (dats m H 0 c).leavesExact 3 t
    ∗ (dats m H 0 c).leavesExact 4 t
    ∗ (dats m H 0 c).leavesExact 5 t
    ∗ (dats m H 0 c).leavesExact 6 t
    ∗ (dats m H 0 c).leavesExact 7 t
    ∗ (dats m H 0 c).leavesExact 8 t
    ∗ (dats m H 0 c).leavesExact 9 t
    ∗ (dats m H 0 c).leavesExact 10 t
    ∗ (dats m H 0 c).leavesExact 11 t)

set_option maxHeartbeats 4000000 in
/-- The first point of a block. -/
theorem body_first (t : Fin cfg0.N) (h : t.val % 4 = 0) :
    bodyPre m H c t ⊢ wp frame (wpE (defs₀ (F := F)) Variants.none c none) Set.univ (bodyAt0 t) (fun _ => bodyPost m H c t) := by
  unfold bodyPre bodyPost bodyAt0
  simp only [before_0, before_1, before_2, before_3, before_4, before_5, before_6]
  rw [show (dats m H 0 c).owesAt () t.succ = (dats m H 0 c).owesAt () t.castSucc from rfl,
    show (dats m H 0 c).Φ t.succ = inv m H c (t.val + 1) from rfl, show (dats m H 0 c).Φ t.castSucc = inv m H c t.val from rfl]
  rw [leaves_0, leaves_1, leaves_2, leaves_3, leaves_4, leaves_5, leaves_6, leaves_7 m H c t (by omega), leaves_8_idle m H c t (by omega), leaves_9_idle m H c t (by omega), leaves_10_idle m H c t (by omega), leaves_11_idle m H c t (by omega)]
  rw [inv_zero m H c h, inv_one m H c (show (t.val + 1) % 4 = 1 by omega)]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((atA m c t h _ _ _ _).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  iintro ⟨H0, H1, H2, H3, H4, H5, H6, ⟨%eH7, H7⟩, H8, H9, H10, H11, HS0, ⟨%eHS1, HS1⟩, ⟨%eHS2, HS2⟩⟩
  isplitl [HS0 HS1 HS2 Hg]
  · isplitl [HS0 HS1 HS2]
    · isplitl [HS0]
      · iexact HS0
      isplitl [HS1]
      · unfold owns; iexists _; isplitr
        swap; · iexact HS1
        ipureintro; exact ((H c).first_tok t h _ _ _ _ _).trans ((H c).tok_eq (show t.val / 4 = (t.val + 1) / 4 by omega))
      unfold owns; iexists _; isplitr
      swap; · iexact HS2
      ipureintro; exact ((H c).first_h t h _ _ _ _ _).trans ((H c).h_eq (show t.val / 4 = (t.val + 1) / 4 by omega))
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · unfold owns; iexists _; isplitr
    swap; · iexact H7
    ipureintro; exact (H c).first_z t h _ _ _ _ _
  isplitl [H8]
  · iexists _; iexact H8
  isplitl [H9]
  · iexists _; iexact H9
  isplitl [H10]
  · iexists _; iexact H10
  iexists _; iexact H11

set_option maxHeartbeats 4000000 in
/-- The second. -/
theorem body_second (t : Fin cfg0.N) (h : t.val % 4 = 1) :
    bodyPre m H c t ⊢ wp frame (wpE (defs₀ (F := F)) Variants.none c none) Set.univ (bodyAt0 t) (fun _ => bodyPost m H c t) := by
  unfold bodyPre bodyPost bodyAt0
  simp only [before_0, before_1, before_2, before_3, before_4, before_5, before_6]
  rw [show (dats m H 0 c).owesAt () t.succ = (dats m H 0 c).owesAt () t.castSucc from rfl,
    show (dats m H 0 c).Φ t.succ = inv m H c (t.val + 1) from rfl, show (dats m H 0 c).Φ t.castSucc = inv m H c t.val from rfl]
  rw [leaves_0, leaves_1, leaves_2, leaves_3, leaves_4, leaves_5, leaves_6, leaves_7 m H c t (by omega), leaves_8_idle m H c t (by omega), leaves_9_idle m H c t (by omega), leaves_10_idle m H c t (by omega), leaves_11_idle m H c t (by omega)]
  rw [inv_one m H c h, inv_late m H c (show 2 ≤ (t.val + 1) % 4 by omega)]
  rw [← (H c).tok_eq (show t.val / 4 = (t.val + 1) / 4 by omega), ← (H c).h_eq (show t.val / 4 = (t.val + 1) / 4 by omega)]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((atB m c t h _ _ _ _ _ _).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  iintro ⟨H0, H1, H2, H3, H4, H5, H6, ⟨%eH7, H7⟩, H8, H9, H10, H11, ⟨%eHS0, HS0⟩, HS1, HS2⟩
  isplitl [HS0 HS1 HS2 Hg]
  · isplitl [HS0 HS1 HS2]
    · isplitl [HS0]
      · unfold owns; iexists _; isplitr
        swap; · iexact HS0
        ipureintro; exact ((H c).second_tail t h _ _ _ _ _).trans ((H c).tail_eq (show t.val / 4 = (t.val + 1) / 4 by omega))
      isplitl [HS1]
      · iexact HS1
      iexact HS2
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · unfold owns; iexists _; isplitr
    swap; · iexact H7
    ipureintro; exact (H c).second_z t h _ _ _ _ _
  isplitl [H8]
  · iexists _; iexact H8
  isplitl [H9]
  · iexists _; iexact H9
  isplitl [H10]
  · iexists _; iexact H10
  iexists _; iexact H11

set_option maxHeartbeats 4000000 in
/-- The third. -/
theorem body_third (t : Fin cfg0.N) (h : t.val % 4 = 2) :
    bodyPre m H c t ⊢ wp frame (wpE (defs₀ (F := F)) Variants.none c none) Set.univ (bodyAt0 t) (fun _ => bodyPost m H c t) := by
  unfold bodyPre bodyPost bodyAt0
  simp only [before_0, before_1, before_2, before_3, before_4, before_5, before_6]
  rw [show (dats m H 0 c).owesAt () t.succ = (dats m H 0 c).owesAt () t.castSucc from rfl,
    show (dats m H 0 c).Φ t.succ = inv m H c (t.val + 1) from rfl, show (dats m H 0 c).Φ t.castSucc = inv m H c t.val from rfl]
  rw [leaves_0, leaves_1, leaves_2, leaves_3, leaves_4, leaves_5, leaves_6, leaves_7_idle m H c t h, leaves_8 m H c t (by omega), leaves_9 m H c t (by omega), leaves_10 m H c t (by omega), leaves_11 m H c t (by omega)]
  rw [inv_late m H c (show 2 ≤ t.val % 4 by omega), inv_late m H c (show 2 ≤ (t.val + 1) % 4 by omega)]
  rw [← (H c).tail_eq (show t.val / 4 = (t.val + 1) / 4 by omega), ← (H c).tok_eq (show t.val / 4 = (t.val + 1) / 4 by omega), ← (H c).h_eq (show t.val / 4 = (t.val + 1) / 4 by omega)]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((atC m c t (by omega) _ _ _ _).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  iintro ⟨H0, H1, H2, H3, H4, H5, H6, H7, ⟨%eH8, H8⟩, ⟨%eH9, H9⟩, ⟨%eH10, H10⟩, ⟨%eH11, H11⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexists _; iexact H7
  isplitl [H8]
  · unfold owns; iexists _; isplitr
    swap; · iexact H8
    ipureintro; exact (H c).late_u t (by omega) _ _
  isplitl [H9]
  · unfold owns; iexists _; isplitr
    swap; · iexact H9
    ipureintro; exact (H c).late_g t (by omega) _ _
  isplitl [H10]
  · unfold owns; iexists _; isplitr
    swap; · iexact H10
    ipureintro; exact (H c).late_q t (by omega) _ _
  unfold owns; iexists _; isplitr
  swap; · iexact H11
  ipureintro; exact (H c).late_kv t (by omega) _ _

set_option maxHeartbeats 4000000 in
/-- The last. -/
theorem body_last (t : Fin cfg0.N) (h : t.val % 4 = 3) :
    bodyPre m H c t ⊢ wp frame (wpE (defs₀ (F := F)) Variants.none c none) Set.univ (bodyAt0 t) (fun _ => bodyPost m H c t) := by
  unfold bodyPre bodyPost bodyAt0
  simp only [before_0, before_1, before_2, before_3, before_4, before_5, before_6]
  rw [show (dats m H 0 c).owesAt () t.succ = (dats m H 0 c).owesAt () t.castSucc from rfl,
    show (dats m H 0 c).Φ t.succ = inv m H c (t.val + 1) from rfl, show (dats m H 0 c).Φ t.castSucc = inv m H c t.val from rfl]
  rw [leaves_0, leaves_1, leaves_2, leaves_3, leaves_4, leaves_5, leaves_6, leaves_7 m H c t (by omega), leaves_8 m H c t (by omega), leaves_9 m H c t (by omega), leaves_10 m H c t (by omega), leaves_11 m H c t (by omega)]
  rw [inv_late m H c (show 2 ≤ t.val % 4 by omega), inv_zero m H c (show (t.val + 1) % 4 = 0 by omega)]
  simp only [before_7 m H c t h]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((atC m c t (by omega) _ _ _ _).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  iintro ⟨H0, H1, H2, H3, H4, H5, H6, H7, ⟨%eH8, H8⟩, ⟨%eH9, H9⟩, ⟨%eH10, H10⟩, ⟨%eH11, H11⟩, HS0, HS1, HS2⟩
  isplitl [HS0 HS1 HS2 Hg]
  · isplitl [HS0 HS1 HS2]
    · isplitl [HS0]
      · iexists _; iexact HS0
      isplitl [HS1]
      · iexists _; iexact HS1
      iexists _; iexact HS2
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · unfold owns; iexists _; isplitr
    swap; · iexact H8
    ipureintro; exact (H c).late_u t (by omega) _ _
  isplitl [H9]
  · unfold owns; iexists _; isplitr
    swap; · iexact H9
    ipureintro; exact (H c).late_g t (by omega) _ _
  isplitl [H10]
  · unfold owns; iexists _; isplitr
    swap; · iexact H10
    ipureintro; exact (H c).late_q t (by omega) _ _
  unfold owns; iexists _; isplitr
  swap; · iexact H11
  ipureintro; exact (H c).late_kv t (by omega) _ _

end Cert.KernelIdeal.Hand
-- ==== Proof.Run.lean ====
/- The run of the whole call, over any floats. -/
module

public import proofs.«01_k».proof.Proof.Body
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (H : (c : Dev nD) → Held m c) (c : Dev nD)

theorem body_run (t : Fin cfg0.N) :
    bodyPre m H c t ⊢ wp frame (wpE (defs₀ (F := F)) Variants.none c none) Set.univ (bodyAt0 t) (fun _ => bodyPost m H c t) := by
  obtain h | h | h | h : t.val % 4 = 0 ∨ t.val % 4 = 1 ∨ t.val % 4 = 2 ∨ t.val % 4 = 3 := by omega
  · exact body_first m H c t h
  · exact body_second m H c t h
  · exact body_third m H c t h
  · exact body_last m H c t h

theorem row_eq_body (t : Fin cfg0.N) : defs₀ (F := F) .tc cfg0.body (cfg0.bodyArgs t (cfg0.slots t)) = bodyAt0 t := by
  unfold defs₀; rw [Defs.onTc_tc]

theorem obligation : BodyObligation (dats m H 0 c) (defs₀ (F := F)) Variants.none () Set.univ := fun t => by
  rw [bigSep_W0, bigSep_W0, row_eq_body]
  exact triple_restated (body_run m H c t) rfl .rfl fun _ => .rfl

theorem inv_start : Pipeline.ΦA spec0 c ⊢ (dats m H 0 c).Φ 0 := by
  rw [show (dats m H 0 c).Φ 0 = inv m H c 0 from rfl, inv_zero m H c rfl, rest_eq]

theorem inv_end : (dats m H 0 c).Φ (Fin.last cfg0.N) ⊢ Pipeline.ΦA spec0 c := by
  rw [show (dats m H 0 c).Φ (Fin.last cfg0.N) = inv m H c (Fin.last cfg0.N).val from rfl,
    inv_zero m H c (show (Fin.last cfg0.N).val % 4 = 0 by rw [Fin.val_last]; have : cfg0.N = 64 := N_0; omega), rest_eq]

set_option backward.isDefEq.respectTransparency.types false in
/-- The call runs to the arrays the proof data names, every semaphore back at zero. -/
theorem run_main : θ_run defs (onTc (τ := τ) (main (F := F))) (s₀ m ρ) (fun r => Pipeline.FramePost cfgs (dats m H) 0 (V m) r ∧ r.2.sem = fun _ => 0) :=
  Pipeline.θ_run_frame_track_shared (Q' := _) cfgs (dats m H) (0 : Fin 1) launch₀0 defs₀ Variants.none m ρ main
    (hbody := fun c => (obligation m H c).loose) (hq := fun _ _ _ => rfl) (howed := fun _ _ => rfl)
    (V := V m) (hmain := hmain m Variants.none) (hA := fun c => dats_A m H c) (hin := inv_start m H) (hout := inv_end m H)

include H in
/-- The arguments end unchanged and every semaphore reads zero. -/
theorem quiescent_of : θ_run (defs (F := F)) (onTc (τ := τ) (main (F := F))) ⟨m, fun _ => 0, ρ⟩ fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) ∧ r.2.sem = fun _ => 0 :=
  let hp := (θ_run defs _ _).mono (fun _ h => h.1) (run_main m ρ H)
  θ_run_and (frame_of m ρ (dats m H) (fun c => dats_A m H c) hp) ((θ_run defs _ _).mono (fun _ h => h.2) (run_main m ρ H))

/-! ## A description there is over any floats: what the pieces written come to -/

theorem in_grid (q : ℕ) (k : Fin 4) : q % 16 * 4 + k.val < cfg0.N := by have : cfg0.N = 64 := N_0; omega
/-- Point `k` of block `q`. -/
def pt (q : ℕ) (k : Fin 4) : Fin cfg0.N := ⟨q % 16 * 4 + k.val, in_grid q k⟩
theorem pt_mod (q : ℕ) (k : Fin 4) : (pt q k).val % 4 = k.val := by show (q % 16 * 4 + k.val) % 4 = k.val; omega
theorem pt_eq (t : Fin cfg0.N) (k : Fin 4) (h : t.val % 4 = k.val) : pt (t.val / 4) k = t := by
  have : cfg0.N = 64 := N_0
  refine Fin.ext ?_
  show t.val / 4 % 16 * 4 + k.val = t.val
  omega

/-- Any contents. -/
def some {s : Shape} {e : EltTy} : Vec F s e := fun _ => Classical.arbitrary _

def hQ (q : ℕ) : Vec F S1024x1024 .bf16 := View.canon (atA m c (pt q 0) (pt_mod q 0) some some some some).2.2.1
def tokQ (q : ℕ) : Vec F S2x1024x128 .f32 := View.canon (atA m c (pt q 0) (pt_mod q 0) some some some some).2.1
def zQ (q : ℕ) : Vec F S1x1024x1152 .bf16 := View.canon (atA m c (pt q 0) (pt_mod q 0) some some some some).1
def tailQ (q : ℕ) : Vec F S1024x512 .f32 := View.canon (atB m c (pt q 1) (pt_mod q 1) some some some some (tokQ m c q) (hQ m c q)).2.1
def zQ' (q : ℕ) : Vec F S1x1024x1152 .bf16 := View.canon (atB m c (pt q 1) (pt_mod q 1) some some some some (tokQ m c q) (hQ m c q)).1
def out7Q (q k : ℕ) : Vec F S1x1024x1152 .bf16 := if k = 0 then zQ m c q else zQ' m c q
def out8Q (n : ℕ) : Vec F S1x128x2048 .bf16 :=
  if h : n < cfg0.N ∧ 2 ≤ n % 4 then View.canon (atC m c ⟨n, h.1⟩ h.2 some (tailQ m c (n / 4)) (tokQ m c (n / 4)) (hQ m c (n / 4))).1 else some
def out9Q (n : ℕ) : Vec F S1x1024x2048 .bf16 :=
  if h : n < cfg0.N ∧ 2 ≤ n % 4 then View.canon (atC m c ⟨n, h.1⟩ h.2 some (tailQ m c (n / 4)) (tokQ m c (n / 4)) (hQ m c (n / 4))).2.1 else some
def out10Q (n : ℕ) : Vec F S1x1024x256 .bf16 :=
  if h : n < cfg0.N ∧ 2 ≤ n % 4 then View.canon (atC m c ⟨n, h.1⟩ h.2 some (tailQ m c (n / 4)) (tokQ m c (n / 4)) (hQ m c (n / 4))).2.2.1 else some
def out11Q (n : ℕ) : Vec F S1x1024x256 .bf16 :=
  if h : n < cfg0.N ∧ 2 ≤ n % 4 then View.canon (atC m c ⟨n, h.1⟩ h.2 some (tailQ m c (n / 4)) (tokQ m c (n / 4)) (hQ m c (n / 4))).2.2.2.1 else some

theorem hQ_at (t : Fin cfg0.N) (ht : t.val % 4 = 0) (y8 y9 y10 y11) : View.canon (atA m c t ht y8 y9 y10 y11).2.2.1 = hQ m c (t.val / 4) := by
  have key : ∀ (t' : Fin cfg0.N) (h' : t'.val % 4 = 0), t' = t → View.canon (atA m c t ht y8 y9 y10 y11).2.2.1 = View.canon (atA m c t' h' some some some some).2.2.1 := by
    rintro _ _ rfl
    dsimp only [atA, runA]
  exact key _ _ (pt_eq t 0 ht)
theorem tokQ_at (t : Fin cfg0.N) (ht : t.val % 4 = 0) (y8 y9 y10 y11) : View.canon (atA m c t ht y8 y9 y10 y11).2.1 = tokQ m c (t.val / 4) := by
  have key : ∀ (t' : Fin cfg0.N) (h' : t'.val % 4 = 0), t' = t → View.canon (atA m c t ht y8 y9 y10 y11).2.1 = View.canon (atA m c t' h' some some some some).2.1 := by
    rintro _ _ rfl
    dsimp only [atA, runA]
  exact key _ _ (pt_eq t 0 ht)
theorem zQ_at (t : Fin cfg0.N) (ht : t.val % 4 = 0) (y8 y9 y10 y11) : View.canon (atA m c t ht y8 y9 y10 y11).1 = zQ m c (t.val / 4) := by
  have key : ∀ (t' : Fin cfg0.N) (h' : t'.val % 4 = 0), t' = t → View.canon (atA m c t ht y8 y9 y10 y11).1 = View.canon (atA m c t' h' some some some some).1 := by
    rintro _ _ rfl
    dsimp only [atA, runA]
  exact key _ _ (pt_eq t 0 ht)
theorem tailQ_at (t : Fin cfg0.N) (ht : t.val % 4 = 1) (y8 y9 y10 y11) :
    View.canon (atB m c t ht y8 y9 y10 y11 (tokQ m c (t.val / 4)) (hQ m c (t.val / 4))).2.1 = tailQ m c (t.val / 4) := by
  have key : ∀ (t' : Fin cfg0.N) (h' : t'.val % 4 = 1), t' = t → View.canon (atB m c t ht y8 y9 y10 y11 (tokQ m c (t.val / 4)) (hQ m c (t.val / 4))).2.1 = View.canon (atB m c t' h' some some some some (tokQ m c (t.val / 4)) (hQ m c (t.val / 4))).2.1 := by
    rintro _ _ rfl
    dsimp only [atB, runB]
  exact key _ _ (pt_eq t 1 ht)
theorem zQ'_at (t : Fin cfg0.N) (ht : t.val % 4 = 1) (y8 y9 y10 y11) :
    View.canon (atB m c t ht y8 y9 y10 y11 (tokQ m c (t.val / 4)) (hQ m c (t.val / 4))).1 = zQ' m c (t.val / 4) := by
  have key : ∀ (t' : Fin cfg0.N) (h' : t'.val % 4 = 1), t' = t → View.canon (atB m c t ht y8 y9 y10 y11 (tokQ m c (t.val / 4)) (hQ m c (t.val / 4))).1 = View.canon (atB m c t' h' some some some some (tokQ m c (t.val / 4)) (hQ m c (t.val / 4))).1 := by
    rintro _ _ rfl
    dsimp only [atB, runB]
  exact key _ _ (pt_eq t 1 ht)

def someHeld : Held m c where
  h n := hQ m c (n / 4)
  tok n := tokQ m c (n / 4)
  tail n := tailQ m c (n / 4)
  out7 n := out7Q m c (n / 4) (min (n % 4) 1)
  out8 n := out8Q m c n
  out9 n := out9Q m c n
  out10 n := out10Q m c n
  out11 n := out11Q m c n
  h_eq e := congrArg (hQ m c) e
  tok_eq e := congrArg (tokQ m c) e
  tail_eq e := congrArg (tailQ m c) e
  out7_eq e e' := congrArg₂ (out7Q m c) e e'
  first_h t ht y8 y9 y10 y11 f := (View.read_writes_eq_canon _ f _ (View.cover_of_tiledL (atA m c t ht y8 y9 y10 y11).2.2.1 S512x1024.size (by sl_kernel_rfl))).trans (hQ_at m c t ht y8 y9 y10 y11)
  first_tok t ht y8 y9 y10 y11 f := (View.read_writes_eq_canon _ f _ (View.cover_of_tiledL (atA m c t ht y8 y9 y10 y11).2.1 S1x512x128.size (by sl_kernel_rfl))).trans (tokQ_at m c t ht y8 y9 y10 y11)
  first_z t ht y8 y9 y10 y11 f := by
    refine (View.read_writes_eq_canon _ f _ (View.cover_of_tiledL (atA m c t ht y8 y9 y10 y11).1 S1x512x1152.size (by sl_kernel_rfl))).trans ((zQ_at m c t ht y8 y9 y10 y11).trans ?_)
    unfold out7Q; rw [if_pos (by omega)]
  second_tail t ht y8 y9 y10 y11 f := (View.read_writes_eq_canon _ f _ (View.cover_of_tiledL (atB m c t ht y8 y9 y10 y11 _ _).2.1 S1024x512.size (by sl_kernel_rfl))).trans (tailQ_at m c t ht y8 y9 y10 y11)
  second_z t ht y8 y9 y10 y11 f := by
    refine (View.read_writes_eq_canon _ f _ (View.cover_of_tiledL (atB m c t ht y8 y9 y10 y11 _ _).1 S1x1024x1152.size (by sl_kernel_rfl))).trans ((zQ'_at m c t ht y8 y9 y10 y11).trans ?_)
    unfold out7Q; rw [if_neg (by omega)]
  late_u t ht y7 f := by
    refine (View.read_writes_eq_canon _ f _ (View.cover_of_tiledL (atC m c t ht y7 _ _ _).1 S1x128x128.size (by sl_kernel_rfl))).trans ?_
    unfold out8Q; rw [dif_pos ⟨t.isLt, ht⟩]; rfl
  late_g t ht y7 f := by
    refine (View.read_writes_eq_canon _ f _ (View.cover_of_tiledL (atC m c t ht y7 _ _ _).2.1 S1x1024x2048.size (by sl_kernel_rfl))).trans ?_
    unfold out9Q; rw [dif_pos ⟨t.isLt, ht⟩]; rfl
  late_q t ht y7 f := by
    refine (View.read_writes_eq_canon _ f _ (View.cover_of_tiledL (atC m c t ht y7 _ _ _).2.2.1 S1x1024x256.size (by sl_kernel_rfl))).trans ?_
    unfold out10Q; rw [dif_pos ⟨t.isLt, ht⟩]; rfl
  late_kv t ht y7 f := by
    refine (View.read_writes_eq_canon _ f _ (View.cover_of_tiledL (atC m c t ht y7 _ _ _).2.2.2.1 S1x1024x256.size (by sl_kernel_rfl))).trans ?_
    unfold out11Q; rw [dif_pos ⟨t.isLt, ht⟩]; rfl

/-- Its arguments end unchanged and every semaphore reads zero. -/
theorem quiescent : θ_run (defs (F := F)) (onTc (τ := τ) (main (F := F))) ⟨m, fun _ => 0, ρ⟩ fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) ∧ r.2.sem = fun _ => 0 :=
  quiescent_of m ρ (someHeld m)

end Cert.KernelIdeal.Hand
-- ==== Proof.Rows.lean ====
/- What the input projection computes, over rows and columns given as plain functions: the normalised and modulated row, its
   product with a column of the weights, the angles of the axial rotary embedding, the rotation of a lane. -/
module

public import Idealize.ShloMosaic.Lib.Pointwise

@[expose] public section

set_option maxRecDepth 16384

noncomputable section

namespace Cert.InProj

open Idealize.ShloMosaic

/-- The mean of a row of 1024 entries. -/
def mean (x : Fin 1024 → EReal) : EReal := Ideal.div (∑ k, x k) (Ideal.ofBits FTy.f32 1149239296#32)

/-- The mean of the squares of a row's deviations from its mean. -/
def variance (x : Fin 1024 → EReal) : EReal :=
  Ideal.div (∑ k, (x k - mean x) * (x k - mean x)) (Ideal.ofBits FTy.f32 1149239296#32)

/-- A row normalised to mean 0 and variance 1, then scaled by `1 + sc` and shifted by `sh`. -/
def hRow (x sc sh : Fin 1024 → EReal) (k : Fin 1024) : EReal :=
  (x k - mean x) * Ideal.rsqrt (variance x + Ideal.ofBits FTy.f32 897988541#32) * (1 + sc k) + sh k

/-- A row of 1024 entries against a column of the weights. -/
def dotRow (h w : Fin 1024 → EReal) : EReal := ∑ q, h q * w q

/-- Entry `(b, r, n)` of the whole projection: row `(b, r)` of the tokens, normalised and modulated, against column `n`. -/
def zAll (X : Fin 4 → Fin 4096 → Fin 1024 → EReal) (SH SC : Fin 4 → Fin 1024 → EReal) (W : Fin 1024 → Fin 6400 → EReal)
    (b : Fin 4) (r : Fin 4096) (n : Fin 6400) : EReal :=
  dotRow (hRow (X b r) (SC b) (SH b)) fun q => W q n

/-- The frequency of rotary pair `a` of one axis. -/
def freq (a : ℕ) : EReal :=
  Ideal.pow (Ideal.ofBits FTy.f32 1176256512#32)
    (-Ideal.div (Ideal.ofBits FTy.f32 1073741824#32 * FloatOps.sitofp (F := Ideal) FTy.f32 (BitVec.ofNat 32 a)) (Ideal.ofBits FTy.f32 1107296256#32))

/-- The angle of token `r` and rotary pair `a`: the first 16 pairs turn with the token's row of a 64-wide image, the rest with its column. -/
def angle (r a : ℕ) : EReal :=
  if a < 16 then FloatOps.sitofp (F := Ideal) FTy.f32 (BitVec.ofNat 32 (r / 64)) * freq a
  else FloatOps.sitofp (F := Ideal) FTy.f32 (BitVec.ofNat 32 (r % 64)) * freq (a - 16)

/-- The lane that lane `k` is rotated against: the other half of its head of 64 lanes. -/
def partner (k : Fin 256) : Fin 256 := if k.val % 64 < 32 then ⟨(k.val + 32) % 256, Nat.mod_lt _ (by decide)⟩ else ⟨k.val - 32, by omega⟩

/-- The cosine a lane is multiplied by. -/
def cosLane (r : ℕ) (k : Fin 256) : EReal := Ideal.cos (angle r (k.val % 32))

/-- The sine a lane's partner is multiplied by: negated in the first half of each head. -/
def sinLane (r : ℕ) (k : Fin 256) : EReal := if k.val % 64 < 32 then -Ideal.sin (angle r (k.val % 32)) else Ideal.sin (angle r (k.val % 32))

/-- Lane `k` of 256 lanes rotated. -/
def rot (z co si : Fin 256 → EReal) (k : Fin 256) : EReal := z k * co k + z (partner k) * si k

/-! ## The five results -/

section Results

variable (X : Fin 4 → Fin 4096 → Fin 1024 → EReal) (SH SC : Fin 4 → Fin 1024 → EReal) (W : Fin 1024 → Fin 6400 → EReal)

/-- The mixed columns: the first 2304 of the projection. -/
def zOut (b : Fin 4) (r : Fin 4096) (k : Fin 2304) : EReal := zAll X SH SC W b r ⟨k.val, by omega⟩

/-- The first 256 columns, eight tokens to a row. -/
def uOut (b : Fin 4) (r : Fin 512) (k : Fin 2048) : EReal :=
  zAll X SH SC W b ⟨r.val * 8 + k.val / 256, by omega⟩ ⟨k.val % 256, by omega⟩

/-- The gates: the logistic function of the last 4096 columns. -/
def gOut (b : Fin 4) (r : Fin 4096) (k : Fin 4096) : EReal := Ideal.logistic (zAll X SH SC W b r ⟨2304 + k.val, by omega⟩)

/-- The rotated queries, scaled by an eighth. -/
def qOut (b : Fin 4) (r : Fin 4096) (k : Fin 256) : EReal :=
  rot (fun k => zAll X SH SC W b r ⟨1792 + k.val, by omega⟩) (cosLane r) (sinLane r) k * Ideal.ofBits FTy.f32 1040187392#32

/-- The rotated keys, then the values as they are. -/
def kvOut (b : Fin 4) (r : Fin 4096) (k : Fin 256) : EReal :=
  if k.val < 128 then rot (fun k => zAll X SH SC W b r ⟨2048 + k.val, by omega⟩) (cosLane r) (sinLane r) k
  else zAll X SH SC W b r ⟨2048 + k.val, by omega⟩

end Results

/-! ## The words the programs compute row and column of a token by -/

/-- A token's row: the word of `r` divided by 64, rounded down. -/
theorem rowWord (i : (⟨1, ![1]⟩ : Shape).Idx) (r : Fin 4096) :
    Scalar.select
      (IntOp.andi
        (IntOp.cmpi CmpIPredicate.ne (signi (s := ⟨1, ![1]⟩) (fun _ => BitVec.ofNat 32 r.val) i)
          (signi (s := ⟨1, ![1]⟩) (fun _ => 64#32) i))
        (IntOp.cmpi CmpIPredicate.ne (IntOp.remsi ArithUnit.host (BitVec.ofNat 32 r.val) 64#32) 0#32))
      (IntOp.subi (IntOp.divsi ArithUnit.host (BitVec.ofNat 32 r.val) 64#32) 1#32)
      (IntOp.divsi ArithUnit.host (BitVec.ofNat 32 r.val) 64#32) = BitVec.ofNat 32 (r.val / 64) := by
  unfold signi; beta_reduce; clear i; revert r; decide +kernel

/-- A token's column: the remainder of `r` by 64, taken into the divisor's sign. -/
theorem colWord (r : Fin 4096) :
    Scalar.select
      (IntOp.andi
        (IntOp.cmpi CmpIPredicate.ne
          (IntOp.cmpi CmpIPredicate.slt
            (IntOp.remsi ArithUnit.host (BitVec.ofNat 32 r.val) (Scalar.select (IntOp.cmpi CmpIPredicate.eq (64#32) 0#32) (1#32) (64#32))) 0#32)
          (IntOp.cmpi CmpIPredicate.slt (Scalar.select (IntOp.cmpi CmpIPredicate.eq (64#32) 0#32) (1#32) (64#32)) 0#32))
        (IntOp.cmpi CmpIPredicate.ne
          (IntOp.remsi ArithUnit.host (BitVec.ofNat 32 r.val) (Scalar.select (IntOp.cmpi CmpIPredicate.eq (64#32) 0#32) (1#32) (64#32))) 0#32))
      (IntOp.addi
        (IntOp.remsi ArithUnit.host (BitVec.ofNat 32 r.val) (Scalar.select (IntOp.cmpi CmpIPredicate.eq (64#32) 0#32) (1#32) (64#32)))
        (Scalar.select (IntOp.cmpi CmpIPredicate.eq (64#32) 0#32) (1#32) (64#32)))
      (IntOp.remsi ArithUnit.host (BitVec.ofNat 32 r.val) (Scalar.select (IntOp.cmpi CmpIPredicate.eq (64#32) 0#32) (1#32) (64#32)))
      = BitVec.ofNat 32 (r.val % 64) := by
  revert r; decide +kernel

/-- The mask of the lanes in the first half of their head. -/
theorem firstHalf (k : Fin 256) :
    IntOp.cmpi CmpIPredicate.slt
      (Scalar.select
        (IntOp.andi
          (IntOp.xori
            (IntOp.cmpi CmpIPredicate.slt
              (IntOp.remsi ArithUnit.vector (BitVec.ofNat 32 k.val) (Scalar.select (Scalar.cmpi CmpIPredicate.eq 64#32 0#32) 1#32 64#32)) 0#32)
            (Scalar.cmpi CmpIPredicate.slt (Scalar.select (Scalar.cmpi CmpIPredicate.eq 64#32 0#32) 1#32 64#32) 0#32))
          (IntOp.cmpi CmpIPredicate.ne
            (IntOp.remsi ArithUnit.vector (BitVec.ofNat 32 k.val) (Scalar.select (Scalar.cmpi CmpIPredicate.eq 64#32 0#32) 1#32 64#32)) 0#32))
        (IntOp.addi
          (IntOp.remsi ArithUnit.vector (BitVec.ofNat 32 k.val) (Scalar.select (Scalar.cmpi CmpIPredicate.eq 64#32 0#32) 1#32 64#32))
          (Scalar.select (Scalar.cmpi CmpIPredicate.eq 64#32 0#32) 1#32 64#32))
        (IntOp.remsi ArithUnit.vector (BitVec.ofNat 32 k.val) (Scalar.select (Scalar.cmpi CmpIPredicate.eq 64#32 0#32) 1#32 64#32)))
      32#32 = BitVec.ofBool (decide (k.val % 64 < 32)) := by
  revert k; decide +kernel

/-- The same mask with the divisor's guard evaluated in two places. -/
theorem firstHalf' (k : Fin 256) :
    IntOp.cmpi CmpIPredicate.slt
      (Scalar.select
        (IntOp.andi
          (IntOp.xori
            (IntOp.cmpi CmpIPredicate.slt
              (IntOp.remsi ArithUnit.vector (BitVec.ofNat 32 k.val) (Scalar.select (Scalar.cmpi CmpIPredicate.eq 64#32 0#32) 1#32 64#32)) 0#32)
            (Scalar.cmpi CmpIPredicate.slt 64#32 0#32))
          (IntOp.cmpi CmpIPredicate.ne
            (IntOp.remsi ArithUnit.vector (BitVec.ofNat 32 k.val) (Scalar.select (Scalar.cmpi CmpIPredicate.eq 64#32 0#32) 1#32 64#32)) 0#32))
        (IntOp.addi
          (IntOp.remsi ArithUnit.vector (BitVec.ofNat 32 k.val) (Scalar.select (Scalar.cmpi CmpIPredicate.eq 64#32 0#32) 1#32 64#32)) 64#32)
        (IntOp.remsi ArithUnit.vector (BitVec.ofNat 32 k.val) (Scalar.select (Scalar.cmpi CmpIPredicate.eq 64#32 0#32) 1#32 64#32)))
      32#32 = BitVec.ofBool (decide (k.val % 64 < 32)) := by
  revert k; decide +kernel

/-- The mask of the first 128 lanes. -/
theorem firstHead (k : Fin 256) : IntOp.cmpi CmpIPredicate.slt (BitVec.ofNat 32 k.val) 128#32 = BitVec.ofBool (decide (k.val < 128)) := by
  revert k; decide +kernel

/-- Selecting by a mask is choosing by its proposition. -/
theorem select_ofBool {α : Type} (p : Prop) [Decidable p] (a b : α) : Scalar.select (BitVec.ofBool (decide p)) a b = if p then a else b := by
  by_cases h : p <;> simp [h, Scalar.select]

/-- The two rolls of a row, chosen by the mask, read the partner lane. -/
theorem rolled (z : Fin 256 → EReal) (k : Fin 256) :
    (if k.val % 64 < 32 then z ⟨(k.val + 256 - 224) % 256, by omega⟩ else z ⟨(k.val + 256 - 32) % 256, by omega⟩) = z (partner k) := by
  unfold partner
  split
  · simp only [show k.val + 256 - 224 = k.val + 32 by omega]
  · simp only [show (k.val + 256 - 32) % 256 = k.val - 32 by omega]

end Cert.InProj

end
-- ==== Proof.Tables.lean ====
/- The buffers the kernel's host code prepares: the tables of cosines and sines, entry by entry, and the weights. -/
module

public import proofs.«01_k».proof.Proof.Gen.KernelIdeal.Frame
public import proofs.«01_k».proof.Proof.Gen.KernelIdeal.Skeleton
public import proofs.«01_k».proof.Proof.Rows
public import Idealize.ShloMosaic.Lib.Pointwise
public import Idealize.ShloMosaic.Lib.StableHlo.ReadAt

@[expose] public section
set_option maxRecDepth 16384
noncomputable section
namespace Cert.KernelIdeal.Hand
open Idealize.ShloMosaic Idealize.ShloMosaic.TcCoe Idealize.ShloMosaic.Tactic
open Cert.KernelIdeal.Gen Cert.InProj

/-- Two tables of 16 columns side by side. -/
def cat32 (a b : (⟨S4096x16, .f32⟩ : BufTy).Contents (Elt Ideal)) : (⟨S4096x32, .f32⟩ : BufTy).Contents (Elt Ideal) :=
  concatenate S4096x32 1 [⟨S4096x16, a⟩, ⟨S4096x16, b⟩] concatenates_S4096x16_S4096x16_S4096x32_d1
/-- Two tables of 32 columns side by side. -/
def cat64 (a b : (⟨S4096x32, .f32⟩ : BufTy).Contents (Elt Ideal)) : (⟨S4096x64, .f32⟩ : BufTy).Contents (Elt Ideal) :=
  concatenate S4096x64 1 [⟨S4096x32, a⟩, ⟨S4096x32, b⟩] concatenates_S4096x32_S4096x32_S4096x64_d1

theorem cat32_def : ((fun a b => concatenate S4096x32 1 [⟨S4096x16, a⟩, ⟨S4096x16, b⟩] concatenates_S4096x16_S4096x16_S4096x32_d1) : (⟨S4096x16, .f32⟩ : BufTy).Contents (Elt Ideal) → (⟨S4096x16, .f32⟩ : BufTy).Contents (Elt Ideal) → (⟨S4096x32, .f32⟩ : BufTy).Contents (Elt Ideal)) = cat32 := rfl
theorem cat64_def : ((fun a b => concatenate S4096x64 1 [⟨S4096x32, a⟩, ⟨S4096x32, b⟩] concatenates_S4096x32_S4096x32_S4096x64_d1) : (⟨S4096x32, .f32⟩ : BufTy).Contents (Elt Ideal) → (⟨S4096x32, .f32⟩ : BufTy).Contents (Elt Ideal) → (⟨S4096x64, .f32⟩ : BufTy).Contents (Elt Ideal)) = cat64 := rfl

variable (m : (ℓ : Loc nD τ sig) → Buf (Elt Ideal) ℓ) (c : Dev nD)

/-- The kernel's table of cosines, entry by entry. -/
theorem V_cos (r : Fin 4096) (k : Fin 256) : V m c main_v32 (ix2 r k) = cosLane r k := by
  simp only [V, hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq, cat32_def, cat64_def]
  after_results_simp
  clean_types
  pointwise [cat64, cat32]
  generalize hw : id (constantI S_ 32 64#32) ix0 = w
  obtain rfl : w = 64#32 := hw.symm.trans rfl
  have hrow := rowWord (ix1 0) r
  unfold signi at hrow; beta_reduce at hrow ⊢
  simp only [hrow, colWord, cosLane, angle, freq]
  split
  · rw [show k.val % 32 = k.val % 64 by omega]; rfl
  · rw [show k.val % 32 = k.val % 64 - 32 by omega]; rfl

/-- The kernel's table of sines, entry by entry. -/
theorem V_sin (r : Fin 4096) (k : Fin 256) : V m c main_v37 (ix2 r k) = sinLane r k := by
  simp only [V, hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq, cat32_def, cat64_def]
  after_results_simp
  clean_types
  pointwise [cat64, cat32]
  generalize hw : id (constantI S_ 32 64#32) ix0 = w
  obtain rfl : w = 64#32 := hw.symm.trans rfl
  have hrow := rowWord (ix1 0) r
  unfold signi at hrow; beta_reduce at hrow ⊢
  simp only [hrow, colWord, sinLane, angle, freq]
  by_cases h : k.val % 64 < 32
  · rw [show k.val % 32 = k.val % 64 by omega, dif_pos h, if_pos h]; rfl
  · rw [show k.val % 32 = k.val % 64 - 32 by omega, dif_neg h, if_neg h]; rfl

/-- The weights as the region finds them. -/
theorem V_w : V m c main_v0 = m (c, main_arg3) := by
  simp only [V, hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq, cat32_def, cat64_def]
  after_results_simp
  rfl

end Cert.KernelIdeal.Hand
-- ==== Proof.Blocks.lean ====
/- What the buffers of one block hold, as functions of the blocks staged; and reading a rectangle of a buffer. -/
module

public import proofs.«01_k».proof.Proof.Gen.KernelIdeal.Skeleton
public import proofs.«01_k».proof.Proof.Rows
public import Idealize.ShloMosaic.Lib.Pointwise
public import Idealize.ShloMosaic.Lib.WholeRead
public import Idealize.ShloMosaic.Lib.Ring
public import Idealize.ShloMosaic.Lib.Writes

@[expose] public section

set_option maxRecDepth 16384

noncomputable section

namespace Cert.KernelIdeal.Hand

open Idealize.ShloMosaic Idealize.ShloMosaic.TcCoe Idealize.ShloMosaic.Tactic
open Cert.KernelIdeal.Gen Cert.InProj

/-- The normalised and modulated rows of a block of tokens. -/
def hBlk (x : Vec Ideal S1x1024x1024 .f32) (sh sc : Vec Ideal S1x1x1024 .f32) : Vec Ideal S1024x1024 .bf16 :=
  fun j => hRow (fun k => x (ix3 0 (j 0) k)) (fun k => sc (ix3 0 0 k)) (fun k => sh (ix3 0 0 k)) (j 1)

/-- A block of rows against 1152 columns. -/
def zBlk (h : Vec Ideal S1024x1024 .bf16) (w : Vec Ideal S1024x1152 .bf16) : Vec Ideal S1x1024x1152 .bf16 :=
  fun j => dotRow (fun q => h (ix2 (j 1) q)) fun q => w (ix2 q (j 2))

/-- The first 256 of those columns, in two halves of 128. -/
def tokBlk (h : Vec Ideal S1024x1024 .bf16) (w : Vec Ideal S1024x1152 .bf16) : Vec Ideal S2x1024x128 .f32 :=
  fun j => dotRow (fun q => h (ix2 (j 1) q)) fun q => w (ix2 q ⟨(j 0).val * 128 + (j 2).val, by
    have h0 : (j 0).val < 2 := (j 0).isLt
    have h2 : (j 2).val < 128 := (j 2).isLt
    omega⟩)

/-- In the first half the column is the lane. -/
theorem tokBlk_zero (h : Vec Ideal S1024x1024 .bf16) (w : Vec Ideal S1024x1152 .bf16) (r : Fin 1024) (l : Fin 128) :
    tokBlk h w (ix3 0 r l) = dotRow (fun q => h (ix2 r q)) fun q => w (ix2 q ⟨l.val, by omega⟩) := by
  show dotRow (fun q => h (ix2 r q)) (fun q => w (ix2 q ⟨0 * 128 + l.val, _⟩)) = _
  simp only [zero_mul, zero_add]

/-- The last 512 of the 1152 columns. -/
def tailBlk (h : Vec Ideal S1024x1024 .bf16) (w : Vec Ideal S1024x1152 .bf16) : Vec Ideal S1024x512 .f32 :=
  fun j => dotRow (fun q => h (ix2 (j 0) q)) fun q => w (ix2 q ⟨640 + (j 1).val, by
    have h1 : (j 1).val < 512 := (j 1).isLt
    omega⟩)

/-- The raw columns with eight tokens to a row. -/
def uBlk (s : Vec Ideal S2x1024x128 .f32) : Vec Ideal S1x128x2048 .bf16 :=
  fun j => s (ix3 ⟨(j 2).val % 256 / 128, by omega⟩ ⟨(j 1).val * 8 + (j 2).val / 256, by
    have h1 : (j 1).val < 128 := (j 1).isLt
    have h2 : (j 2).val < 2048 := (j 2).isLt
    omega⟩ ⟨(j 2).val % 128, by omega⟩)

theorem uBlk_apply (s : Vec Ideal S2x1024x128 .f32) (a t : ℕ) (ha : a < 2) (ht : t < 8) (r l : Fin 128) :
    uBlk s (ix3 0 r ⟨t * 256 + a * 128 + l.val, by omega⟩) = s (ix3 ⟨a, ha⟩ ⟨t + 8 * r.val, by omega⟩ l) := by
  show s (ix3 ⟨(t * 256 + a * 128 + l.val) % 256 / 128, _⟩ ⟨r.val * 8 + (t * 256 + a * 128 + l.val) / 256, _⟩ ⟨(t * 256 + a * 128 + l.val) % 128, _⟩) = _
  have e0 : (t * 256 + a * 128 + l.val) % 256 / 128 = a := by omega
  have e1 : r.val * 8 + (t * 256 + a * 128 + l.val) / 256 = t + 8 * r.val := by omega
  have e2 : (t * 256 + a * 128 + l.val) % 128 = l.val := by omega
  simp only [e0, e1, e2]

/-- The logistic function of 2048 columns. -/
def gBlk (h : Vec Ideal S1024x1024 .bf16) (w : Vec Ideal S1024x2048 .bf16) : Vec Ideal S1x1024x2048 .bf16 :=
  fun j => Ideal.logistic (dotRow (fun q => h (ix2 (j 1) q)) fun q => w (ix2 q (j 2)))

/-- The first 256 columns of the last 512, rotated and scaled. -/
def qBlk (s : Vec Ideal S1024x512 .f32) (co si : Vec Ideal S1024x256 .f32) : Vec Ideal S1x1024x256 .bf16 :=
  fun j => rot (fun k => s (ix2 (j 1) ⟨k.val, by omega⟩)) (fun k => co (ix2 (j 1) k)) (fun k => si (ix2 (j 1) k)) (j 2) * Ideal.ofBits FTy.f32 1040187392#32

/-- The other 256, of which the first 128 are rotated. -/
def kvBlk (s : Vec Ideal S1024x512 .f32) (co si : Vec Ideal S1024x256 .f32) : Vec Ideal S1x1024x256 .bf16 :=
  fun j => if (j 2).val < 128 then rot (fun k => s (ix2 (j 1) ⟨256 + k.val, by omega⟩)) (fun k => co (ix2 (j 1) k)) (fun k => si (ix2 (j 1) k)) (j 2)
    else s (ix2 (j 1) ⟨256 + (j 2).val, by
      have h2 : (j 2).val < 256 := (j 2).isLt
      omega⟩)

/-- A load of a rectangle of a whole buffer that holds `X`. -/
theorem readAt_whole {sp : Space} {s : Shape} {e : EltTy} {mr : Memref sig .tc sp s e} (h : mr.IsWhole) (X : s.Idx → Elt Ideal e)
    (B : LoadRect s) : View.readAt (Elt Ideal) mr.view B (h.unread X) = fun x => X (B.idx x) :=
  funext fun x => h.readAt_unread X B x

/-- Where a unit-stride rectangle of a matrix puts its entry. -/
theorem emb_ix2 {n k p q a b : ℕ} (inb : ∀ x, ![a, b] x + ![p, q] x ≤ (⟨2, ![n, k]⟩ : Shape).size x) (i : Fin p) (j : Fin q)
    (hi : a + i.val < n) (hj : b + j.val < k) :
    (Rect.unit (s := ⟨2, ![n, k]⟩) ![a, b] ![p, q] inb).emb (ix2 i j) = ix2 ⟨a + i.val, hi⟩ ⟨b + j.val, hj⟩ := by
  funext x
  refine Fin.ext ?_
  rw [Rect.emb_apply]
  fin_cases x <;> simp [Rect.unit, ix2, ix3]

/-- Where a unit-stride rectangle of an array of three axes puts its entry. -/
theorem emb_ix3 {l n k o p q a b d : ℕ} (inb : ∀ x, ![a, b, d] x + ![o, p, q] x ≤ (⟨3, ![l, n, k]⟩ : Shape).size x) (i : Fin o) (j : Fin p)
    (r : Fin q) (hi : a + i.val < l) (hj : b + j.val < n) (hr : d + r.val < k) :
    (Rect.unit (s := ⟨3, ![l, n, k]⟩) ![a, b, d] ![o, p, q] inb).emb (ix3 i j r) = ix3 ⟨a + i.val, hi⟩ ⟨b + j.val, hj⟩ ⟨d + r.val, hr⟩ := by
  funext x
  refine Fin.ext ?_
  rw [Rect.emb_apply]
  fin_cases x <;> simp [Rect.unit, ix2, ix3]

end Cert.KernelIdeal.Hand
end
-- ==== Proof.Staged.lean ====
/- What the windows stage at each point, as rows and columns of the arguments; and what the buffers are to hold. -/
module

public import proofs.«01_k».proof.Proof.Tables
public import proofs.«01_k».proof.Proof.Blocks
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Cert.KernelIdeal.Gen Cert.InProj

variable (m : (ℓ : Loc nD τ sig) → Buf (Elt Ideal) ℓ) (c : Dev nD)

/-- The tokens. -/
def X (b : Fin 4) (r : Fin 4096) (k : Fin 1024) : EReal := m (c.tc.loc main_arg0) (ix3 b r k)
/-- The shifts. -/
def SH (b : Fin 4) (k : Fin 1024) : EReal := m (c.tc.loc main_arg1) (ix3 b 0 k)
/-- The scales. -/
def SC (b : Fin 4) (k : Fin 1024) : EReal := m (c.tc.loc main_arg2) (ix3 b 0 k)
/-- The weights. -/
def W (q : Fin 1024) (n : Fin 6400) : EReal := m (c.tc.loc main_arg3) (ix2 q n)

/-! ## Where each point's blocks lie -/

/-- The batch of point `n`. -/
def bi (n : ℕ) : Fin 4 := ⟨n / 16 % 4, by omega⟩
/-- Row `r` of point `n`'s block of tokens. -/
def row (n : ℕ) (r : Fin 1024) : Fin 4096 := ⟨n / 4 % 4 * 1024 + r.val, by omega⟩

theorem index_0 : ∀ t : Fin cfg0.N, win0_0.index t = ![t.val / 16 % 4, t.val / 4 % 4, 0] := (by decide +kernel : ∀ t : Fin grid0.N, _)
theorem index_1 : ∀ t : Fin cfg0.N, win0_1.index t = ![t.val / 16 % 4, 0, 0] := (by decide +kernel : ∀ t : Fin grid0.N, _)
theorem index_2 : ∀ t : Fin cfg0.N, win0_2.index t = ![t.val / 16 % 4, 0, 0] := (by decide +kernel : ∀ t : Fin grid0.N, _)
theorem index_3 : ∀ t : Fin cfg0.N, win0_3.index t = ![0, min (t.val % 4) 1 * 1152] := (by decide +kernel : ∀ t : Fin grid0.N, _)
theorem index_4 : ∀ t : Fin cfg0.N, win0_4.index t = ![0, 2304 + (t.val % 4 - 2) * 2048] := (by decide +kernel : ∀ t : Fin grid0.N, _)
theorem index_5 : ∀ t : Fin cfg0.N, win0_5.index t = ![t.val / 4 % 4, 0] := (by decide +kernel : ∀ t : Fin grid0.N, _)
theorem index_6 : ∀ t : Fin cfg0.N, win0_6.index t = ![t.val / 4 % 4, 0] := (by decide +kernel : ∀ t : Fin grid0.N, _)
theorem index_7 : ∀ t : Fin cfg0.N, win0_7.index t = ![t.val / 16 % 4, t.val / 4 % 4, min (t.val % 4) 1] := (by decide +kernel : ∀ t : Fin grid0.N, _)
theorem index_8 : ∀ t : Fin cfg0.N, win0_8.index t = ![t.val / 16 % 4, t.val / 4 % 4, 0] := (by decide +kernel : ∀ t : Fin grid0.N, _)
theorem index_9 : ∀ t : Fin cfg0.N, win0_9.index t = ![t.val / 16 % 4, t.val / 4 % 4, t.val % 4 - 2] := (by decide +kernel : ∀ t : Fin grid0.N, _)
theorem index_10 : ∀ t : Fin cfg0.N, win0_10.index t = ![t.val / 16 % 4, t.val / 4 % 4, 0] := (by decide +kernel : ∀ t : Fin grid0.N, _)
theorem index_11 : ∀ t : Fin cfg0.N, win0_11.index t = ![t.val / 16 % 4, t.val / 4 % 4, 0] := (by decide +kernel : ∀ t : Fin grid0.N, _)

/-! ## The blocks staged -/

theorem staged_x (t : Fin cfg0.N) (r k : Fin 1024) : (iblk m c 0 t : Vec Ideal S1x1024x1024 .f32) (ix3 0 r k) = X m c (bi t.val) (row t.val r) k := by
  show V m c main_arg0 ((win0_0.blk t).view.emb (ix3 0 r k)) = _
  rw [V_main_arg0]
  unfold X
  refine congrArg _ ?_
  blk_ext [index_0, bi, row]

theorem staged_sh (t : Fin cfg0.N) (k : Fin 1024) : (iblk m c 1 t : Vec Ideal S1x1x1024 .f32) (ix3 0 0 k) = SH m c (bi t.val) k := by
  show V m c main_arg1 ((win0_1.blk t).view.emb (ix3 0 0 k)) = _
  rw [V_main_arg1]
  unfold SH
  refine congrArg _ ?_
  blk_ext [index_1, bi]

theorem staged_sc (t : Fin cfg0.N) (k : Fin 1024) : (iblk m c 2 t : Vec Ideal S1x1x1024 .f32) (ix3 0 0 k) = SC m c (bi t.val) k := by
  show V m c main_arg2 ((win0_2.blk t).view.emb (ix3 0 0 k)) = _
  rw [V_main_arg2]
  unfold SC
  refine congrArg _ ?_
  blk_ext [index_2, bi]

theorem staged_w (t : Fin cfg0.N) (q : Fin 1024) (k : Fin 1152) : (iblk m c 3 t : Vec Ideal S1024x1152 .bf16) (ix2 q k)
    = W m c q ⟨min (t.val % 4) 1 * 1152 + k.val, by omega⟩ := by
  show V m c main_v0 ((win0_3.blk t).view.emb (ix2 q k)) = _
  rw [V_w]
  unfold W
  refine congrArg (m (c.tc.loc main_arg3)) ?_
  have h : win0_3.index t = ![0, min (t.val % 4) 1 * 1152] := index_3 t
  funext a
  refine Fin.ext ((Pipeline.Window.rect_emb_val_off win0_3 t (ix2 q k) a).trans ?_)
  show win0_3.index t a + ((ix2 q k : S1024x1152.Idx) a).val = _
  rw [h]
  fin_cases a
  · exact Nat.zero_add _
  · exact (by omega : min (t.val % 4) 1 * 1152 + k.val = min (t.val % 4) 1 * 1152 + k.val)

theorem staged_wg (t : Fin cfg0.N) (q : Fin 1024) (k : Fin 2048) : (iblk m c 4 t : Vec Ideal S1024x2048 .bf16) (ix2 q k)
    = W m c q ⟨2304 + ((t.val % 4 - 2) * 2048 + k.val), by omega⟩ := by
  show V m c main_v0 ((win0_4.blk t).view.emb (ix2 q k)) = _
  rw [V_w]
  unfold W
  refine congrArg (m (c.tc.loc main_arg3)) ?_
  have h : win0_4.index t = ![0, 2304 + (t.val % 4 - 2) * 2048] := index_4 t
  funext a
  refine Fin.ext ((Pipeline.Window.rect_emb_val_off win0_4 t (ix2 q k) a).trans ?_)
  show win0_4.index t a + ((ix2 q k : S1024x2048.Idx) a).val = _
  rw [h]
  fin_cases a
  · exact Nat.zero_add _
  · exact (by omega : 2304 + (t.val % 4 - 2) * 2048 + k.val = 2304 + ((t.val % 4 - 2) * 2048 + k.val))

theorem staged_cos (t : Fin cfg0.N) (r : Fin 1024) (k : Fin 256) : (iblk m c 5 t : Vec Ideal S1024x256 .f32) (ix2 r k) = cosLane (row t.val r) k := by
  show V m c main_v32 ((win0_5.blk t).view.emb (ix2 r k)) = _
  rw [← V_cos m c]
  refine congrArg _ ?_
  blk_ext [index_5, row]

theorem staged_sin (t : Fin cfg0.N) (r : Fin 1024) (k : Fin 256) : (iblk m c 6 t : Vec Ideal S1024x256 .f32) (ix2 r k) = sinLane (row t.val r) k := by
  show V m c main_v37 ((win0_6.blk t).view.emb (ix2 r k)) = _
  rw [← V_sin m c]
  refine congrArg _ ?_
  blk_ext [index_6, row]

/-! ## What the buffers are to hold -/

/-- Point `n`'s block of the normalised rows. -/
def hVal (n : ℕ) : Vec Ideal S1024x1024 .bf16 := fun j => hRow (X m c (bi n) (row n (j 0))) (SC m c (bi n)) (SH m c (bi n)) (j 1)
/-- Of the projection, column `k` of row `r` of point `n`'s block. -/
def zVal (n : ℕ) (r : Fin 1024) (k : Fin 6400) : EReal := zAll (X m c) (SH m c) (SC m c) (W m c) (bi n) (row n r) k
/-- Its first 256 columns in two halves. -/
def tokVal (n : ℕ) : Vec Ideal S2x1024x128 .f32 := fun j => zVal m c n (j 1) ⟨(j 0).val * 128 + (j 2).val, by
  have h0 : (j 0).val < 2 := (j 0).isLt
  have h2 : (j 2).val < 128 := (j 2).isLt
  omega⟩
/-- Its columns from 1792 on. -/
def tailVal (n : ℕ) : Vec Ideal S1024x512 .f32 := fun j => zVal m c n (j 0) ⟨1792 + (j 1).val, by
  have h1 : (j 1).val < 512 := (j 1).isLt
  omega⟩
/-- The five output blocks. -/
def out7 (n : ℕ) : Vec Ideal S1x1024x1152 .bf16 := fun j => zVal m c n (j 1) ⟨min (n % 4) 1 * 1152 + (j 2).val, by
  have h2 : (j 2).val < 1152 := (j 2).isLt
  omega⟩
def out8 (n : ℕ) : Vec Ideal S1x128x2048 .bf16 := fun j => uOut (X m c) (SH m c) (SC m c) (W m c) (bi n) ⟨n / 4 % 4 * 128 + (j 1).val, by
  have h1 : (j 1).val < 128 := (j 1).isLt
  omega⟩ (j 2)
def out9 (n : ℕ) : Vec Ideal S1x1024x2048 .bf16 := fun j => gOut (X m c) (SH m c) (SC m c) (W m c) (bi n) (row n (j 1)) ⟨(n % 4 - 2) * 2048 + (j 2).val, by
  have h2 : (j 2).val < 2048 := (j 2).isLt
  omega⟩
def out10 (n : ℕ) : Vec Ideal S1x1024x256 .bf16 := fun j => qOut (X m c) (SH m c) (SC m c) (W m c) (bi n) (row n (j 1)) (j 2)
def out11 (n : ℕ) : Vec Ideal S1x1024x256 .bf16 := fun j => kvOut (X m c) (SH m c) (SC m c) (W m c) (bi n) (row n (j 1)) (j 2)

/-! ## The same within one block -/

theorem bi_eq {n k : ℕ} (h : n / 4 = k / 4) : bi n = bi k := by unfold bi; congr 2; omega
theorem row_eq {n k : ℕ} (h : n / 4 = k / 4) : row n = row k := by unfold row; simp only [h]
theorem hVal_eq {n k : ℕ} (h : n / 4 = k / 4) : hVal m c n = hVal m c k := by unfold hVal; simp only [bi_eq h, row_eq h]
theorem tokVal_eq {n k : ℕ} (h : n / 4 = k / 4) : tokVal m c n = tokVal m c k := by unfold tokVal zVal; simp only [bi_eq h, row_eq h]
theorem tailVal_eq {n k : ℕ} (h : n / 4 = k / 4) : tailVal m c n = tailVal m c k := by unfold tailVal zVal; simp only [bi_eq h, row_eq h]
theorem out7_eq {n k : ℕ} (h : n / 4 = k / 4) (h' : min (n % 4) 1 = min (k % 4) 1) : out7 m c n = out7 m c k := by
  unfold out7 zVal; simp only [bi_eq h, row_eq h, h']

/-! ## What each point computes is what the buffers are to hold -/

theorem hBlk_staged (t : Fin cfg0.N) : hBlk (iblk m c 0 t) (iblk m c 1 t) (iblk m c 2 t) = hVal m c t.val := by
  funext j; idx_vars j
  show hRow (fun k => (iblk m c 0 t : Vec Ideal S1x1024x1024 .f32) (ix3 0 j0 k)) (fun k => (iblk m c 2 t : Vec Ideal S1x1x1024 .f32) (ix3 0 0 k)) (fun k => (iblk m c 1 t : Vec Ideal S1x1x1024 .f32) (ix3 0 0 k)) j1 = _
  simp only [staged_x, staged_sh, staged_sc]
  rfl

theorem zBlk_staged (t : Fin cfg0.N) : zBlk (hVal m c t.val) (iblk m c 3 t) = out7 m c t.val := by
  funext j; idx_vars j
  show dotRow _ (fun q => (iblk m c 3 t : Vec Ideal S1024x1152 .bf16) (ix2 q j2)) = _
  simp only [staged_w]
  rfl

theorem tokBlk_staged (t : Fin cfg0.N) (h : t.val % 4 = 0) : tokBlk (hVal m c t.val) (iblk m c 3 t) = tokVal m c t.val := by
  funext j; idx_vars j
  show dotRow _ (fun q => (iblk m c 3 t : Vec Ideal S1024x1152 .bf16) (ix2 q ⟨j0.val * 128 + j2.val, _⟩)) = _
  simp only [staged_w, h]
  refine congrArg (dotRow (fun q => hVal m c t.val (ix2 j1 q))) (funext fun q => congrArg (W m c q) (Fin.ext ?_))
  show min 0 1 * 1152 + (j0.val * 128 + j2.val) = j0.val * 128 + j2.val
  omega

theorem tailBlk_staged (t : Fin cfg0.N) (h : t.val % 4 = 1) : tailBlk (hVal m c t.val) (iblk m c 3 t) = tailVal m c t.val := by
  funext j; idx_vars j
  show dotRow _ (fun q => (iblk m c 3 t : Vec Ideal S1024x1152 .bf16) (ix2 q ⟨640 + j1.val, _⟩)) = _
  simp only [staged_w, h]
  refine congrArg (dotRow (fun q => hVal m c t.val (ix2 j0 q))) (funext fun q => congrArg (W m c q) (Fin.ext ?_))
  show min 1 1 * 1152 + (640 + j1.val) = 1792 + j1.val
  omega

theorem uBlk_staged (n : ℕ) : uBlk (tokVal m c n) = out8 m c n := by
  funext j; idx_vars j
  show zAll _ _ _ _ (bi n) (row n ⟨j1.val * 8 + j2.val / 256, _⟩) ⟨j2.val % 256 / 128 * 128 + j2.val % 128, _⟩
    = zAll _ _ _ _ (bi n) ⟨(n / 4 % 4 * 128 + j1.val) * 8 + j2.val / 256, _⟩ ⟨j2.val % 256, _⟩
  congr 1
  · exact Fin.ext (by show n / 4 % 4 * 1024 + (j1.val * 8 + j2.val / 256) = _; dsimp only; omega)
  · exact Fin.ext (by dsimp only; omega)

theorem gBlk_staged (t : Fin cfg0.N) : gBlk (hVal m c t.val) (iblk m c 4 t) = out9 m c t.val := by
  funext j; idx_vars j
  show Ideal.logistic (dotRow _ (fun q => (iblk m c 4 t : Vec Ideal S1024x2048 .bf16) (ix2 q j2))) = _
  simp only [staged_wg]
  rfl

theorem qBlk_staged (t : Fin cfg0.N) : qBlk (tailVal m c t.val) (iblk m c 5 t) (iblk m c 6 t) = out10 m c t.val := by
  funext j; idx_vars j
  show rot _ (fun k => (iblk m c 5 t : Vec Ideal S1024x256 .f32) (ix2 j1 k)) (fun k => (iblk m c 6 t : Vec Ideal S1024x256 .f32) (ix2 j1 k)) j2 * _ = _
  simp only [staged_cos, staged_sin]
  rfl

theorem kvBlk_staged (t : Fin cfg0.N) : kvBlk (tailVal m c t.val) (iblk m c 5 t) (iblk m c 6 t) = out11 m c t.val := by
  funext j; idx_vars j
  show (if j2.val < 128 then rot _ (fun k => (iblk m c 5 t : Vec Ideal S1024x256 .f32) (ix2 j1 k)) (fun k => (iblk m c 6 t : Vec Ideal S1024x256 .f32) (ix2 j1 k)) j2
    else zVal m c t.val j1 ⟨1792 + (256 + j2.val), _⟩)
    = if j2.val < 128 then rot _ (cosLane (row t.val j1)) (sinLane (row t.val j1)) j2 else zVal m c t.val j1 ⟨2048 + j2.val, _⟩
  have e : ∀ k : Fin 256, 1792 + (256 + k.val) = 2048 + k.val := fun k => by omega
  have er : (fun k : Fin 256 => tailVal m c t.val (ix2 j1 ⟨256 + k.val, by omega⟩)) = fun k : Fin 256 => zVal m c t.val j1 ⟨2048 + k.val, by omega⟩ :=
    funext fun k => congrArg (zVal m c t.val j1) (Fin.ext (e k))
  simp only [staged_cos, staged_sin, e]
  split
  · exact congrArg (fun f => rot f _ _ j2) er
  · rfl

end Cert.KernelIdeal.Hand
-- ==== Proof.CaseA.lean ====
/- What the first of a block's four points leaves: the normalised rows, the first half of the mixed columns, and the raw first
   256 columns. -/
module

public import proofs.«01_k».proof.Proof.TA
public import proofs.«01_k».proof.Proof.Blocks

@[expose] public section

set_option maxRecDepth 16384

noncomputable section

namespace Cert.KernelIdeal.Hand

open Idealize.ShloMosaic Idealize.ShloMosaic.TcCoe Idealize.ShloMosaic.Tactic
open Cert.KernelIdeal.Gen Cert.InProj

variable (c : Dev nD) (i : grid0.Coords) (arg3 : Memref sig .tc .vmem S1x1024x1024 .f32) (harg3 : arg3.IsWhole)
  (arg4 : Memref sig .tc .vmem S1x1x1024 .f32) (harg4 : arg4.IsWhole) (arg5 : Memref sig .tc .vmem S1x1x1024 .f32) (harg5 : arg5.IsWhole)
  (arg6 : Memref sig .tc .vmem S1024x1152 .bf16) (harg6 : arg6.IsWhole) (arg7 : Memref sig .tc .vmem S1024x2048 .bf16) (harg7 : arg7.IsWhole)
  (arg8 : Memref sig .tc .vmem S1024x256 .f32) (harg8 : arg8.IsWhole) (arg9 : Memref sig .tc .vmem S1024x256 .f32) (harg9 : arg9.IsWhole)
  (arg10 : Memref sig .tc .vmem S1x1024x1152 .bf16) (harg10 : arg10.IsWhole) (arg11 : Memref sig .tc .vmem S1x128x2048 .bf16) (harg11 : arg11.IsWhole)
  (arg12 : Memref sig .tc .vmem S1x1024x2048 .bf16) (harg12 : arg12.IsWhole) (arg13 : Memref sig .tc .vmem S1x1024x256 .bf16) (harg13 : arg13.IsWhole)
  (arg14 : Memref sig .tc .vmem S1x1024x256 .bf16) (harg14 : arg14.IsWhole) (arg15 : Memref sig .tc .vmem S1024x512 .f32) (harg15 : arg15.IsWhole)
  (arg16 : Memref sig .tc .vmem S2x1024x128 .f32) (harg16 : arg16.IsWhole) (arg17 : Memref sig .tc .vmem S1024x1024 .bf16) (harg17 : arg17.IsWhole)
  (hc0 : k0_cond1 i = 1#1) (hc1 : ¬ k0_cond2 i = 1#1) (hc2 : ¬ k0_cond4 i = 1#1)
  (x0 : Vec Ideal S1x1024x1024 .f32) (x1 x2 : Vec Ideal S1x1x1024 .f32) (x3 : Vec Ideal S1024x1152 .bf16) (x4 : Vec Ideal S1024x2048 .bf16)
  (x5 x6 : Vec Ideal S1024x256 .f32) (y8 : Vec Ideal S1x128x2048 .bf16) (y9 : Vec Ideal S1x1024x2048 .bf16) (y10 y11 : Vec Ideal S1x1024x256 .bf16)

/-- The buffer of normalised rows after the first point. -/
theorem caseA_h (f : arg17.view.ty.Contents (Elt Ideal)) :
    arg17.view.read (Elt Ideal) (arg17.view.writes (Elt Ideal) f (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 y8 y9 y10 y11).2.2.1) = hBlk x0 x1 x2 := by
  funext y
  refine View.read_writes_apply_of_pieces _ _ (hBlk x0 x1 x2) _ ?_ y (View.cover_of_tiledL (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 y8 y9 y10 y11).2.2.1 S512x1024.size (by sl_kernel_rfl) y)
  intro p hp j
  dsimp only [runA] at hp
  simp only [List.mem_cons, List.not_mem_nil, or_false] at hp
  rcases hp with rfl | rfl
  · idx_vars j
    rw [emb_ix2 _ _ _ (by omega) (by omega)]
    unfold runA.sl.r_2 runA.sl.r_3 k0_pay2 k0_pay1 k0_pay18
    simp only [readAt_whole]
    pointwise []
    rfl
  · idx_vars j
    rw [emb_ix2 _ _ _ (by omega) (by omega)]
    unfold k0_pay12 k0_pay11
    simp only [readAt_whole]
    pointwise []
    rfl

/-- The mixed columns of the first point. -/
theorem caseA_z (f : arg10.view.ty.Contents (Elt Ideal)) :
    arg10.view.read (Elt Ideal) (arg10.view.writes (Elt Ideal) f (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 y8 y9 y10 y11).1) = zBlk (hBlk x0 x1 x2) x3 := by
  funext y
  refine View.read_writes_apply_of_pieces _ _ (zBlk (hBlk x0 x1 x2) x3) _ ?_ y (View.cover_of_tiledL (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 y8 y9 y10 y11).1 S1x512x1152.size (by sl_kernel_rfl) y)
  intro p hp j
  dsimp only [runA] at hp
  simp only [List.mem_cons, List.not_mem_nil, or_false] at hp
  rcases hp with rfl | rfl
  · idx_vars j
    rw [emb_ix3 _ _ _ _ (by omega) (by omega) (by omega)]
    unfold runA.sl.r_2 runA.sl.r_3 k0_pay4 k0_pay3 k0_pay1 k0_pay18
    simp only [readAt_whole]
    pointwise []
    rfl
  · idx_vars j
    rw [emb_ix3 _ _ _ _ (by omega) (by omega) (by omega)]
    unfold runA.sl.r_1 k0_pay15 k0_pay14 k0_pay13 k0_pay11
    simp only [readAt_whole]
    pointwise []
    rfl

/-- The raw first 256 columns. -/
theorem caseA_tok (f : arg16.view.ty.Contents (Elt Ideal)) :
    arg16.view.read (Elt Ideal) (arg16.view.writes (Elt Ideal) f (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 y8 y9 y10 y11).2.1) = tokBlk (hBlk x0 x1 x2) x3 := by
  funext y
  refine View.read_writes_apply_of_pieces _ _ (tokBlk (hBlk x0 x1 x2) x3) _ ?_ y (View.cover_of_tiledL (runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 y8 y9 y10 y11).2.1 S1x512x128.size (by sl_kernel_rfl) y)
  intro p hp j
  dsimp only [runA] at hp
  simp only [List.mem_cons, List.not_mem_nil, or_false] at hp
  rcases hp with rfl | rfl | rfl | rfl
  · idx_vars j
    rw [emb_ix3 _ _ _ _ (by omega) (by omega) (by omega)]
    unfold runA.sl.r_2 runA.sl.r_3 k0_pay6 k0_pay3 k0_pay1 k0_pay18
    simp only [readAt_whole]
    pointwise []
    rfl
  · idx_vars j
    rw [emb_ix3 _ _ _ _ (by omega) (by omega) (by omega)]
    unfold runA.sl.r_2 runA.sl.r_3 k0_pay5 k0_pay3 k0_pay1 k0_pay18
    simp only [readAt_whole]
    pointwise []
    rw [tokBlk_zero]
    rfl
  · idx_vars j
    rw [emb_ix3 _ _ _ _ (by omega) (by omega) (by omega)]
    unfold runA.sl.r k0_pay17 k0_pay13 k0_pay11
    simp only [readAt_whole]
    pointwise []
    rfl
  · idx_vars j
    rw [emb_ix3 _ _ _ _ (by omega) (by omega) (by omega)]
    unfold runA.sl.r k0_pay16 k0_pay13 k0_pay11
    simp only [readAt_whole]
    pointwise []
    rw [tokBlk_zero]
    rfl

end Cert.KernelIdeal.Hand
end
-- ==== Proof.CaseB.lean ====
/- What the second of a block's four points leaves: the second half of the mixed columns, and its last 512 columns unrounded. -/
module

public import proofs.«01_k».proof.Proof.TB
public import proofs.«01_k».proof.Proof.Blocks

@[expose] public section

set_option maxRecDepth 16384

noncomputable section

namespace Cert.KernelIdeal.Hand

open Idealize.ShloMosaic Idealize.ShloMosaic.TcCoe Idealize.ShloMosaic.Tactic
open Cert.KernelIdeal.Gen Cert.InProj

variable (c : Dev nD) (i : grid0.Coords) (arg3 : Memref sig .tc .vmem S1x1024x1024 .f32) (harg3 : arg3.IsWhole)
  (arg4 : Memref sig .tc .vmem S1x1x1024 .f32) (harg4 : arg4.IsWhole) (arg5 : Memref sig .tc .vmem S1x1x1024 .f32) (harg5 : arg5.IsWhole)
  (arg6 : Memref sig .tc .vmem S1024x1152 .bf16) (harg6 : arg6.IsWhole) (arg7 : Memref sig .tc .vmem S1024x2048 .bf16) (harg7 : arg7.IsWhole)
  (arg8 : Memref sig .tc .vmem S1024x256 .f32) (harg8 : arg8.IsWhole) (arg9 : Memref sig .tc .vmem S1024x256 .f32) (harg9 : arg9.IsWhole)
  (arg10 : Memref sig .tc .vmem S1x1024x1152 .bf16) (harg10 : arg10.IsWhole) (arg11 : Memref sig .tc .vmem S1x128x2048 .bf16) (harg11 : arg11.IsWhole)
  (arg12 : Memref sig .tc .vmem S1x1024x2048 .bf16) (harg12 : arg12.IsWhole) (arg13 : Memref sig .tc .vmem S1x1024x256 .bf16) (harg13 : arg13.IsWhole)
  (arg14 : Memref sig .tc .vmem S1x1024x256 .bf16) (harg14 : arg14.IsWhole) (arg15 : Memref sig .tc .vmem S1024x512 .f32) (harg15 : arg15.IsWhole)
  (arg16 : Memref sig .tc .vmem S2x1024x128 .f32) (harg16 : arg16.IsWhole) (arg17 : Memref sig .tc .vmem S1024x1024 .bf16) (harg17 : arg17.IsWhole)
  (hc0 : ¬ k0_cond1 i = 1#1) (hc1 : k0_cond2 i = 1#1) (hc2 : ¬ k0_cond4 i = 1#1)
  (hc3 : (Scalar.cmpi .ne (Scalar.extui (Scalar.cmpi .eq (BitVec.ofNat 32 (i 2).val) 1#32)) 0#32) = 1#1)
  (x0 : Vec Ideal S1x1024x1024 .f32) (x1 x2 : Vec Ideal S1x1x1024 .f32) (x3 : Vec Ideal S1024x1152 .bf16) (x4 : Vec Ideal S1024x2048 .bf16)
  (x5 x6 : Vec Ideal S1024x256 .f32) (y8 : Vec Ideal S1x128x2048 .bf16) (y9 : Vec Ideal S1x1024x2048 .bf16) (y10 y11 : Vec Ideal S1x1024x256 .bf16)
  (s1 : Vec Ideal S2x1024x128 .f32) (s2 : Vec Ideal S1024x1024 .bf16)

/-- The mixed columns of the second point. -/
theorem caseB_z (f : arg10.view.ty.Contents (Elt Ideal)) :
    arg10.view.read (Elt Ideal) (arg10.view.writes (Elt Ideal) f (runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 y8 y9 y10 y11 s1 s2).1) = zBlk s2 x3 := by
  funext y
  refine View.read_writes_apply_of_pieces _ _ (zBlk s2 x3) _ ?_ y (View.cover_of_tiledL (runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 y8 y9 y10 y11 s1 s2).1 S1x1024x1152.size (by sl_kernel_rfl) y)
  intro p hp j
  dsimp only [runB] at hp
  simp only [List.mem_cons, List.not_mem_nil, or_false] at hp
  subst hp
  idx_vars j
  rw [emb_ix3 _ _ _ _ (by omega) (by omega) (by omega)]
  unfold k0_pay8 k0_pay7
  simp only [readAt_whole]
  pointwise []
  rfl

/-- The last 512 columns of the second point. -/
theorem caseB_tail (f : arg15.view.ty.Contents (Elt Ideal)) :
    arg15.view.read (Elt Ideal) (arg15.view.writes (Elt Ideal) f (runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 y8 y9 y10 y11 s1 s2).2.1) = tailBlk s2 x3 := by
  funext y
  refine View.read_writes_apply_of_pieces _ _ (tailBlk s2 x3) _ ?_ y (View.cover_of_tiledL (runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 y8 y9 y10 y11 s1 s2).2.1 S1024x512.size (by sl_kernel_rfl) y)
  intro p hp j
  dsimp only [runB] at hp
  simp only [List.mem_cons, List.not_mem_nil, or_false] at hp
  subst hp
  idx_vars j
  rw [emb_ix2 _ _ _ (by omega) (by omega)]
  unfold k0_pay9 k0_pay7
  simp only [readAt_whole]
  pointwise []
  rfl

end Cert.KernelIdeal.Hand
end
-- ==== Proof.CaseC.lean ====
/- What each of the last two of a block's four points leaves: the four outputs beside the mixed columns. -/
module

public import proofs.«01_k».proof.Proof.TC
public import proofs.«01_k».proof.Proof.Blocks

@[expose] public section

set_option maxRecDepth 16384

noncomputable section

namespace Cert.KernelIdeal.Hand

open Idealize.ShloMosaic Idealize.ShloMosaic.TcCoe Idealize.ShloMosaic.Tactic
open Cert.KernelIdeal.Gen Cert.InProj

variable (c : Dev nD) (i : grid0.Coords) (arg3 : Memref sig .tc .vmem S1x1024x1024 .f32) (harg3 : arg3.IsWhole)
  (arg4 : Memref sig .tc .vmem S1x1x1024 .f32) (harg4 : arg4.IsWhole) (arg5 : Memref sig .tc .vmem S1x1x1024 .f32) (harg5 : arg5.IsWhole)
  (arg6 : Memref sig .tc .vmem S1024x1152 .bf16) (harg6 : arg6.IsWhole) (arg7 : Memref sig .tc .vmem S1024x2048 .bf16) (harg7 : arg7.IsWhole)
  (arg8 : Memref sig .tc .vmem S1024x256 .f32) (harg8 : arg8.IsWhole) (arg9 : Memref sig .tc .vmem S1024x256 .f32) (harg9 : arg9.IsWhole)
  (arg10 : Memref sig .tc .vmem S1x1024x1152 .bf16) (harg10 : arg10.IsWhole) (arg11 : Memref sig .tc .vmem S1x128x2048 .bf16) (harg11 : arg11.IsWhole)
  (arg12 : Memref sig .tc .vmem S1x1024x2048 .bf16) (harg12 : arg12.IsWhole) (arg13 : Memref sig .tc .vmem S1x1024x256 .bf16) (harg13 : arg13.IsWhole)
  (arg14 : Memref sig .tc .vmem S1x1024x256 .bf16) (harg14 : arg14.IsWhole) (arg15 : Memref sig .tc .vmem S1024x512 .f32) (harg15 : arg15.IsWhole)
  (arg16 : Memref sig .tc .vmem S2x1024x128 .f32) (harg16 : arg16.IsWhole) (arg17 : Memref sig .tc .vmem S1024x1024 .bf16) (harg17 : arg17.IsWhole)
  (hc0 : ¬ k0_cond1 i = 1#1) (hc1 : ¬ k0_cond2 i = 1#1) (hc2 : k0_cond4 i = 1#1)
  (x0 : Vec Ideal S1x1024x1024 .f32) (x1 x2 : Vec Ideal S1x1x1024 .f32) (x3 : Vec Ideal S1024x1152 .bf16) (x4 : Vec Ideal S1024x2048 .bf16)
  (x5 x6 : Vec Ideal S1024x256 .f32) (y7 : Vec Ideal S1x1024x1152 .bf16)
  (s0 : Vec Ideal S1024x512 .f32) (s1 : Vec Ideal S2x1024x128 .f32) (s2 : Vec Ideal S1024x1024 .bf16)

/-- The raw columns, eight tokens to a row. -/
theorem caseC_u (f : arg11.view.ty.Contents (Elt Ideal)) :
    arg11.view.read (Elt Ideal) (arg11.view.writes (Elt Ideal) f (runC (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 y7 s0 s1 s2).1) = uBlk s1 := by
  funext y
  refine View.read_writes_apply_of_pieces _ _ (uBlk s1) _ ?_ y (View.cover_of_tiledL (runC (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 y7 s0 s1 s2).1 S1x128x128.size (by sl_kernel_rfl) y)
  intro p hp j
  dsimp only [runC] at hp
  simp only [List.mem_cons, List.not_mem_nil, or_false] at hp
  rcases hp with rfl | rfl | rfl | rfl | rfl | rfl | rfl | rfl | rfl | rfl | rfl | rfl | rfl | rfl | rfl | rfl
  · idx_vars j
    rw [emb_ix3 _ _ _ _ (by omega) (by omega) (by omega)]
    simp only [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, runC.sl.r, runC.sl.r_1, readAt_whole]
    pointwise []
    exact (uBlk_apply s1 1 7 (by omega) (by omega) j1 j2).symm
  · idx_vars j
    rw [emb_ix3 _ _ _ _ (by omega) (by omega) (by omega)]
    simp only [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, runC.sl.r, runC.sl.r_1, readAt_whole]
    pointwise []
    exact (uBlk_apply s1 1 6 (by omega) (by omega) j1 j2).symm
  · idx_vars j
    rw [emb_ix3 _ _ _ _ (by omega) (by omega) (by omega)]
    simp only [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, runC.sl.r, runC.sl.r_1, readAt_whole]
    pointwise []
    exact (uBlk_apply s1 1 5 (by omega) (by omega) j1 j2).symm
  · idx_vars j
    rw [emb_ix3 _ _ _ _ (by omega) (by omega) (by omega)]
    simp only [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, runC.sl.r, runC.sl.r_1, readAt_whole]
    pointwise []
    exact (uBlk_apply s1 1 4 (by omega) (by omega) j1 j2).symm
  · idx_vars j
    rw [emb_ix3 _ _ _ _ (by omega) (by omega) (by omega)]
    simp only [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, runC.sl.r, runC.sl.r_1, readAt_whole]
    pointwise []
    exact (uBlk_apply s1 1 3 (by omega) (by omega) j1 j2).symm
  · idx_vars j
    rw [emb_ix3 _ _ _ _ (by omega) (by omega) (by omega)]
    simp only [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, runC.sl.r, runC.sl.r_1, readAt_whole]
    pointwise []
    exact (uBlk_apply s1 1 2 (by omega) (by omega) j1 j2).symm
  · idx_vars j
    rw [emb_ix3 _ _ _ _ (by omega) (by omega) (by omega)]
    simp only [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, runC.sl.r, runC.sl.r_1, readAt_whole]
    pointwise []
    exact (uBlk_apply s1 1 1 (by omega) (by omega) j1 j2).symm
  · idx_vars j
    rw [emb_ix3 _ _ _ _ (by omega) (by omega) (by omega)]
    simp only [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, runC.sl.r, runC.sl.r_1, readAt_whole]
    pointwise []
    have e := uBlk_apply s1 1 0 (by omega) (by omega) j1 j2
    simp only [zero_mul, one_mul, zero_add] at e
    exact e.symm
  · idx_vars j
    rw [emb_ix3 _ _ _ _ (by omega) (by omega) (by omega)]
    simp only [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, runC.sl.r, runC.sl.r_1, readAt_whole]
    pointwise []
    exact (uBlk_apply s1 0 7 (by omega) (by omega) j1 j2).symm
  · idx_vars j
    rw [emb_ix3 _ _ _ _ (by omega) (by omega) (by omega)]
    simp only [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, runC.sl.r, runC.sl.r_1, readAt_whole]
    pointwise []
    exact (uBlk_apply s1 0 6 (by omega) (by omega) j1 j2).symm
  · idx_vars j
    rw [emb_ix3 _ _ _ _ (by omega) (by omega) (by omega)]
    simp only [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, runC.sl.r, runC.sl.r_1, readAt_whole]
    pointwise []
    exact (uBlk_apply s1 0 5 (by omega) (by omega) j1 j2).symm
  · idx_vars j
    rw [emb_ix3 _ _ _ _ (by omega) (by omega) (by omega)]
    simp only [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, runC.sl.r, runC.sl.r_1, readAt_whole]
    pointwise []
    exact (uBlk_apply s1 0 4 (by omega) (by omega) j1 j2).symm
  · idx_vars j
    rw [emb_ix3 _ _ _ _ (by omega) (by omega) (by omega)]
    simp only [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, runC.sl.r, runC.sl.r_1, readAt_whole]
    pointwise []
    exact (uBlk_apply s1 0 3 (by omega) (by omega) j1 j2).symm
  · idx_vars j
    rw [emb_ix3 _ _ _ _ (by omega) (by omega) (by omega)]
    simp only [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, runC.sl.r, runC.sl.r_1, readAt_whole]
    pointwise []
    exact (uBlk_apply s1 0 2 (by omega) (by omega) j1 j2).symm
  · idx_vars j
    rw [emb_ix3 _ _ _ _ (by omega) (by omega) (by omega)]
    simp only [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, runC.sl.r, runC.sl.r_1, readAt_whole]
    pointwise []
    exact (uBlk_apply s1 0 1 (by omega) (by omega) j1 j2).symm
  · idx_vars j
    rw [emb_ix3 _ _ _ _ (by omega) (by omega) (by omega)]
    simp only [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, runC.sl.r, runC.sl.r_1, readAt_whole]
    pointwise []
    have e := uBlk_apply s1 0 0 (by omega) (by omega) j1 j2
    simp only [zero_mul, one_mul, zero_add] at e
    exact e.symm

/-- The gates. -/
theorem caseC_g (f : arg12.view.ty.Contents (Elt Ideal)) :
    arg12.view.read (Elt Ideal) (arg12.view.writes (Elt Ideal) f (runC (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 y7 s0 s1 s2).2.1) = gBlk s2 x4 := by
  funext y
  refine View.read_writes_apply_of_pieces _ _ (gBlk s2 x4) _ ?_ y (View.cover_of_tiledL (runC (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 y7 s0 s1 s2).2.1 S1x1024x2048.size (by sl_kernel_rfl) y)
  intro p hp j
  dsimp only [runC] at hp
  simp only [List.mem_cons, List.not_mem_nil, or_false] at hp
  subst hp
  idx_vars j
  rw [emb_ix3 _ _ _ _ (by omega) (by omega) (by omega)]
  unfold k0_pay19
  simp only [readAt_whole]
  pointwise []
  rfl

/-- The rotated and scaled columns. -/
theorem caseC_q (f : arg13.view.ty.Contents (Elt Ideal)) :
    arg13.view.read (Elt Ideal) (arg13.view.writes (Elt Ideal) f (runC (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 y7 s0 s1 s2).2.2.1) = qBlk s0 x5 x6 := by
  funext y
  refine View.read_writes_apply_of_pieces _ _ (qBlk s0 x5 x6) _ ?_ y (View.cover_of_tiledL (runC (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 y7 s0 s1 s2).2.2.1 S1x1024x256.size (by sl_kernel_rfl) y)
  intro p hp j
  dsimp only [runC] at hp
  simp only [List.mem_cons, List.not_mem_nil, or_false] at hp
  subst hp
  idx_vars j
  rw [emb_ix3 _ _ _ _ (by omega) (by omega) (by omega)]
  unfold k0_pay40
  simp only [runC.sl.r_2, runC.sl.r_4, runC.sl.r_5, k0_pay38, k0_pay39, readAt_whole]
  pointwise []
  rw [firstHalf, select_ofBool, rolled fun k => s0 (ix2 j1 ⟨k.val, by omega⟩)]
  rfl

/-- The columns of which half are rotated. -/
theorem caseC_kv (f : arg14.view.ty.Contents (Elt Ideal)) :
    arg14.view.read (Elt Ideal) (arg14.view.writes (Elt Ideal) f (runC (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 y7 s0 s1 s2).2.2.2.1) = kvBlk s0 x5 x6 := by
  funext y
  refine View.read_writes_apply_of_pieces _ _ (kvBlk s0 x5 x6) _ ?_ y (View.cover_of_tiledL (runC (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 y7 s0 s1 s2).2.2.2.1 S1x1024x256.size (by sl_kernel_rfl) y)
  intro p hp j
  dsimp only [runC] at hp
  simp only [List.mem_cons, List.not_mem_nil, or_false] at hp
  subst hp
  idx_vars j
  rw [emb_ix3 _ _ _ _ (by omega) (by omega) (by omega)]
  unfold k0_pay10 k0_pay41 k0_pay43 k0_pay42
  simp only [runC.sl.r_3, runC.sl.r_4, runC.sl.r_5, k0_pay38, k0_pay39, readAt_whole]
  pointwise []
  rw [firstHalf', firstHead, select_ofBool, select_ofBool, rolled fun k => s0 (ix2 j1 ⟨256 + k.val, by omega⟩)]
  rfl

end Cert.KernelIdeal.Hand
end
-- ==== Proof.Value.lean ====
/- What the five result arrays end holding. -/
module

public import proofs.«01_k».proof.Proof.Run
public import proofs.«01_k».proof.Proof.Staged
public import proofs.«01_k».proof.Proof.CaseA
public import proofs.«01_k».proof.Proof.CaseB
public import proofs.«01_k».proof.Proof.CaseC

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.InProj

local notation "𝕄" => MT nD τ sig Unit (Elt Ideal) ℕ (UR sig nD τ) ℕ

variable (m : (ℓ : Loc nD τ sig) → Buf (Elt Ideal) ℓ) (ρ : Dev nD → PrngReg) (c : Dev nD)

/-- The contents in closed form. -/
def rowsHeld : Held m c where
  h := hVal m c
  tok := tokVal m c
  tail := tailVal m c
  out7 := out7 m c
  out8 := out8 m c
  out9 := out9 m c
  out10 := out10 m c
  out11 := out11 m c
  h_eq := hVal_eq m c
  tok_eq := tokVal_eq m c
  tail_eq := tailVal_eq m c
  out7_eq := out7_eq m c
  first_h t ht _ _ _ _ _ := (caseA_h _ _ _ _ _ _ _ _ _ _ _ _ _ _ _ _ _ _ _ _ _ _ _ _ _ _ _ _ _ _ _ _ _ _ _ _ _ _ _ _ _ _ _ _ _ _ _).trans (hBlk_staged m c t)
  first_tok t ht _ _ _ _ _ := (caseA_tok _ _ _ _ _ _ _ _ _ _ _ _ _ _ _ _ _ _ _ _ _ _ _ _ _ _ _ _ _ _ _ _ _ _ _ _ _ _ _ _ _ _ _ _ _ _ _).trans (by rw [hBlk_staged]; exact tokBlk_staged m c t ht)
  first_z t ht _ _ _ _ _ := (caseA_z _ _ _ _ _ _ _ _ _ _ _ _ _ _ _ _ _ _ _ _ _ _ _ _ _ _ _ _ _ _ _ _ _ _ _ _ _ _ _ _ _ _ _ _ _ _ _).trans (by rw [hBlk_staged]; exact zBlk_staged m c t)
  second_tail t ht _ _ _ _ _ := (caseB_tail _ _ _ _ _ _ _ _ _ _ _ _ _ _ _ _ _ _ _ _ _ _ _ _ _ _ _ _ _ _ _ _ _ _ _ _ _ _ _ _ _ _ _ _ _ _ _ _ _ _).trans (tailBlk_staged m c t ht)
  second_z t ht _ _ _ _ _ := (caseB_z _ _ _ _ _ _ _ _ _ _ _ _ _ _ _ _ _ _ _ _ _ _ _ _ _ _ _ _ _ _ _ _ _ _ _ _ _ _ _ _ _ _ _ _ _ _ _ _ _ _).trans (zBlk_staged m c t)
  late_u t ht _ _ := (caseC_u _ _ _ _ _ _ _ _ _ _ _ _ _ _ _ _ _ _ _ _ _ _ _ _ _ _ _ _ _ _ _ _ _ _ _ _ _ _ _ _ _ _ _ _ _ _ _).trans (uBlk_staged m c t.val)
  late_g t ht _ _ := (caseC_g _ _ _ _ _ _ _ _ _ _ _ _ _ _ _ _ _ _ _ _ _ _ _ _ _ _ _ _ _ _ _ _ _ _ _ _ _ _ _ _ _ _ _ _ _ _ _).trans (gBlk_staged m c t)
  late_q t ht _ _ := (caseC_q _ _ _ _ _ _ _ _ _ _ _ _ _ _ _ _ _ _ _ _ _ _ _ _ _ _ _ _ _ _ _ _ _ _ _ _ _ _ _ _ _ _ _ _ _ _ _).trans (qBlk_staged m c t)
  late_kv t ht _ _ := (caseC_kv _ _ _ _ _ _ _ _ _ _ _ _ _ _ _ _ _ _ _ _ _ _ _ _ _ _ _ _ _ _ _ _ _ _ _ _ _ _ _ _ _ _ _ _ _ _ _).trans (kvBlk_staged m c t)

/-! ## The five arrays -/

def res0 : S4x4096x2304.Idx → EReal := fun j => zOut (X m c) (SH m c) (SC m c) (W m c) (j 0) (j 1) (j 2)
def res1 : S4x512x2048.Idx → EReal := fun j => uOut (X m c) (SH m c) (SC m c) (W m c) (j 0) (j 1) (j 2)
def res2 : S4x4096x4096.Idx → EReal := fun j => gOut (X m c) (SH m c) (SC m c) (W m c) (j 0) (j 1) (j 2)
def res3 : S4x4096x256.Idx → EReal := fun j => qOut (X m c) (SH m c) (SC m c) (W m c) (j 0) (j 1) (j 2)
def res4 : S4x4096x256.Idx → EReal := fun j => kvOut (X m c) (SH m c) (SC m c) (W m c) (j 0) (j 1) (j 2)

theorem final_7 : (dats m (rowsHeld m) 0 c).arrAt 7 cfg0.N = res0 m c := by
  refine (dats m (rowsHeld m) 0 c).arrAt_eq_of_covers 7 _ (by decide +kernel) fun t hf y => ?_
  blk_simp
  rw [after_7]
  revert y
  intro (y : S1x1024x1152.Idx)
  idx_vars y
  have e : ((win0_7.blk t).view.emb (ix3 y0 y1 y2 : S1x1024x1152.Idx)) = ix3 (bi t.val) (⟨t.val / 4 % 4 * 1024 + y1.val, by omega⟩ : Fin 4096) (⟨min (t.val % 4) 1 * 1152 + y2.val, by omega⟩ : Fin 2304) := by
    blk_ext [index_7, bi]
  rw [e]
  rfl

theorem final_8 : (dats m (rowsHeld m) 0 c).arrAt 8 cfg0.N = res1 m c := by
  refine (dats m (rowsHeld m) 0 c).arrAt_eq_of_covers 8 _ (by decide +kernel) fun t hf y => ?_
  blk_simp
  rw [after_8]
  revert y
  intro (y : S1x128x2048.Idx)
  idx_vars y
  have e : ((win0_8.blk t).view.emb (ix3 y0 y1 y2 : S1x128x2048.Idx)) = ix3 (bi t.val) (⟨t.val / 4 % 4 * 128 + y1.val, by omega⟩ : Fin 512) (⟨y2.val, by omega⟩ : Fin 2048) := by
    blk_ext [index_8, bi]
  rw [e]
  rfl

theorem final_9 : (dats m (rowsHeld m) 0 c).arrAt 9 cfg0.N = res2 m c := by
  refine (dats m (rowsHeld m) 0 c).arrAt_eq_of_covers 9 _ (by decide +kernel) fun t hf y => ?_
  blk_simp
  rw [after_9]
  revert y
  intro (y : S1x1024x2048.Idx)
  idx_vars y
  have e : ((win0_9.blk t).view.emb (ix3 y0 y1 y2 : S1x1024x2048.Idx)) = ix3 (bi t.val) (⟨t.val / 4 % 4 * 1024 + y1.val, by omega⟩ : Fin 4096) (⟨(t.val % 4 - 2) * 2048 + y2.val, by omega⟩ : Fin 4096) := by
    blk_ext [index_9, bi]
  rw [e]
  rfl

theorem final_10 : (dats m (rowsHeld m) 0 c).arrAt 10 cfg0.N = res3 m c := by
  refine (dats m (rowsHeld m) 0 c).arrAt_eq_of_covers 10 _ (by decide +kernel) fun t hf y => ?_
  blk_simp
  rw [after_10]
  revert y
  intro (y : S1x1024x256.Idx)
  idx_vars y
  have e : ((win0_10.blk t).view.emb (ix3 y0 y1 y2 : S1x1024x256.Idx)) = ix3 (bi t.val) (⟨t.val / 4 % 4 * 1024 + y1.val, by omega⟩ : Fin 4096) (⟨y2.val, by omega⟩ : Fin 256) := by
    blk_ext [index_10, bi]
  rw [e]
  rfl

theorem final_11 : (dats m (rowsHeld m) 0 c).arrAt 11 cfg0.N = res4 m c := by
  refine (dats m (rowsHeld m) 0 c).arrAt_eq_of_covers 11 _ (by decide +kernel) fun t hf y => ?_
  blk_simp
  rw [after_11]
  revert y
  intro (y : S1x1024x256.Idx)
  idx_vars y
  have e : ((win0_11.blk t).view.emb (ix3 y0 y1 y2 : S1x1024x256.Idx)) = ix3 (bi t.val) (⟨t.val / 4 % 4 * 1024 + y1.val, by omega⟩ : Fin 4096) (⟨y2.val, by omega⟩ : Fin 256) := by
    blk_ext [index_11, bi]
  rw [e]
  rfl

/-- The call runs and leaves the five functions of Rows.lean as its results, its arguments unchanged. -/
theorem run_value : θ_run (defs (F := Ideal)) (onTc (τ := τ) (main (F := Ideal))) ⟨m, fun _ => 0, ρ⟩ fun r => ∀ c : Dev nD,
      r.2.mem (c.tc.loc main_v38_0) = res0 m c ∧ r.2.mem (c.tc.loc main_v38_1) = res1 m c ∧ r.2.mem (c.tc.loc main_v38_2) = res2 m c
      ∧ r.2.mem (c.tc.loc main_v38_3) = res3 m c ∧ r.2.mem (c.tc.loc main_v38_4) = res4 m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  have hp := (θ_run defs _ _).mono (fun _ h => h.1) (run_main m ρ (rowsHeld m))
  refine (θ_run defs _ _).mono (fun r h c => ?_) (θ_run_and hp (frame_of m ρ (dats m (rowsHeld m)) (fun c => dats_A m (rowsHeld m) c) hp))
  exact ⟨(h.1.out_eq c 7).trans (final_7 m c), (h.1.out_eq c 8).trans (final_8 m c), (h.1.out_eq c 9).trans (final_9 m c),
    (h.1.out_eq c 10).trans (final_10 m c), (h.1.out_eq c 11).trans (final_11 m c), h.2 c⟩

end Cert.KernelIdeal.Hand
-- ==== Proof.Reference.lean ====
/- The reference's five results, entry by entry: each is the function of rows and columns that Rows.lean names. -/
module

public import proofs.«01_k».proof.Proof.Gen.ReferenceIdeal.Run
public import proofs.«01_k».proof.Proof.Gen.ReferenceIdeal
public import proofs.«01_k».proof.Proof.Rows
public import Idealize.ShloMosaic.Lib.Pointwise
public import Idealize.ShloMosaic.Lib.Quiescent

@[expose] public section
set_option maxRecDepth 16384
noncomputable section
namespace Cert.ReferenceIdeal.Hand
open Idealize.ShloMosaic Idealize.ShloMosaic.TcCoe Idealize.ShloMosaic.Tactic
open Cert.ReferenceIdeal.Gen Cert.ReferenceIdeal.Value Cert.InProj

variable (m : (ℓ : Loc nD τ sig) → Buf (Elt Ideal) ℓ) (c : Dev nD)

/-- The tokens. -/
def X (b : Fin 4) (r : Fin 4096) (k : Fin 1024) : EReal := m (c.tc.loc main_arg0) (ix3 b r k)
/-- The shifts. -/
def SH (b : Fin 4) (k : Fin 1024) : EReal := m (c.tc.loc main_arg1) (ix3 b 0 k)
/-- The scales. -/
def SC (b : Fin 4) (k : Fin 1024) : EReal := m (c.tc.loc main_arg2) (ix3 b 0 k)
/-- The weights. -/
def W (q : Fin 1024) (n : Fin 6400) : EReal := m (c.tc.loc main_arg3) (ix2 q n)

theorem out0 (b : Fin 4) (r : Fin 4096) (k : Fin 2304) :
    res_main_v98 m c (ix3 b r k) = zOut (X m c) (SH m c) (SC m c) (W m c) b r k := by
  unfold res_main_v98
  generalize hD : Host.dotGeneral (F := Ideal) dot_S4x4096x1024_S1024x6400_S4x4096x6400_2_0_01_1_n_n none _ _ = D
  have hz : ∀ (b : Fin 4) (r : Fin 4096) (n : Fin 6400), D (ix3 b r n) = zAll (X m c) (SH m c) (SC m c) (W m c) b r n := by
    intro b r n
    rw [← hD]
    pointwise []
    rfl
  clear hD
  pointwise []
  simp only [hz, zOut]
  split
  · rfl
  · split
    · simp only [show 256 + (k.val - 256) = k.val by omega]
    · split
      · simp only [show 1024 + (k.val - 256 - 768) = k.val by omega]
      · simp only [show 1792 + (k.val - 256 - 768 - 768) = k.val by omega]

set_option maxHeartbeats 2000000 in
theorem out3 (b : Fin 4) (r : Fin 4096) (k : Fin 256) :
    res_main_v109 m c (ix3 b r k) = qOut (X m c) (SH m c) (SC m c) (W m c) b r k := by
  unfold res_main_v109
  generalize hD : Host.dotGeneral (F := Ideal) dot_S4x4096x1024_S1024x6400_S4x4096x6400_2_0_01_1_n_n none _ _ = D
  have hz : ∀ (b : Fin 4) (r : Fin 4096) (n : Fin 6400), D (ix3 b r n) = zAll (X m c) (SH m c) (SC m c) (W m c) b r n := by
    intro b r n
    rw [← hD]
    pointwise []
    rfl
  clear hD
  generalize hA' : concatenate S4096x32 1 [⟨S4096x16, _⟩, ⟨S4096x16, _⟩] _ = A
  have hA : ∀ (r : Fin 4096) (a : Fin 32), A (ix2 r a) = angle r.val a.val := by
    intro r a
    rw [← hA']
    pointwise []
    have hrow := rowWord (ix1 0) r
    have hcol := colWord r
    unfold angle freq
    by_cases h : a.val < 16
    · rw [dif_pos h, if_pos h]
      refine congrArg₂ (· * ·) (congrArg _ ?_) ?_
      · exact hrow
      · rfl
    · rw [dif_neg h, if_neg h]
      refine congrArg₂ (· * ·) (congrArg _ ?_) ?_
      · exact hcol
      · rfl
  clear hA'
  pointwise []
  simp only [hz, hA, qOut, rot]
  simp only [cosLane, sinLane, partner]
  by_cases h : k.val % 64 < 32
  · simp only [h, ↓reduceDIte, ↓reduceIte]
    simp only [show k.val % 64 = k.val % 32 by omega, mul_neg, ← sub_eq_add_neg,
      show k.val / 64 * 64 + (32 + k.val % 32) = (k.val + 32) % 256 by omega]
  · simp only [h, ↓reduceDIte, ↓reduceIte, show k.val % 64 - 32 = k.val % 32 by omega,
      show k.val / 64 * 64 + k.val % 32 = k.val - 32 by omega, show k.val / 64 * 64 + (32 + k.val % 32) = k.val by omega]
    rw [add_comm]

set_option maxHeartbeats 2000000 in
theorem out4 (b : Fin 4) (r : Fin 4096) (k : Fin 256) :
    res_main_v110 m c (ix3 b r k) = kvOut (X m c) (SH m c) (SC m c) (W m c) b r k := by
  unfold res_main_v110
  generalize hD : Host.dotGeneral (F := Ideal) dot_S4x4096x1024_S1024x6400_S4x4096x6400_2_0_01_1_n_n none _ _ = D
  have hz : ∀ (b : Fin 4) (r : Fin 4096) (n : Fin 6400), D (ix3 b r n) = zAll (X m c) (SH m c) (SC m c) (W m c) b r n := by
    intro b r n
    rw [← hD]
    pointwise []
    rfl
  clear hD
  generalize hA' : concatenate S4096x32 1 [⟨S4096x16, _⟩, ⟨S4096x16, _⟩] _ = A
  have hA : ∀ (r : Fin 4096) (a : Fin 32), A (ix2 r a) = angle r.val a.val := by
    intro r a
    rw [← hA']
    pointwise []
    have hrow := rowWord (ix1 0) r
    have hcol := colWord r
    unfold angle freq
    by_cases h : a.val < 16
    · rw [dif_pos h, if_pos h]
      refine congrArg₂ (· * ·) (congrArg _ ?_) ?_
      · exact hrow
      · rfl
    · rw [dif_neg h, if_neg h]
      refine congrArg₂ (· * ·) (congrArg _ ?_) ?_
      · exact hcol
      · rfl
  clear hA'
  pointwise []
  simp only [hz, hA, kvOut, rot]
  simp only [cosLane, sinLane, partner]
  by_cases h : k.val < 128
  · simp only [h, ↓reduceDIte, ↓reduceIte]
    by_cases h' : k.val % 64 < 32
    · simp only [h', ↓reduceDIte, ↓reduceIte]
      simp only [show k.val % 64 = k.val % 32 by omega, mul_neg, ← sub_eq_add_neg,
        show 1792 + (256 + (k.val / 64 * 64 + k.val % 32)) = 2048 + k.val by omega,
        show 1792 + (256 + (k.val / 64 * 64 + (32 + k.val % 32))) = 2048 + (k.val + 32) % 256 by omega]
    · simp only [h', ↓reduceDIte, ↓reduceIte, show k.val % 64 - 32 = k.val % 32 by omega,
        show 1792 + (256 + (k.val / 64 * 64 + k.val % 32)) = 2048 + (k.val - 32) by omega,
        show 1792 + (256 + (k.val / 64 * 64 + (32 + k.val % 32))) = 2048 + k.val by omega]
      rw [add_comm]
  · simp only [h, ↓reduceDIte, ↓reduceIte, show 1792 + (384 + (k.val - 128)) = 2048 + k.val by omega]

/-- The reference runs and leaves the five functions of Rows.lean as its results, its arguments unchanged. -/
theorem run_value (ρ : Dev nD → PrngReg) :
    θ_run (defs (F := Ideal)) (onTc (τ := τ) (main (F := Ideal))) ⟨m, fun _ => 0, ρ⟩ fun r => ∀ c : Dev nD,
      (∀ b q k, r.2.mem (c.tc.loc main_v98) (ix3 b q k) = zOut (X m c) (SH m c) (SC m c) (W m c) b q k)
      ∧ (∀ b q k, r.2.mem (c.tc.loc main_v100) (ix3 b q k) = uOut (X m c) (SH m c) (SC m c) (W m c) b q k)
      ∧ (∀ b q k, r.2.mem (c.tc.loc main_v107) (ix3 b q k) = gOut (X m c) (SH m c) (SC m c) (W m c) b q k)
      ∧ (∀ b q k, r.2.mem (c.tc.loc main_v109) (ix3 b q k) = qOut (X m c) (SH m c) (SC m c) (W m c) b q k)
      ∧ (∀ b q k, r.2.mem (c.tc.loc main_v110) (ix3 b q k) = kvOut (X m c) (SH m c) (SC m c) (W m c) b q k)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  refine (θ_run defs _ _).mono (fun r h c => ?_) (run m ρ)
  obtain ⟨h0, h1, h2, h3, h4, ha⟩ := h c
  refine ⟨fun b q k => ?_, fun b q k => ?_, fun b q k => ?_, fun b q k => ?_, fun b q k => ?_, ha⟩
  · rw [h0]; exact out0 m c b q k
  · rw [h1]
    clear h0 h1 h2 h3 h4 ha
    generalize hD : Host.dotGeneral (F := Ideal) dot_S4x4096x1024_S1024x6400_S4x4096x6400_2_0_01_1_n_n none _ _ = D
    have hz : ∀ (b : Fin 4) (r : Fin 4096) (n : Fin 6400), D (ix3 b r n) = zAll (X m c) (SH m c) (SC m c) (W m c) b r n := by
      intro b r n
      rw [← hD]
      pointwise []
      rfl
    clear hD
    pointwise []
    simp only [hz, uOut]
  · rw [h2]
    clear h0 h1 h2 h3 h4 ha
    generalize hD : Host.dotGeneral (F := Ideal) dot_S4x4096x1024_S1024x6400_S4x4096x6400_2_0_01_1_n_n none _ _ = D
    have hz : ∀ (b : Fin 4) (r : Fin 4096) (n : Fin 6400), D (ix3 b r n) = zAll (X m c) (SH m c) (SC m c) (W m c) b r n := by
      intro b r n
      rw [← hD]
      pointwise []
      rfl
    clear hD
    pointwise []
    simp only [hz, gOut]
    rfl
  · rw [h3]; exact out3 m c b q k
  · rw [h4]; exact out4 m c b q k

/-- Its arguments end unchanged; it has no semaphore. -/
theorem quiescent (ρ : Dev nD → PrngReg) : θ_run (defs (F := Ideal)) (onTc (τ := τ) (main (F := Ideal))) ⟨m, fun _ => 0, ρ⟩ fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) ∧ r.2.sem = fun _ => 0 :=
  (θ_run defs _ _).mono (fun r h => ⟨fun c => (h c).2.2.2.2.2, sem_eq_zero_of_no_sems rfl r.2⟩) (run_value m ρ)

end Cert.ReferenceIdeal.Hand
-- ==== Proof.Trunk.lean ====
/- What the layer's other two calls compute, over rows and columns given as plain functions: the residual sum normalised, the
   feed-forward network. -/
module

public import proofs.«01_k».proof.Proof.Rows

@[expose] public section

set_option maxRecDepth 16384

noncomputable section

namespace Cert.Trunk

open Idealize.ShloMosaic Cert.InProj

/-- The row that a branch's result and the tokens are summed to: the tokens scaled by the fourth root of 4, the branch by its gate. -/
def resid (x g y : Fin 1024 → EReal) (k : Fin 1024) : EReal := Ideal.ofBits FTy.f32 1068827891#32 * x k + g k * y k

/-- A row normalised to mean 0 and variance 1, then scaled by `lg` and shifted by `lb`. -/
def normed (y lg lb : Fin 1024 → EReal) (k : Fin 1024) : EReal :=
  (y k - mean y) * Ideal.rsqrt (variance y + Ideal.ofBits FTy.f32 897988541#32) * lg k + lb k

/-- The square of the positive part. -/
def relu2 (a : EReal) : EReal := max a 0 * max a 0

/-- A row through the feed-forward network of 4096 hidden units. -/
def mlpRow (h : Fin 1024 → EReal) (w1 : Fin 1024 → Fin 4096 → EReal) (w2 : Fin 4096 → Fin 1024 → EReal) (k : Fin 1024) : EReal :=
  ∑ q, relu2 (dotRow h fun p => w1 p q) * w2 q k

/-- The network's sum over its hidden units is that over the first 2048 and that over the rest. -/
theorem mlpRow_halves (h : Fin 1024 → EReal) (w1 : Fin 1024 → Fin 4096 → EReal) (w2 : Fin 4096 → Fin 1024 → EReal) (k : Fin 1024) :
    (∑ q : Fin 2048, relu2 (dotRow h fun p => w1 p ⟨q.val, by omega⟩) * w2 ⟨q.val, by omega⟩ k)
      + (∑ q : Fin 2048, relu2 (dotRow h fun p => w1 p ⟨2048 + q.val, by omega⟩) * w2 ⟨2048 + q.val, by omega⟩ k) = mlpRow h w1 w2 k :=
  (Fin.sum_univ_add (a := 2048) (b := 2048) fun q => relu2 (dotRow h fun p => w1 p q) * w2 q k).symm

theorem mlpRow_split (h : Fin 1024 → EReal) (w1 : Fin 1024 → Fin 4096 → EReal) (w2 : Fin 4096 → Fin 1024 → EReal) : mlpRow h w1 w2 = fun k =>
    (∑ q : Fin 2048, relu2 (dotRow h fun p => w1 p ⟨q.val, by omega⟩) * w2 ⟨q.val, by omega⟩ k)
      + (∑ q : Fin 2048, relu2 (dotRow h fun p => w1 p ⟨2048 + q.val, by omega⟩) * w2 ⟨2048 + q.val, by omega⟩ k) :=
  funext fun k => (mlpRow_halves h w1 w2 k).symm

/-- The feed-forward half of the layer, entry by entry. -/
def mlpOut (X : Fin 4 → Fin 4096 → Fin 1024 → EReal) (SH SC GM : Fin 4 → Fin 1024 → EReal) (W1 : Fin 1024 → Fin 4096 → EReal)
    (W2 : Fin 4096 → Fin 1024 → EReal) (LG LB : Fin 1024 → EReal) (b : Fin 4) (r : Fin 4096) (k : Fin 1024) : EReal :=
  normed (resid (X b r) (GM b) (mlpRow (hRow (X b r) (SC b) (SH b)) W1 W2)) LG LB k

end Cert.Trunk
end
-- ==== Proof.MlpRows.lean ====
/- What the feed-forward call leaves of one block: each stored row is the function of rows that Trunk.lean names. -/
module

public import proofs.«01_k».proof.Proof.Gen.Kernel2Ideal.Frame
public import proofs.«01_k».proof.Proof.Gen.Kernel2Ideal.Skeleton
public import proofs.«01_k».proof.Proof.Trunk
public import proofs.«01_k».proof.Proof.Blocks
public import Idealize.ShloMosaic.Lib.Pointwise

@[expose] public section

set_option maxRecDepth 16384

noncomputable section

namespace Cert.Kernel2Ideal.Hand

open Idealize.ShloMosaic Idealize.ShloMosaic.TcCoe Idealize.ShloMosaic.Tactic
open Cert.Kernel2Ideal Cert.Kernel2Ideal.Gen Cert.InProj Cert.Trunk

variable (x : Vec Ideal S1x512x1024 .f32) (sh sc gm : Vec Ideal S1x1x1024 .f32) (wa wb : Vec Ideal S1024x2048 .bf16)
  (va vb : Vec Ideal S2048x1024 .bf16) (lg lb : Vec Ideal S1x1024 .f32)

/-- The normalised and modulated rows. -/
theorem pay3_eq (r : Fin 512) (k : Fin 1024) : k0_pay3 x sc sh (ix2 r k)
    = hRow (fun k => x (ix3 0 r k)) (fun k => sc (ix3 0 0 k)) (fun k => sh (ix3 0 0 k)) k := by
  unfold k0_pay3 k0_pay2
  pointwise []
  rfl

/-- The first half of the hidden units. -/
theorem pay4_eq (r : Fin 512) (q : Fin 2048) : k0_pay4 x sc sh wa (ix2 r q)
    = relu2 (dotRow (hRow (fun k => x (ix3 0 r k)) (fun k => sc (ix3 0 0 k)) (fun k => sh (ix3 0 0 k))) fun p => wa (ix2 p q)) := by
  unfold k0_pay4
  pointwise []
  simp only [pay3_eq]
  rfl

theorem pay5_eq (v1 : FVec Ideal S512x1024 .f32) (h : FVec Ideal S512x1024 .bf16) (a : FVec Ideal S512x2048 .bf16) (z : Fin 1) (r : Fin 512) (k : Fin 1024) :
    k0_pay6 (k0_pay5 v1 h a va wb vb gm lg) lb (ix3 z r k)
      = normed (resid (fun k => v1 (ix2 r k)) (fun k => gm (ix3 0 0 k))
          (fun k => (∑ q : Fin 2048, a (ix2 r q) * va (ix2 q k)) + ∑ q : Fin 2048, relu2 (dotRow (fun p => h (ix2 r p)) fun p => wb (ix2 p q)) * vb (ix2 q k)))
          (fun k => lg (ix2 0 k)) (fun k => lb (ix2 0 k)) k := by
  unfold k0_pay6 k0_pay5
  pointwise []
  rfl

theorem pay1_eq (v1 : FVec Ideal S512x1024 .f32) (h : FVec Ideal S512x1024 .bf16) (wa : FVec Ideal S1024x2048 .bf16) (z : Fin 1) (r : Fin 512) (k : Fin 1024) :
    k0_pay1 (k0_pay10 v1 h wa va wb vb gm) (k0_pay11 v1 h wa va wb vb gm) lg lb (ix3 z r k)
      = normed (resid (fun k => v1 (ix2 r k)) (fun k => gm (ix3 0 0 k))
          (fun k => (∑ q : Fin 2048, relu2 (dotRow (fun p => h (ix2 r p)) fun p => wa (ix2 p q)) * va (ix2 q k)) + ∑ q : Fin 2048, relu2 (dotRow (fun p => h (ix2 r p)) fun p => wb (ix2 p q)) * vb (ix2 q k)))
          (fun k => lg (ix2 0 k)) (fun k => lb (ix2 0 k)) k := by
  unfold k0_pay1 k0_pay11 k0_pay10
  pointwise []
  rfl

theorem pay8_eq (r : Fin 512) (k : Fin 1024) : k0_pay8 x sc sh (ix2 r k)
    = hRow (fun k => x (ix3 0 r k)) (fun k => sc (ix3 0 0 k)) (fun k => sh (ix3 0 0 k)) k := by
  unfold k0_pay8 k0_pay7
  pointwise []
  rfl

theorem pay2_eq (r : Fin 512) (k : Fin 1024) : k0_pay2 x (ix2 r k) = x (ix3 0 r k) := by
  unfold k0_pay2
  pointwise []
theorem pay7_eq (r : Fin 512) (k : Fin 1024) : k0_pay7 x (ix2 r k) = x (ix3 0 r k) := by
  unfold k0_pay7
  pointwise []
theorem pay9_eq (p : Fin 1024) (q : Fin 2048) : k0_pay9 wa (ix2 p q) = wa (ix2 p q) := by
  unfold k0_pay9
  pointwise []

end Cert.Kernel2Ideal.Hand
end
-- ==== Proof.MlpBlock.lean ====
/- The feed-forward call's windows as rows and columns of the arguments, and its result array. -/
module

public import proofs.«01_k».proof.Proof.MlpRows
public import proofs.«01_k».proof.Proof.Gen.Kernel2Ideal.Value
public import Idealize.ShloMosaic.Lib.StableHlo.ReadAt
public import Idealize.ShloMosaic.Lib.Pipeline.ValueKit

@[expose] public section

set_option maxRecDepth 16384

noncomputable section

namespace Cert.Kernel2Ideal.Hand

open Idealize.ShloMosaic Idealize.ShloMosaic.TcCoe Idealize.ShloMosaic.Tactic Idealize.SL.Sem
open Cert.Kernel2Ideal Cert.Kernel2Ideal.Gen Cert.InProj Cert.Trunk
open Cert.KernelIdeal.Hand (emb_ix2 emb_ix3)

/-! ## The body's loads -/

theorem ld_x0 (x : Vec Ideal S1x1024x1024 .f32) : View.ld x r0_0
    = fun j : S1x512x1024.Idx => x (ix3 0 ⟨(j 1).val, (j 1).isLt.trans (by decide)⟩ (j 2)) := by
  funext (j : S1x512x1024.Idx)
  idx_vars j
  refine (congrArg x (emb_ix3 _ _ _ _ (by omega) (by omega) (by omega))).trans ?_
  simp only [zero_add, Fin.val_eq_zero]; rfl
theorem ld_x7 (x : Vec Ideal S1x1024x1024 .f32) : View.ld x r0_7
    = fun j : S1x512x1024.Idx => x (ix3 0 ⟨512 + (j 1).val, Nat.add_lt_add_left (j 1).isLt 512⟩ (j 2)) := by
  funext (j : S1x512x1024.Idx)
  idx_vars j
  refine (congrArg x (emb_ix3 _ _ _ _ (by omega) (by omega) (by omega))).trans ?_
  simp only [zero_add, Fin.val_eq_zero]; rfl
theorem ld_mod (x : Vec Ideal S1x1x1024 .f32) : View.ld x r0_1 = x := by
  funext (j : S1x1x1024.Idx)
  idx_vars j
  refine (congrArg x (emb_ix3 _ _ _ _ (by omega) (by omega) (by omega))).trans ?_
  simp only [zero_add]
theorem ld_ln (x : Vec Ideal S1x1024 .f32) : View.ld x r0_6 = x := by
  funext (j : S1x1024.Idx)
  idx_vars j
  refine (congrArg x (emb_ix2 _ _ _ (by omega) (by omega))).trans ?_
  simp only [zero_add]
theorem ld_w1a (x : Vec Ideal S1024x4096 .bf16) : View.ld x r0_2
    = fun j : S1024x2048.Idx => x (ix2 (j 0) ⟨(j 1).val, (j 1).isLt.trans (by decide)⟩) := by
  funext (j : S1024x2048.Idx)
  idx_vars j
  refine (congrArg x (emb_ix2 _ _ _ (by omega) (by omega))).trans ?_
  simp only [zero_add]
theorem ld_w1b (x : Vec Ideal S1024x4096 .bf16) : View.ld x r0_4
    = fun j : S1024x2048.Idx => x (ix2 (j 0) ⟨2048 + (j 1).val, Nat.add_lt_add_left (j 1).isLt 2048⟩) := by
  funext (j : S1024x2048.Idx)
  idx_vars j
  refine (congrArg x (emb_ix2 _ _ _ (by omega) (by omega))).trans ?_
  simp only [zero_add]
theorem ld_w2a (x : Vec Ideal S4096x1024 .bf16) : View.ld x r0_3
    = fun j : S2048x1024.Idx => x (ix2 ⟨(j 0).val, (j 0).isLt.trans (by decide)⟩ (j 1)) := by
  funext (j : S2048x1024.Idx)
  idx_vars j
  refine (congrArg x (emb_ix2 _ _ _ (by omega) (by omega))).trans ?_
  simp only [zero_add]
theorem ld_w2b (x : Vec Ideal S4096x1024 .bf16) : View.ld x r0_5
    = fun j : S2048x1024.Idx => x (ix2 ⟨2048 + (j 0).val, Nat.add_lt_add_left (j 0).isLt 2048⟩ (j 1)) := by
  funext (j : S2048x1024.Idx)
  idx_vars j
  refine (congrArg x (emb_ix2 _ _ _ (by omega) (by omega))).trans ?_
  simp only [zero_add]

section Stored

variable (x : Vec Ideal S1x1024x1024 .f32) (sh sc gm : Vec Ideal S1x1x1024 .f32) (w1 : Vec Ideal S1024x4096 .bf16) (w2 : Vec Ideal S4096x1024 .bf16)
  (lg lb : Vec Ideal S1x1024 .f32)

theorem pay12_eq (r : Fin 512) (k : Fin 1024) : k0_pay12 x sh sc gm w1 w2 lg lb (ix2 r k) = x (ix3 0 ⟨512 + r.val, by omega⟩ k) := by
  unfold k0_pay12
  rw [pay7_eq, ld_x7]
  rfl
theorem pay13_eq (r : Fin 512) (k : Fin 1024) : k0_pay13 x sh sc gm w1 w2 lg lb (ix2 r k)
    = hRow (fun k => x (ix3 0 ⟨512 + r.val, by omega⟩ k)) (fun k => sc (ix3 0 0 k)) (fun k => sh (ix3 0 0 k)) k := by
  unfold k0_pay13
  rw [pay8_eq, ld_x7, ld_mod, ld_mod]
  rfl
theorem pay14_eq (p : Fin 1024) (q : Fin 2048) : k0_pay14 x sh sc gm w1 w2 lg lb (ix2 p q) = w1 (ix2 p ⟨q.val, by omega⟩) := by
  unfold k0_pay14
  rw [pay9_eq, ld_w1a]
  rfl

end Stored

/-- The block of results, as a function of the blocks staged. -/
def mlpBlk (x : Vec Ideal S1x1024x1024 .f32) (sh sc gm : Vec Ideal S1x1x1024 .f32) (w1 : Vec Ideal S1024x4096 .bf16) (w2 : Vec Ideal S4096x1024 .bf16)
    (lg lb : Vec Ideal S1x1024 .f32) : Vec Ideal S1x1024x1024 .f32 :=
  fun j => normed (resid (fun k => x (ix3 0 (j 1) k)) (fun k => gm (ix3 0 0 k))
    (mlpRow (hRow (fun k => x (ix3 0 (j 1) k)) (fun k => sc (ix3 0 0 k)) (fun k => sh (ix3 0 0 k))) (fun p q => w1 (ix2 p q)) fun q k => w2 (ix2 q k)))
    (fun k => lg (ix2 0 k)) (fun k => lb (ix2 0 k)) (j 2)

theorem mlpBlk_ix3 (x : Vec Ideal S1x1024x1024 .f32) (sh sc gm : Vec Ideal S1x1x1024 .f32) (w1 : Vec Ideal S1024x4096 .bf16) (w2 : Vec Ideal S4096x1024 .bf16)
    (lg lb : Vec Ideal S1x1024 .f32) (a : Fin 1) (r k : Fin 1024) : mlpBlk x sh sc gm w1 w2 lg lb (ix3 a r k)
      = normed (resid (fun k => x (ix3 0 r k)) (fun k => gm (ix3 0 0 k))
          (mlpRow (hRow (fun k => x (ix3 0 r k)) (fun k => sc (ix3 0 0 k)) (fun k => sh (ix3 0 0 k))) (fun p q => w1 (ix2 p q)) fun q k => w2 (ix2 q k)))
          (fun k => lg (ix2 0 k)) (fun k => lb (ix2 0 k)) k := rfl

theorem out_eq (x : Vec Ideal S1x1024x1024 .f32) (sh sc gm : Vec Ideal S1x1x1024 .f32) (w1 : Vec Ideal S1024x4096 .bf16) (w2 : Vec Ideal S4096x1024 .bf16)
    (lg lb : Vec Ideal S1x1024 .f32) : out0_8 x sh sc gm w1 w2 lg lb = mlpBlk x sh sc gm w1 w2 lg lb := by
  funext y
  unfold out0_8
  refine View.canon_apply_of_pieces (mlpBlk x sh sc gm w1 w2 lg lb) _ ?_ y (cover0_8 _ _ y)
  intro p hp j
  simp only [List.mem_cons, List.not_mem_nil, or_false] at hp
  rcases hp with rfl | rfl
  · revert j
    intro (j : S1x512x1024.Idx)
    idx_vars j
    rw [emb_ix3 _ _ _ _ (by omega) (by omega) (by omega)]
    rw [pay1_eq, mlpBlk_ix3, mlpRow_split, ld_mod, ld_w1b, ld_w2a, ld_w2b, ld_ln, ld_ln]
    simp only [pay12_eq, pay13_eq, pay14_eq, zero_add]
    rfl
  · revert j
    intro (j : S1x512x1024.Idx)
    idx_vars j
    rw [emb_ix3 _ _ _ _ (by omega) (by omega) (by omega)]
    rw [pay5_eq, mlpBlk_ix3, mlpRow_split, ld_x0, ld_mod, ld_mod, ld_mod, ld_w1a, ld_w1b, ld_w2a, ld_w2b, ld_ln, ld_ln]
    simp only [pay2_eq, pay3_eq, pay4_eq, zero_add]
    rfl

variable (m : (ℓ : Loc nD τ sig) → Buf (Elt Ideal) ℓ) (ρ : Dev nD → PrngReg) (c : Dev nD)

/-- The tokens. -/
def X (b : Fin 4) (r : Fin 4096) (k : Fin 1024) : EReal := m (c.tc.loc main_arg0) (ix3 b r k)
/-- The shifts. -/
def SH (b : Fin 4) (k : Fin 1024) : EReal := m (c.tc.loc main_arg1) (ix3 b 0 k)
/-- The scales. -/
def SC (b : Fin 4) (k : Fin 1024) : EReal := m (c.tc.loc main_arg2) (ix3 b 0 k)
/-- The gates. -/
def GM (b : Fin 4) (k : Fin 1024) : EReal := m (c.tc.loc main_arg3) (ix3 b 0 k)
/-- The weights into the hidden units. -/
def W1 (p : Fin 1024) (q : Fin 4096) : EReal := m (c.tc.loc main_arg4) (ix2 p q)
/-- The weights out of them. -/
def W2 (q : Fin 4096) (k : Fin 1024) : EReal := m (c.tc.loc main_arg5) (ix2 q k)
/-- The last normalisation's scale. -/
def LG (k : Fin 1024) : EReal := m (c.tc.loc main_arg6) (ix1 k)
/-- The last normalisation's shift. -/
def LB (k : Fin 1024) : EReal := m (c.tc.loc main_arg7) (ix1 k)

/-- The batch of point `n`. -/
def bi (n : ℕ) : Fin 4 := ⟨n / 4 % 4, by omega⟩
/-- Row `r` of point `n`'s block of tokens. -/
def row (n : ℕ) (r : Fin 1024) : Fin 4096 := ⟨n % 4 * 1024 + r.val, by omega⟩

theorem index_0 : ∀ t : Fin cfg0.N, win0_0.index t = ![t.val / 4 % 4, t.val % 4, 0] := (by decide +kernel : ∀ t : Fin grid0.N, _)
theorem index_1 : ∀ t : Fin cfg0.N, win0_1.index t = ![t.val / 4 % 4, 0, 0] := (by decide +kernel : ∀ t : Fin grid0.N, _)
theorem index_2 : ∀ t : Fin cfg0.N, win0_2.index t = ![t.val / 4 % 4, 0, 0] := (by decide +kernel : ∀ t : Fin grid0.N, _)
theorem index_3 : ∀ t : Fin cfg0.N, win0_3.index t = ![t.val / 4 % 4, 0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![t.val / 4 % 4, t.val % 4, 0] := (by decide +kernel : ∀ t : Fin grid0.N, _)

theorem V_w1 (p : Fin 1024) (q : Fin 4096) : V m c main_v0 (ix2 p q) = W1 m c p q := by
  simp only [V, hostOps0, StableHlo.TRef.unary, StableHlo.TRef.toBuf, StableHlo.TRef.ofBuf, cast_eq]
  after_results_simp
  rfl
theorem V_w2 (q : Fin 4096) (k : Fin 1024) : V m c main_v1 (ix2 q k) = W2 m c q k := by
  simp only [V, hostOps0, StableHlo.TRef.unary, StableHlo.TRef.toBuf, StableHlo.TRef.ofBuf, cast_eq]
  after_results_simp
  rfl
theorem V_lg (k : Fin 1024) : V m c main_v2 (ix2 0 k) = LG m c k := by
  simp only [V, hostOps0, StableHlo.TRef.unary, StableHlo.TRef.toBuf, StableHlo.TRef.ofBuf, cast_eq]
  after_results_simp
  clean_types
  pointwise []
  rfl
theorem V_lb (k : Fin 1024) : V m c main_v3 (ix2 0 k) = LB m c k := by
  simp only [V, hostOps0, StableHlo.TRef.unary, StableHlo.TRef.toBuf, StableHlo.TRef.ofBuf, cast_eq]
  after_results_simp
  clean_types
  pointwise []
  rfl

theorem staged_x (t : Fin cfg0.N) (r k : Fin 1024) : (iblk m c 0 t : Vec Ideal S1x1024x1024 .f32) (ix3 0 r k) = X m c (bi t.val) (row t.val r) k := by
  show V m c main_arg0 ((win0_0.blk t).view.emb (ix3 0 r k)) = _
  rw [V_main_arg0]
  unfold X
  refine congrArg _ ?_
  blk_ext [index_0, bi, row]
theorem staged_sh (t : Fin cfg0.N) (k : Fin 1024) : (iblk m c 1 t : Vec Ideal S1x1x1024 .f32) (ix3 0 0 k) = SH m c (bi t.val) k := by
  show V m c main_arg1 ((win0_1.blk t).view.emb (ix3 0 0 k)) = _
  rw [V_main_arg1]
  unfold SH
  refine congrArg _ ?_
  blk_ext [index_1, bi]
theorem staged_sc (t : Fin cfg0.N) (k : Fin 1024) : (iblk m c 2 t : Vec Ideal S1x1x1024 .f32) (ix3 0 0 k) = SC m c (bi t.val) k := by
  show V m c main_arg2 ((win0_2.blk t).view.emb (ix3 0 0 k)) = _
  rw [V_main_arg2]
  unfold SC
  refine congrArg _ ?_
  blk_ext [index_2, bi]
theorem staged_gm (t : Fin cfg0.N) (k : Fin 1024) : (iblk m c 3 t : Vec Ideal S1x1x1024 .f32) (ix3 0 0 k) = GM m c (bi t.val) k := by
  show V m c main_arg3 ((win0_3.blk t).view.emb (ix3 0 0 k)) = _
  rw [V_main_arg3]
  unfold GM
  refine congrArg _ ?_
  blk_ext [index_3, bi]
theorem staged_w1 (t : Fin cfg0.N) (p : Fin 1024) (q : Fin 4096) : (iblk m c 4 t : Vec Ideal S1024x4096 .bf16) (ix2 p q) = W1 m c p q := by
  rw [← V_w1]
  show V m c main_v0 ((win0_4.blk t).view.emb (ix2 p q)) = _
  refine congrArg _ ?_
  blk_ext [index_4]
theorem staged_w2 (t : Fin cfg0.N) (q : Fin 4096) (k : Fin 1024) : (iblk m c 5 t : Vec Ideal S4096x1024 .bf16) (ix2 q k) = W2 m c q k := by
  rw [← V_w2]
  show V m c main_v1 ((win0_5.blk t).view.emb (ix2 q k)) = _
  refine congrArg _ ?_
  blk_ext [index_5]
theorem staged_lg (t : Fin cfg0.N) (k : Fin 1024) : (iblk m c 6 t : Vec Ideal S1x1024 .f32) (ix2 0 k) = LG m c k := by
  rw [← V_lg]
  show V m c main_v2 ((win0_6.blk t).view.emb (ix2 0 k)) = _
  refine congrArg _ ?_
  blk_ext [index_6]
theorem staged_lb (t : Fin cfg0.N) (k : Fin 1024) : (iblk m c 7 t : Vec Ideal S1x1024 .f32) (ix2 0 k) = LB m c k := by
  rw [← V_lb]
  show V m c main_v3 ((win0_7.blk t).view.emb (ix2 0 k)) = _
  refine congrArg _ ?_
  blk_ext [index_7]

/-- The result array. -/
def res : S4x4096x1024.Idx → EReal :=
  fun j => mlpOut (X m c) (SH m c) (SC m c) (GM m c) (W1 m c) (W2 m c) (LG m c) (LB m c) (j 0) (j 1) (j 2)

theorem blk_staged (t : Fin cfg0.N) :
    mlpBlk (iblk m c 0 t) (iblk m c 1 t) (iblk m c 2 t) (iblk m c 3 t) (iblk m c 4 t) (iblk m c 5 t) (iblk m c 6 t) (iblk m c 7 t)
      = fun j => mlpOut (X m c) (SH m c) (SC m c) (GM m c) (W1 m c) (W2 m c) (LG m c) (LB m c) (bi t.val) (row t.val (j 1)) (j 2) := by
  funext j
  idx_vars j
  rw [mlpBlk_ix3]
  simp only [staged_x, staged_sh, staged_sc, staged_gm, staged_w1, staged_w2, staged_lg, staged_lb]
  rfl

theorem final : (dats m 0 c).arrAt 8 cfg0.N = res m c := by
  refine (dats m 0 c).arrAt_eq_of_covers 8 _ (by decide +kernel) fun t hf y => ?_
  blk_simp
  rw [after0_8, out_eq, blk_staged]
  revert y
  intro (y : S1x1024x1024.Idx)
  idx_vars y
  have e : ((win0_8.blk t).view.emb (ix3 y0 y1 y2 : S1x1024x1024.Idx)) = ix3 (bi t.val) (row t.val y1) (⟨y2.val, by omega⟩ : Fin 1024) := by
    blk_ext [index_8, bi, row]
  rw [e]
  rfl

/-- The call runs and leaves the function of Trunk.lean as its result, its arguments unchanged. -/
theorem run_value : θ_run (defs (F := Ideal)) (onTc (τ := τ) (main (F := Ideal))) ⟨m, fun _ => 0, ρ⟩ fun r => ∀ c : Dev nD,
      r.2.mem (c.tc.loc main_v4) = res m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7) :=
  (θ_run defs _ _).mono (fun _ h c => ⟨(h c).1.trans (final m c), (h c).2⟩) (Value.run_blocks m ρ)

end Cert.Kernel2Ideal.Hand
end
-- ==== Proof.MlpReference.lean ====
/- The feed-forward reference's result, entry by entry: the function of rows that Trunk.lean names. -/
module

public import proofs.«01_k».proof.Proof.Gen.Reference2Ideal.Run
public import proofs.«01_k».proof.Proof.Gen.Reference2Ideal
public import proofs.«01_k».proof.Proof.Trunk
public import Idealize.ShloMosaic.Lib.Pointwise
public import Idealize.ShloMosaic.Lib.Quiescent

@[expose] public section
set_option maxRecDepth 16384
noncomputable section
namespace Cert.Reference2Ideal.Hand
open Idealize.ShloMosaic Idealize.ShloMosaic.TcCoe Idealize.ShloMosaic.Tactic
open Cert.Reference2Ideal Cert.Reference2Ideal.Gen Cert.Reference2Ideal.Value Cert.InProj Cert.Trunk

variable (m : (ℓ : Loc nD τ sig) → Buf (Elt Ideal) ℓ) (c : Dev nD)

/-- The tokens. -/
def X (b : Fin 4) (r : Fin 4096) (k : Fin 1024) : EReal := m (c.tc.loc main_arg0) (ix3 b r k)
/-- The shifts. -/
def SH (b : Fin 4) (k : Fin 1024) : EReal := m (c.tc.loc main_arg1) (ix3 b 0 k)
/-- The scales. -/
def SC (b : Fin 4) (k : Fin 1024) : EReal := m (c.tc.loc main_arg2) (ix3 b 0 k)
/-- The gates. -/
def GM (b : Fin 4) (k : Fin 1024) : EReal := m (c.tc.loc main_arg3) (ix3 b 0 k)
/-- The weights into the hidden units. -/
def W1 (p : Fin 1024) (q : Fin 4096) : EReal := m (c.tc.loc main_arg4) (ix2 p q)
/-- The weights out of them. -/
def W2 (q : Fin 4096) (k : Fin 1024) : EReal := m (c.tc.loc main_arg5) (ix2 q k)
/-- The last normalisation's scale. -/
def LG (k : Fin 1024) : EReal := m (c.tc.loc main_arg6) (ix1 k)
/-- The last normalisation's shift. -/
def LB (k : Fin 1024) : EReal := m (c.tc.loc main_arg7) (ix1 k)

set_option maxHeartbeats 2000000 in
theorem out (b : Fin 4) (r : Fin 4096) (k : Fin 1024) :
    res_main_v56 m c (ix3 b r k) = mlpOut (X m c) (SH m c) (SC m c) (GM m c) (W1 m c) (W2 m c) (LG m c) (LB m c) b r k := by
  unfold res_main_v56
  generalize hD : Host.dotGeneral (F := Ideal) dot_S4x4096x1024_S1024x4096_S4x4096x4096_2_0_01_1_n_n none _ _ = D
  have hz : ∀ (b : Fin 4) (r : Fin 4096) (q : Fin 4096), D (ix3 b r q) = dotRow (hRow (X m c b r) (SC m c b) (SH m c b)) fun p => W1 m c p q := by
    intro b r q
    rw [← hD]
    pointwise []
    rfl
  clear hD
  generalize hE : Host.dotGeneral (F := Ideal) dot_S4x4096x4096_S4096x1024_S4x4096x1024_2_0_01_1_n_n none _ _ = E
  have hy : ∀ (b : Fin 4) (r : Fin 4096) (k : Fin 1024), E (ix3 b r k) = mlpRow (hRow (X m c b r) (SC m c b) (SH m c b)) (W1 m c) (W2 m c) k := by
    intro b r k
    rw [← hE]
    pointwise []
    simp only [hz]
    rfl
  clear hE hz
  pointwise []
  simp only [hy]
  rfl

/-- The reference runs and leaves that function as its result, its arguments unchanged. -/
theorem run_value (ρ : Dev nD → PrngReg) :
    θ_run (defs (F := Ideal)) (onTc (τ := τ) (main (F := Ideal))) ⟨m, fun _ => 0, ρ⟩ fun r => ∀ c : Dev nD,
      (∀ b q k, r.2.mem (c.tc.loc main_v56) (ix3 b q k) = mlpOut (X m c) (SH m c) (SC m c) (GM m c) (W1 m c) (W2 m c) (LG m c) (LB m c) b q k)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7) := by
  refine (θ_run defs _ _).mono (fun r h c => ⟨fun b q k => ?_, (h c).2⟩) (run m ρ)
  rw [(h c).1]; exact out m c b q k

/-- Its arguments end unchanged; it has no semaphore. -/
theorem quiescent (ρ : Dev nD → PrngReg) : θ_run (defs (F := Ideal)) (onTc (τ := τ) (main (F := Ideal))) ⟨m, fun _ => 0, ρ⟩ fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)) ∧ r.2.sem = fun _ => 0 :=
  (θ_run defs _ _).mono (fun r h => ⟨fun c => (h c).2, sem_eq_zero_of_no_sems rfl r.2⟩) (run_value m ρ)

end Cert.Reference2Ideal.Hand
-- ==== Proof.MergeSpec.lean ====
/- What the merge computes, over rows and columns given as plain functions: the gated unit of the first branch, the gated sum of the
   four branches' projections. -/
module

public import proofs.«01_k».proof.Proof.Trunk

@[expose] public section

set_option maxRecDepth 16384

noncomputable section

namespace Cert.Trunk

open Idealize.ShloMosaic Cert.InProj

/-- The Gaussian error unit in its hyperbolic tangent form. -/
def gelu (v : EReal) : EReal :=
  v * (Ideal.ofBits FTy.f32 1056964608#32 * (1
    + Ideal.tanh (Ideal.ofBits FTy.f32 1061962282#32 * (v + Ideal.ofBits FTy.f32 1027024659#32 * (v * (v * v))))))

/-- A row through the gated unit. -/
def gluRow (s : Fin 256 → EReal) (w : Fin 256 → Fin 256 → EReal) (k : Fin 256) : EReal :=
  gelu (s k) * Ideal.logistic (∑ p, gelu (s p) * w p k)

/-- A branch's row through its columns of weights. -/
def proj (h : Fin 256 → EReal) (w : Fin 256 → Fin 1024 → EReal) (k : Fin 1024) : EReal := ∑ p, h p * w p k

/-- The four branches' projections, each scaled by its gates, summed. -/
def mixRow (h : Fin 4 → Fin 256 → EReal) (w : Fin 4 → Fin 256 → Fin 1024 → EReal) (g : Fin 4 → Fin 1024 → EReal) (k : Fin 1024) : EReal :=
  g 0 k * proj (h 0) (w 0) k + g 1 k * proj (h 1) (w 1) k + g 2 k * proj (h 2) (w 2) k + g 3 k * proj (h 3) (w 3) k

/-- The merge of one token: the residual with the mixed branches, normalised. -/
def mergeRow (x gm : Fin 1024 → EReal) (h : Fin 4 → Fin 256 → EReal) (wb : Fin 4 → Fin 256 → Fin 1024 → EReal) (g : Fin 4 → Fin 1024 → EReal)
    (wo : Fin 1024 → Fin 1024 → EReal) (lg lb : Fin 1024 → EReal) : Fin 1024 → EReal :=
  normed (resid x gm fun k => ∑ p, mixRow h wb g p * wo p k) lg lb

/-- The four branches' rows of a token. -/
def rows4 (s h n w : Fin 256 → EReal) (wg : Fin 256 → Fin 256 → EReal) : Fin 4 → Fin 256 → EReal := ![gluRow s wg, h, n, w]

/-- The first half of the layer's end, entry by entry. -/
def mergeOut (X : Fin 4 → Fin 4096 → Fin 1024 → EReal) (S H N A : Fin 4 → Fin 4096 → Fin 256 → EReal) (G : Fin 4 → Fin 4096 → Fin 4 → Fin 1024 → EReal)
    (GM : Fin 4 → Fin 1024 → EReal) (WG : Fin 256 → Fin 256 → EReal) (WB : Fin 4 → Fin 256 → Fin 1024 → EReal) (WO : Fin 1024 → Fin 1024 → EReal)
    (LG LB : Fin 1024 → EReal) (b : Fin 4) (r : Fin 4096) (k : Fin 1024) : EReal :=
  mergeRow (X b r) (GM b) (rows4 (S b r) (H b r) (N b r) (A b r) WG) WB (G b r) WO LG LB k

end Cert.Trunk
end
-- ==== Proof.MergeRows.lean ====
/- What the merge call leaves of one block: each stored row is the function of rows that MergeSpec.lean names. -/
module

public import proofs.«01_k».proof.Proof.Gen.Kernel3Ideal.Frame
public import proofs.«01_k».proof.Proof.Gen.Kernel3Ideal.Skeleton
public import proofs.«01_k».proof.Proof.MergeSpec
public import proofs.«01_k».proof.Proof.Blocks
public import Idealize.ShloMosaic.Lib.Pointwise

@[expose] public section

set_option maxRecDepth 16384

noncomputable section

namespace Cert.Kernel3Ideal.Hand

open Idealize.ShloMosaic Idealize.ShloMosaic.TcCoe Idealize.ShloMosaic.Tactic
open Cert.Kernel3Ideal Cert.Kernel3Ideal.Gen Cert.InProj Cert.Trunk

/-- A row of the first branch's input, its two halves of 128 columns side by side. -/
def joined (a b : Vec Ideal S1x512x128 .f32) (r : Fin 512) (p : Fin 256) : EReal :=
  if h : p.val < 128 then a (ix3 0 r ⟨p.val, h⟩) else b (ix3 0 r ⟨p.val - 128, by omega⟩)

/-- A sum over 256 columns, half by half. -/
theorem sum_halves (f : Fin 256 → EReal) : ∑ p, f p = (∑ x : Fin 128, f ⟨x.val, by omega⟩) + ∑ x : Fin 128, f ⟨128 + x.val, by omega⟩ :=
  Fin.sum_univ_add (a := 128) (b := 128) f

theorem joined_left (a b : Vec Ideal S1x512x128 .f32) (r : Fin 512) (x : Fin 128) (h : x.val < 256) : joined a b r ⟨x.val, h⟩ = a (ix3 0 r x) :=
  dif_pos x.isLt

theorem joined_right (a b : Vec Ideal S1x512x128 .f32) (r : Fin 512) (x : Fin 128) (h : 128 + x.val < 256) : joined a b r ⟨128 + x.val, h⟩ = b (ix3 0 r x) := by
  have e : (⟨128 + x.val - 128, by omega⟩ : Fin 128) = x := Fin.ext (by simp)
  unfold joined
  rw [dif_neg (by simp)]
  exact congrArg (fun k => b (ix3 0 r k)) e

/-- The gated unit's rows. -/
theorem pay21_eq (a b : Vec Ideal S1x512x128 .f32) (w : Vec Ideal S256x256 .bf16) (r : Fin 512) (k : Fin 256) : k0_pay21 a b w (ix2 r k)
    = gluRow (joined a b r) (fun p k => w (ix2 p k)) k := by
  unfold k0_pay21
  unfold gluRow
  rw [sum_halves]
  simp only [joined_left, joined_right]
  pointwise []
  rfl

theorem pay28_eq (a b : Vec Ideal S1x512x128 .f32) (w : Vec Ideal S256x256 .bf16) (r : Fin 512) (k : Fin 256) : k0_pay28 a b w (ix2 r k)
    = gluRow (joined a b r) (fun p k => w (ix2 p k)) k := pay21_eq a b w r k

theorem pay22_eq (a : Vec Ideal S1x512x256 .f32) (r : Fin 512) (k : Fin 256) : k0_pay22 a (ix2 r k) = a (ix3 0 r k) := by
  unfold k0_pay22
  pointwise []
theorem pay24_eq (a : Vec Ideal S1x512x256 .f32) (r : Fin 512) (k : Fin 256) : k0_pay24 a (ix2 r k) = a (ix3 0 r k) := by
  unfold k0_pay24
  pointwise []
theorem pay25_eq (a : Vec Ideal S1x256x1024 .bf16) (p : Fin 256) (k : Fin 1024) : k0_pay25 a (ix2 p k) = a (ix3 0 p k) := by
  unfold k0_pay25
  pointwise []
theorem pay29_eq (a : Vec Ideal S1x512x256 .f32) (r : Fin 512) (k : Fin 256) : k0_pay29 a (ix2 r k) = a (ix3 0 r k) := pay22_eq a r k
theorem pay30_eq (a : Vec Ideal S1x512x256 .f32) (r : Fin 512) (k : Fin 256) : k0_pay30 a (ix2 r k) = a (ix3 0 r k) := pay22_eq a r k

theorem pay23_eq (s h : FVec Ideal S512x256 .f32) (n : Vec Ideal S1x512x256 .f32) (w0 : Vec Ideal S1x256x1024 .bf16) (g0 : Vec Ideal S1x512x1024 .bf16)
    (w1 : Vec Ideal S1x256x1024 .bf16) (g1 : Vec Ideal S1x512x1024 .bf16) (w2 : Vec Ideal S1x256x1024 .bf16) (g2 : Vec Ideal S1x512x1024 .bf16)
    (r : Fin 512) (k : Fin 1024) : k0_pay23 s h n w0 g0 w1 g1 w2 g2 (ix2 r k)
      = g0 (ix3 0 r k) * proj (fun p => s (ix2 r p)) (fun p k => w0 (ix3 0 p k)) k
        + g1 (ix3 0 r k) * proj (fun p => h (ix2 r p)) (fun p k => w1 (ix3 0 p k)) k
        + g2 (ix3 0 r k) * proj (fun p => n (ix3 0 r p)) (fun p k => w2 (ix3 0 p k)) k := by
  unfold k0_pay23
  pointwise []
  rfl

theorem pay31_eq (s h n : FVec Ideal S512x256 .f32)  (w0 : Vec Ideal S1x256x1024 .bf16) (g0 : Vec Ideal S1x512x1024 .bf16)
    (w1 : Vec Ideal S1x256x1024 .bf16) (g1 : Vec Ideal S1x512x1024 .bf16) (w2 : Vec Ideal S1x256x1024 .bf16) (g2 : Vec Ideal S1x512x1024 .bf16)
    (r : Fin 512) (k : Fin 1024) : k0_pay31 s h n w0 g0 w1 g1 w2 g2 (ix2 r k)
      = g0 (ix3 0 r k) * proj (fun p => s (ix2 r p)) (fun p k => w0 (ix3 0 p k)) k
        + g1 (ix3 0 r k) * proj (fun p => h (ix2 r p)) (fun p k => w1 (ix3 0 p k)) k
        + g2 (ix3 0 r k) * proj (fun p => n (ix2 r p)) (fun p k => w2 (ix3 0 p k)) k := by
  unfold k0_pay31
  pointwise []
  rfl

theorem pay27_eq (v : FVec Ideal S512x1024 .f32) (a : FVec Ideal S512x256 .bf16) (w3 : FVec Ideal S256x1024 .bf16) (g3 : Vec Ideal S1x512x1024 .bf16)
    (wo : Vec Ideal S1024x1024 .bf16) (x : Vec Ideal S1x512x1024 .f32) (gm : Vec Ideal S1x1x1024 .f32) (lg lb : Vec Ideal S1x1024 .f32)
    (z : Fin 1) (r : Fin 512) (k : Fin 1024) :
    k0_pay27 (k0_pay26 v a w3 kernelRun0_A.sl.cst_117 g3 wo x gm lg) lb (ix3 z r k)
      = normed (resid (fun k => x (ix3 0 r k)) (fun k => gm (ix3 0 0 k))
          fun k => ∑ p, (v (ix2 r p) + g3 (ix3 0 r p) * proj (fun p => a (ix2 r p)) (fun p k => w3 (ix2 p k)) p) * wo (ix2 p k))
          (fun k => lg (ix2 0 k)) (fun k => lb (ix2 0 k)) k := by
  unfold k0_pay27 k0_pay26 kernelRun0_A.sl.cst_117
  pointwise []
  rfl

theorem pay1_eq (v : FVec Ideal S512x1024 .f32) (a : Vec Ideal S1x512x256 .f32) (w3 : Vec Ideal S1x256x1024 .bf16) (g3 : Vec Ideal S1x512x1024 .bf16)
    (wo : Vec Ideal S1024x1024 .bf16) (x : Vec Ideal S1x512x1024 .f32) (gm : Vec Ideal S1x1x1024 .f32) (lg lb : Vec Ideal S1x1024 .f32)
    (z : Fin 1) (r : Fin 512) (k : Fin 1024) :
    k0_pay1 (k0_pay33 v (k0_pay32 a w3) g3 wo x gm lg) lb (ix3 z r k)
      = normed (resid (fun k => x (ix3 0 r k)) (fun k => gm (ix3 0 0 k))
          fun k => ∑ p, (v (ix2 r p) + g3 (ix3 0 r p) * proj (fun p => a (ix3 0 r p)) (fun p k => w3 (ix3 0 p k)) p) * wo (ix2 p k))
          (fun k => lg (ix2 0 k)) (fun k => lb (ix2 0 k)) k := by
  unfold k0_pay1 k0_pay33 k0_pay32
  pointwise []
  rfl

end Cert.Kernel3Ideal.Hand
end
-- ==== Proof.MergeScratch.lean ====
/- What the merge's scratch buffer holds once filled: the staged block of eight tokens to a row, unpacked token by token in two
   halves of 128 columns. -/
module

public import proofs.«01_k».proof.Proof.MergeRows
public import Idealize.ShloMosaic.Lib.Pipeline.FrameBody

@[expose] public section

set_option maxRecDepth 16384

noncomputable section

namespace Cert.Kernel3Ideal.Hand

open Idealize.ShloMosaic Idealize.ShloMosaic.TcCoe Idealize.ShloMosaic.Tactic
open Cert.Kernel3Ideal Cert.Kernel3Ideal.Gen Cert.InProj Cert.Trunk
open Cert.KernelIdeal.Hand (emb_ix2 emb_ix3)

/-- A load of a rectangle of a whole buffer that holds `x`. -/
theorem readAt_all {sp : Space} {s : Shape} {e : EltTy} {mr : Memref sig .tc sp s e} (h : mr.IsWhole) (x : s.Idx → Elt Ideal e)
    (B : LoadRect s) : View.readAt (Elt Ideal) mr.view B (h.unread x) = fun j => x (B.idx j) :=
  funext fun j => h.readAt_unread x B j

/-- Column `p` of token `r` of a block that packs eight tokens to a row. -/
def unpack (x : Vec Ideal S1x128x2048 .f32) (r : Fin 1024) (p : Fin 256) : EReal := x (ix3 0 ⟨r.val / 8, by omega⟩ ⟨r.val % 8 * 256 + p.val, by omega⟩)

/-- The scratch buffer's contents. -/
def tokS (x : Vec Ideal S1x128x2048 .f32) : Vec Ideal S2x1024x128 .f32 :=
  fun j => unpack x (j 1) ⟨(j 0).val * 128 + (j 2).val, by
    have h0 : (j 0).val < 2 := (j 0).isLt
    have h2 : (j 2).val < 128 := (j 2).isLt
    omega⟩

theorem tokS_ix3 (x : Vec Ideal S1x128x2048 .f32) (a : Fin 2) (r : Fin 1024) (l : Fin 128) :
    tokS x (ix3 a r l) = unpack x r ⟨a.val * 128 + l.val, by omega⟩ := rfl

/-- Where a rectangle of every eighth row puts its entry. -/
theorem emb_eighth (ch t : ℕ) (inb : ∀ a : Fin S2x1024x128.rank, ![1, 128, 128] a = 0 ∨ ![ch, t, 0] a + ![1, 8, 1] a * (![1, 128, 128] a - 1) < S2x1024x128.size a)
    (sp : ∀ a : Fin S2x1024x128.rank, 0 < ![1, 8, 1] a) (hc : ch < 2) (ht : t < 8) (z : Fin 1) (q l : Fin 128) :
    ((⟨⟨![ch, t, 0], ![1, 128, 128], ![1, 8, 1], inb⟩, sp⟩ : Rect S2x1024x128).emb (ix3 z q l)) = ix3 ⟨ch, hc⟩ ⟨8 * q.val + t, by omega⟩ l := by
  funext x
  refine Fin.ext ?_
  rw [Rect.emb_apply]
  fin_cases x <;> simp [ix3] <;> omega

theorem cast_cast (v : Vec Ideal S1x128x128 .f32) (z : Fin 1) (q l : Fin 128) : k0_pay20 v (ix3 z q l) = v (ix3 z q l) := by
  unfold k0_pay20
  pointwise []
  try rfl

/-- One stored piece: a load of 128 columns of the staged block. -/
theorem piece_eq (x : Vec Ideal S1x128x2048 .f32) (mr : Memref sig .tc .vmem S1x128x2048 .f32) (h : mr.IsWhole) (ch t o : ℕ) (hc : ch < 2) (ht : t < 8)
    (ho : o = t * 256 + ch * 128) (inb' : ∀ a, ![0, 0, o] a + ![1, 128, 128] a ≤ S1x128x2048.size a)
    (inb : ∀ a : Fin S2x1024x128.rank, ![1, 128, 128] a = 0 ∨ ![ch, t, 0] a + ![1, 8, 1] a * (![1, 128, 128] a - 1) < S2x1024x128.size a)
    (sp : ∀ a : Fin S2x1024x128.rank, 0 < ![1, 8, 1] a) (j : S1x128x128.Idx) :
    k0_pay20 (View.readAt (Elt Ideal) mr.view (Rect.unit (s := S1x128x2048) ![0, 0, o] ![1, 128, 128] inb').toLoadRect (h.unread x)) j
      = tokS x ((⟨⟨![ch, t, 0], ![1, 128, 128], ![1, 8, 1], inb⟩, sp⟩ : Rect S2x1024x128).emb j) := by
  idx_vars j
  rw [cast_cast, emb_eighth ch t inb sp hc ht, readAt_all, tokS_ix3]
  refine (congrArg x (emb_ix3 _ _ _ _ (by omega) (by omega) (by omega))).trans ?_
  unfold unpack
  refine congrArg x ?_
  subst ho
  congr 1 <;> refine Fin.ext ?_ <;> simp <;> omega

/-- A row lies in the rectangle of the rows congruent to it. -/
theorem mem_eighth (ch t : ℕ) (inb : ∀ a : Fin S2x1024x128.rank, ![1, 128, 128] a = 0 ∨ ![ch, t, 0] a + ![1, 8, 1] a * (![1, 128, 128] a - 1) < S2x1024x128.size a)
    (sp : ∀ a : Fin S2x1024x128.rank, 0 < ![1, 8, 1] a) (y0 : Fin 2) (y1 : Fin 1024) (y2 : Fin 128) (hc : y0.val = ch) (ht : y1.val % 8 = t) :
    (ix3 y0 y1 y2 : S2x1024x128.Idx) ∈ (⟨⟨![ch, t, 0], ![1, 128, 128], ![1, 8, 1], inb⟩, sp⟩ : Rect S2x1024x128).set := by
  rw [LoadRect.mem_set]
  intro a
  fin_cases a
  · exact ⟨0, by simp, by simpa [ix3] using hc⟩
  · exact ⟨y1.val / 8, by simp; omega, by simp [ix3]; omega⟩
  · exact ⟨y2.val, by simp, by simp [ix3]⟩

/-- The sixteen pieces written hold the staged block unpacked. -/
theorem canon_scratch (c : Dev nD) (mr : Memref sig .tc .vmem S1x128x2048 .f32) (h : mr.IsWhole) (x : Vec Ideal S1x128x2048 .f32) :
    View.canon (kernelRun0_A.sl.HS0_16 (F := Ideal) c mr h x) = tokS x := by
  funext y
  refine View.canon_apply_of_pieces (tokS x) _ ?_ y ?_
  · intro p hp j
    dsimp only [kernelRun0_A.sl.HS0_16] at hp
    simp only [List.mem_cons, List.not_mem_nil, or_false] at hp
    rcases hp with rfl | rfl | rfl | rfl | rfl | rfl | rfl | rfl | rfl | rfl | rfl | rfl | rfl | rfl | rfl | rfl
    · exact piece_eq x mr h 1 7 1920 (by decide) (by decide) rfl _ _ _ j
    · exact piece_eq x mr h 1 6 1664 (by decide) (by decide) rfl _ _ _ j
    · exact piece_eq x mr h 1 5 1408 (by decide) (by decide) rfl _ _ _ j
    · exact piece_eq x mr h 1 4 1152 (by decide) (by decide) rfl _ _ _ j
    · exact piece_eq x mr h 1 3 896 (by decide) (by decide) rfl _ _ _ j
    · exact piece_eq x mr h 1 2 640 (by decide) (by decide) rfl _ _ _ j
    · exact piece_eq x mr h 1 1 384 (by decide) (by decide) rfl _ _ _ j
    · exact piece_eq x mr h 1 0 128 (by decide) (by decide) rfl _ _ _ j
    · exact piece_eq x mr h 0 7 1792 (by decide) (by decide) rfl _ _ _ j
    · exact piece_eq x mr h 0 6 1536 (by decide) (by decide) rfl _ _ _ j
    · exact piece_eq x mr h 0 5 1280 (by decide) (by decide) rfl _ _ _ j
    · exact piece_eq x mr h 0 4 1024 (by decide) (by decide) rfl _ _ _ j
    · exact piece_eq x mr h 0 3 768 (by decide) (by decide) rfl _ _ _ j
    · exact piece_eq x mr h 0 2 512 (by decide) (by decide) rfl _ _ _ j
    · exact piece_eq x mr h 0 1 256 (by decide) (by decide) rfl _ _ _ j
    · exact piece_eq x mr h 0 0 0 (by decide) (by decide) rfl _ _ _ j
  · idx_vars y
    obtain ⟨t, ht⟩ : ∃ t, y1.val % 8 = t := ⟨_, rfl⟩
    obtain ⟨a, ha⟩ : ∃ a, y0.val = a := ⟨_, rfl⟩
    have h8 : t < 8 := by omega
    have h2 : a < 2 := by omega
    interval_cases a <;> interval_cases t
    · exact ⟨_, List.mem_of_getElem? (i := 15) rfl, mem_eighth 0 0 _ _ y0 y1 y2 ha ht⟩
    · exact ⟨_, List.mem_of_getElem? (i := 14) rfl, mem_eighth 0 1 _ _ y0 y1 y2 ha ht⟩
    · exact ⟨_, List.mem_of_getElem? (i := 13) rfl, mem_eighth 0 2 _ _ y0 y1 y2 ha ht⟩
    · exact ⟨_, List.mem_of_getElem? (i := 12) rfl, mem_eighth 0 3 _ _ y0 y1 y2 ha ht⟩
    · exact ⟨_, List.mem_of_getElem? (i := 11) rfl, mem_eighth 0 4 _ _ y0 y1 y2 ha ht⟩
    · exact ⟨_, List.mem_of_getElem? (i := 10) rfl, mem_eighth 0 5 _ _ y0 y1 y2 ha ht⟩
    · exact ⟨_, List.mem_of_getElem? (i := 9) rfl, mem_eighth 0 6 _ _ y0 y1 y2 ha ht⟩
    · exact ⟨_, List.mem_of_getElem? (i := 8) rfl, mem_eighth 0 7 _ _ y0 y1 y2 ha ht⟩
    · exact ⟨_, List.mem_of_getElem? (i := 7) rfl, mem_eighth 1 0 _ _ y0 y1 y2 ha ht⟩
    · exact ⟨_, List.mem_of_getElem? (i := 6) rfl, mem_eighth 1 1 _ _ y0 y1 y2 ha ht⟩
    · exact ⟨_, List.mem_of_getElem? (i := 5) rfl, mem_eighth 1 2 _ _ y0 y1 y2 ha ht⟩
    · exact ⟨_, List.mem_of_getElem? (i := 4) rfl, mem_eighth 1 3 _ _ y0 y1 y2 ha ht⟩
    · exact ⟨_, List.mem_of_getElem? (i := 3) rfl, mem_eighth 1 4 _ _ y0 y1 y2 ha ht⟩
    · exact ⟨_, List.mem_of_getElem? (i := 2) rfl, mem_eighth 1 5 _ _ y0 y1 y2 ha ht⟩
    · exact ⟨_, List.mem_of_getElem? (i := 1) rfl, mem_eighth 1 6 _ _ y0 y1 y2 ha ht⟩
    · exact ⟨_, List.mem_of_getElem? (i := 0) rfl, mem_eighth 1 7 _ _ y0 y1 y2 ha ht⟩

end Cert.Kernel3Ideal.Hand
end
-- ==== Proof.MergeBlock.lean ====
/- What the merge's body leaves in the block of results, as a function of the blocks staged. -/
module

public import proofs.«01_k».proof.Proof.MergeScratch

@[expose] public section

set_option maxRecDepth 16384

noncomputable section

namespace Cert.Kernel3Ideal.Hand

open Idealize.ShloMosaic Idealize.ShloMosaic.TcCoe Idealize.ShloMosaic.Tactic
open Cert.Kernel3Ideal Cert.Kernel3Ideal.Gen Cert.InProj Cert.Trunk
open Cert.KernelIdeal.Hand (emb_ix2 emb_ix3)

/-- A load of a unit-stride rectangle of three axes, entry by entry. -/
theorem load3 {l n k o p q a b d : ℕ} {e : EltTy} {mr : Memref sig .tc .vmem ⟨3, ![l, n, k]⟩ e} (h : mr.IsWhole)
    (x : Vec Ideal ⟨3, ![l, n, k]⟩ e) (inb : ∀ y, ![a, b, d] y + ![o, p, q] y ≤ (⟨3, ![l, n, k]⟩ : Shape).size y) (i : Fin o) (j : Fin p) (r : Fin q) :
    View.readAt (Elt Ideal) mr.view (Rect.unit (s := ⟨3, ![l, n, k]⟩) ![a, b, d] ![o, p, q] inb).toLoadRect (h.unread x) (ix3 i j r)
      = x (ix3 ⟨a + i.val, (Nat.add_lt_add_left i.isLt a).trans_le (inb 0)⟩ ⟨b + j.val, (Nat.add_lt_add_left j.isLt b).trans_le (inb 1)⟩
          ⟨d + r.val, (Nat.add_lt_add_left r.isLt d).trans_le (inb 2)⟩) :=
  (h.readAt_unread x _ _).trans (congrArg x (emb_ix3 inb i j r _ _ _))

/-- The same of a matrix. -/
theorem load2 {n k p q a b : ℕ} {e : EltTy} {mr : Memref sig .tc .vmem ⟨2, ![n, k]⟩ e} (h : mr.IsWhole)
    (x : Vec Ideal ⟨2, ![n, k]⟩ e) (inb : ∀ y, ![a, b] y + ![p, q] y ≤ (⟨2, ![n, k]⟩ : Shape).size y) (i : Fin p) (j : Fin q) :
    View.readAt (Elt Ideal) mr.view (Rect.unit (s := ⟨2, ![n, k]⟩) ![a, b] ![p, q] inb).toLoadRect (h.unread x) (ix2 i j)
      = x (ix2 ⟨a + i.val, (Nat.add_lt_add_left i.isLt a).trans_le (inb 0)⟩ ⟨b + j.val, (Nat.add_lt_add_left j.isLt b).trans_le (inb 1)⟩) :=
  (h.readAt_unread x _ _).trans (congrArg x (emb_ix2 inb i j _ _))

variable (c : Dev nD) (arg2 : Memref sig .tc .vmem S1x1024x1024 .f32) (harg2 : arg2.IsWhole) (arg3 : Memref sig .tc .vmem S1x128x2048 .f32) (harg3 : arg3.IsWhole)
  (arg4 : Memref sig .tc .vmem S1x1024x256 .f32) (harg4 : arg4.IsWhole) (arg5 : Memref sig .tc .vmem S1x1024x256 .f32) (harg5 : arg5.IsWhole)
  (arg6 : Memref sig .tc .vmem S1x1024x256 .f32) (harg6 : arg6.IsWhole) (arg7 : Memref sig .tc .vmem S1x1024x4096 .bf16) (harg7 : arg7.IsWhole)
  (arg8 : Memref sig .tc .vmem S1x1x1024 .f32) (harg8 : arg8.IsWhole) (arg9 : Memref sig .tc .vmem S256x256 .bf16) (harg9 : arg9.IsWhole)
  (arg10 : Memref sig .tc .vmem S4x256x1024 .bf16) (harg10 : arg10.IsWhole) (arg11 : Memref sig .tc .vmem S1024x1024 .bf16) (harg11 : arg11.IsWhole)
  (arg12 : Memref sig .tc .vmem S1x1024 .f32) (harg12 : arg12.IsWhole) (arg13 : Memref sig .tc .vmem S1x1024 .f32) (harg13 : arg13.IsWhole)
  (arg14 : Memref sig .tc .vmem S1x1024x1024 .f32) (harg14 : arg14.IsWhole) (arg15 : Memref sig .tc .vmem S2x1024x128 .f32) (harg15 : arg15.IsWhole)
  (x0 : Vec Ideal S1x1024x1024 .f32) (x1 : Vec Ideal S1x128x2048 .f32) (x2 x3 x4 : Vec Ideal S1x1024x256 .f32) (x5 : Vec Ideal S1x1024x4096 .bf16)
  (x6 : Vec Ideal S1x1x1024 .f32) (x7 : Vec Ideal S256x256 .bf16) (x8 : Vec Ideal S4x256x1024 .bf16) (x9 : Vec Ideal S1024x1024 .bf16)
  (x10 x11 : Vec Ideal S1x1024 .f32)

/-- A load of 512 rows of one half of the scratch buffer. -/
theorem scratch_load (a o : ℕ) (ha : a < 2) (ho : o ≤ 512) (inb : ∀ y, ![a, o, 0] y + ![1, 512, 128] y ≤ S2x1024x128.size y) (z : Fin 1) (r : Fin 512) (l : Fin 128) :
    arg15.view.readCov (kernelRun0_A.sl.HS0_16 (F := Ideal) c arg3 harg3 x1) (Rect.unit (s := S2x1024x128) ![a, o, 0] ![1, 512, 128] inb).toLoadRect (ix3 z r l)
      = unpack x1 ⟨o + r.val, by omega⟩ ⟨a * 128 + l.val, by omega⟩ := by
  rw [View.readCov_eq_canon', canon_scratch]
  refine (congrArg (tokS x1) (emb_ix3 inb z r l (by omega) (by omega) (by omega))).trans ?_
  rw [tokS_ix3]
  simp

/-- The two halves of 128 columns side by side are the token's 256. -/
theorem joined_unpack (a b : Vec Ideal S1x512x128 .f32) (r : Fin 512) (R : Fin 1024)
    (ha : ∀ l : Fin 128, a (ix3 0 r l) = unpack x1 R ⟨0 * 128 + l.val, by omega⟩)
    (hb : ∀ l : Fin 128, b (ix3 0 r l) = unpack x1 R ⟨1 * 128 + l.val, by omega⟩) : joined a b r = unpack x1 R := by
  funext p
  unfold joined
  split
  · rw [ha]
    simp
  · rw [hb]
    refine congrArg _ (Fin.ext ?_)
    simp
    omega

theorem glu_first (r : Fin 512) (k : Fin 256) : kernelRun0_A.sl.r_3 (F := Ideal) c arg3 harg3 arg9 harg9 arg15 x1 x7 (ix2 r k)
    = gluRow (unpack x1 ⟨0 + r.val, by omega⟩) (fun p k => x7 (ix2 p k)) k := by
  unfold kernelRun0_A.sl.r_3 kernelRun0_A.sl.v80 kernelRun0_A.sl.v82
  rw [pay21_eq, joined_unpack x1 _ _ r ⟨0 + r.val, by omega⟩ (fun l => scratch_load c arg3 harg3 arg15 x1 0 0 (by decide) (by decide) _ 0 r l)
    (fun l => scratch_load c arg3 harg3 arg15 x1 1 0 (by decide) (by decide) _ 0 r l)]
  simp only [load2, zero_add]

theorem glu_second (r : Fin 512) (k : Fin 256) : kernelRun0_A.sl.r_10 (F := Ideal) c arg3 harg3 arg9 harg9 arg15 x1 x7 (ix2 r k)
    = gluRow (unpack x1 ⟨512 + r.val, by omega⟩) (fun p k => x7 (ix2 p k)) k := by
  unfold kernelRun0_A.sl.r_10 kernelRun0_A.sl.v185 kernelRun0_A.sl.v187
  rw [pay28_eq, joined_unpack x1 _ _ r ⟨512 + r.val, by omega⟩ (fun l => scratch_load c arg3 harg3 arg15 x1 0 512 (by decide) (by decide) _ 0 r l)
    (fun l => scratch_load c arg3 harg3 arg15 x1 1 512 (by decide) (by decide) _ 0 r l)]
  simp only [load2, zero_add]

/-- The first three branches' share of a row. -/
def mix3 (R : Fin 1024) (k : Fin 1024) : EReal :=
  x5 (ix3 0 R ⟨0 + k.val, by omega⟩) * proj (gluRow (unpack x1 R) fun p k => x7 (ix2 p k)) (fun p k => x8 (ix3 0 p k)) k
    + x5 (ix3 0 R ⟨1024 + k.val, by omega⟩) * proj (fun p => x2 (ix3 0 R p)) (fun p k => x8 (ix3 1 p k)) k
    + x5 (ix3 0 R ⟨2048 + k.val, by omega⟩) * proj (fun p => x3 (ix3 0 R p)) (fun p k => x8 (ix3 2 p k)) k

theorem three_first (r : Fin 512) (k : Fin 1024) :
    kernelRun0_A.sl.r_6 (F := Ideal) c arg3 harg3 arg4 harg4 arg5 harg5 arg7 harg7 arg9 harg9 arg10 harg10 arg15 x1 x2 x3 x5 x7 x8 (ix2 r k)
      = mix3 x1 x2 x3 x5 x7 x8 ⟨0 + r.val, by omega⟩ k := by
  unfold kernelRun0_A.sl.r_6 kernelRun0_A.sl.r_4 kernelRun0_A.sl.r_5
  rw [pay23_eq]
  simp only [glu_first, pay22_eq, load3, zero_add]
  unfold mix3
  simp only [zero_add]
  rfl

theorem three_second (r : Fin 512) (k : Fin 1024) :
    kernelRun0_A.sl.r_13 (F := Ideal) c arg3 harg3 arg4 harg4 arg5 harg5 arg7 harg7 arg9 harg9 arg10 harg10 arg15 x1 x2 x3 x5 x7 x8 (ix2 r k)
      = mix3 x1 x2 x3 x5 x7 x8 ⟨512 + r.val, by omega⟩ k := by
  unfold kernelRun0_A.sl.r_13 kernelRun0_A.sl.r_11 kernelRun0_A.sl.r_12
  rw [pay31_eq]
  simp only [glu_second, pay29_eq, pay30_eq, load3, zero_add]
  unfold mix3
  simp only [zero_add]
  rfl

/-- The block of results, as a function of the blocks staged. -/
def mergeBlk : Vec Ideal S1x1024x1024 .f32 := fun j =>
  mergeRow (fun k => x0 (ix3 0 (j 1) k)) (fun k => x6 (ix3 0 0 k))
    (rows4 (unpack x1 (j 1)) (fun p => x2 (ix3 0 (j 1) p)) (fun p => x3 (ix3 0 (j 1) p)) (fun p => x4 (ix3 0 (j 1) p)) fun p k => x7 (ix2 p k))
    (fun n p k => x8 (ix3 n p k)) (fun n k => x5 (ix3 0 (j 1) ⟨n.val * 1024 + k.val, by omega⟩)) (fun n k => x9 (ix2 n k))
    (fun k => x10 (ix2 0 k)) (fun k => x11 (ix2 0 k)) (j 2)

theorem mergeBlk_ix3 (z : Fin 1) (r k : Fin 1024) : mergeBlk x0 x1 x2 x3 x4 x5 x6 x7 x8 x9 x10 x11 (ix3 z r k)
    = mergeRow (fun k => x0 (ix3 0 r k)) (fun k => x6 (ix3 0 0 k))
        (rows4 (unpack x1 r) (fun p => x2 (ix3 0 r p)) (fun p => x3 (ix3 0 r p)) (fun p => x4 (ix3 0 r p)) fun p k => x7 (ix2 p k))
        (fun n p k => x8 (ix3 n p k)) (fun n k => x5 (ix3 0 r ⟨n.val * 1024 + k.val, by omega⟩)) (fun n k => x9 (ix2 n k))
        (fun k => x10 (ix2 0 k)) (fun k => x11 (ix2 0 k)) k := rfl

/-- Its mixed branches are the three's share and the fourth's. -/
theorem mix_split (r : Fin 1024) (k : Fin 1024) :
    mixRow (rows4 (unpack x1 r) (fun p => x2 (ix3 0 r p)) (fun p => x3 (ix3 0 r p)) (fun p => x4 (ix3 0 r p)) fun p k => x7 (ix2 p k))
        (fun n p k => x8 (ix3 n p k)) (fun n k => x5 (ix3 0 r ⟨n.val * 1024 + k.val, by omega⟩)) k
      = mix3 x1 x2 x3 x5 x7 x8 r k
        + x5 (ix3 0 r ⟨3072 + k.val, by omega⟩) * proj (fun p => x4 (ix3 0 r p)) (fun p k => x8 (ix3 3 p k)) k := by
  rfl

theorem blk_rows (z : Fin 1) (r k : Fin 1024) : mergeBlk x0 x1 x2 x3 x4 x5 x6 x7 x8 x9 x10 x11 (ix3 z r k)
    = normed (resid (fun k => x0 (ix3 0 r k)) (fun k => x6 (ix3 0 0 k)) fun k => ∑ p, (mix3 x1 x2 x3 x5 x7 x8 r p
        + x5 (ix3 0 r ⟨3072 + p.val, by omega⟩) * proj (fun p => x4 (ix3 0 r p)) (fun p k => x8 (ix3 3 p k)) p) * x9 (ix2 p k))
        (fun k => x10 (ix2 0 k)) (fun k => x11 (ix2 0 k)) k := by
  rw [mergeBlk_ix3]
  unfold mergeRow
  simp only [mix_split]

/-- The body's two stores leave that block. -/
theorem out_eq (i : grid0.Coords) : out0_A_12 c i arg2 harg2 arg3 harg3 arg4 harg4 arg5 harg5 arg6 harg6 arg7 harg7 arg8 harg8 arg9 harg9 arg10 harg10 arg11 harg11
    arg12 harg12 arg13 harg13 arg14 harg14 arg15 harg15 x0 x1 x2 x3 x4 x5 x6 x7 x8 x9 x10 x11 = mergeBlk x0 x1 x2 x3 x4 x5 x6 x7 x8 x9 x10 x11 := by
  funext y
  unfold out0_A_12
  refine View.read_writes_apply_of_pieces _ _ (mergeBlk x0 x1 x2 x3 x4 x5 x6 x7 x8 x9 x10 x11) _ ?_ y (cover0_A_12 c i arg2 harg2 arg3 harg3 arg4 harg4 arg5 harg5
    arg6 harg6 arg7 harg7 arg8 harg8 arg9 harg9 arg10 harg10 arg11 harg11 arg12 harg12 arg13 harg13 arg14 harg14 arg15 harg15 x0 x1 x2 x3 x4 x5 x6 x7 x8 x9 x10 x11 y)
  intro p hp j
  dsimp only [kernelRun0_A] at hp
  simp only [List.mem_cons, List.not_mem_nil, or_false] at hp
  rcases hp with rfl | rfl
  · revert j
    intro (j : S1x512x1024.Idx)
    idx_vars j
    rw [emb_ix3 _ _ _ _ (by omega) (by omega) (by omega), blk_rows]
    unfold kernelRun0_A.sl.r_15 kernelRun0_A.sl.r_16 kernelRun0_A.sl.r_14
    rw [pay1_eq]
    simp only [three_second, load3, load2, zero_add, Fin.val_eq_zero]
    rfl
  · revert j
    intro (j : S1x512x1024.Idx)
    idx_vars j
    rw [emb_ix3 _ _ _ _ (by omega) (by omega) (by omega), blk_rows]
    unfold kernelRun0_A.sl.r_9 kernelRun0_A.sl.r_7 kernelRun0_A.sl.r_8
    rw [pay27_eq]
    simp only [three_first, pay24_eq, pay25_eq, load3, load2, zero_add, Fin.val_eq_zero]
    rfl

end Cert.Kernel3Ideal.Hand
end
-- ==== Proof.MergeValue.lean ====
/- The merge call's windows as rows and columns of the arguments, and its result array. -/
module

public import proofs.«01_k».proof.Proof.MergeBlock
public import proofs.«01_k».proof.Proof.Gen.Kernel3Ideal.Value
public import Idealize.ShloMosaic.Lib.StableHlo.ReadAt
public import Idealize.ShloMosaic.Lib.Pipeline.ValueKit

@[expose] public section

set_option maxRecDepth 16384

noncomputable section

namespace Cert.Kernel3Ideal.Hand

open Idealize.ShloMosaic Idealize.ShloMosaic.TcCoe Idealize.ShloMosaic.Tactic Idealize.SL.Sem
open Cert.Kernel3Ideal Cert.Kernel3Ideal.Gen Cert.InProj Cert.Trunk

variable (m : (ℓ : Loc nD τ sig) → Buf (Elt Ideal) ℓ) (ρ : Dev nD → PrngReg) (c : Dev nD)

/-- The tokens. -/
def X (b : Fin 4) (r : Fin 4096) (k : Fin 1024) : EReal := m (c.tc.loc main_arg0) (ix3 b r k)
/-- The first branch's rows. -/
def S5 (b : Fin 4) (r : Fin 4096) (k : Fin 256) : EReal := m (c.tc.loc main_arg1) (ix3 b r k)
/-- The second branch's. -/
def HY (b : Fin 4) (r : Fin 4096) (k : Fin 256) : EReal := m (c.tc.loc main_arg2) (ix3 b r k)
/-- The third branch's. -/
def NA (b : Fin 4) (r : Fin 4096) (k : Fin 256) : EReal := m (c.tc.loc main_arg3) (ix3 b r k)
/-- The fourth branch's. -/
def SW (b : Fin 4) (r : Fin 4096) (k : Fin 256) : EReal := m (c.tc.loc main_arg4) (ix3 b r k)
/-- The branches' gates, 1024 columns to a branch. -/
def GT (b : Fin 4) (r : Fin 4096) (n : Fin 4) (k : Fin 1024) : EReal := m (c.tc.loc main_arg5) (ix3 b r ⟨n.val * 1024 + k.val, by omega⟩)
/-- The residual's gates. -/
def GM (b : Fin 4) (k : Fin 1024) : EReal := m (c.tc.loc main_arg6) (ix3 b 0 k)
/-- The gated unit's weights. -/
def WG (p k : Fin 256) : EReal := m (c.tc.loc main_arg7) (ix2 p k)
/-- The branches' projections. -/
def WB (n : Fin 4) (p : Fin 256) (k : Fin 1024) : EReal := m (c.tc.loc main_arg8) (ix3 n p k)
/-- The last projection. -/
def WO (p k : Fin 1024) : EReal := m (c.tc.loc main_arg9) (ix2 p k)
/-- The last normalisation's scale. -/
def LG (k : Fin 1024) : EReal := m (c.tc.loc main_arg10) (ix1 k)
/-- The last normalisation's shift. -/
def LB (k : Fin 1024) : EReal := m (c.tc.loc main_arg11) (ix1 k)

/-- The batch of point `n`. -/
def bi (n : ℕ) : Fin 4 := ⟨n / 4 % 4, by omega⟩
/-- Row `r` of point `n`'s block of tokens. -/
def row (n : ℕ) (r : Fin 1024) : Fin 4096 := ⟨n % 4 * 1024 + r.val, by omega⟩

theorem index_0 : ∀ t : Fin cfg0.N, win0_0.index t = ![t.val / 4 % 4, t.val % 4, 0] := (by decide +kernel : ∀ t : Fin grid0.N, _)
theorem index_1 : ∀ t : Fin cfg0.N, win0_1.index t = ![t.val / 4 % 4, t.val % 4, 0] := (by decide +kernel : ∀ t : Fin grid0.N, _)
theorem index_2 : ∀ t : Fin cfg0.N, win0_2.index t = ![t.val / 4 % 4, t.val % 4, 0] := (by decide +kernel : ∀ t : Fin grid0.N, _)
theorem index_3 : ∀ t : Fin cfg0.N, win0_3.index t = ![t.val / 4 % 4, t.val % 4, 0] := (by decide +kernel : ∀ t : Fin grid0.N, _)
theorem index_4 : ∀ t : Fin cfg0.N, win0_4.index t = ![t.val / 4 % 4, t.val % 4, 0] := (by decide +kernel : ∀ t : Fin grid0.N, _)
theorem index_5 : ∀ t : Fin cfg0.N, win0_5.index t = ![t.val / 4 % 4, t.val % 4, 0] := (by decide +kernel : ∀ t : Fin grid0.N, _)
theorem index_6 : ∀ t : Fin cfg0.N, win0_6.index t = ![t.val / 4 % 4, 0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![0, 0, 0] := (by decide +kernel : ∀ t : Fin grid0.N, _)
theorem index_9 : ∀ t : Fin cfg0.N, win0_9.index t = ![0, 0] := (by decide +kernel : ∀ t : Fin grid0.N, _)
theorem index_10 : ∀ t : Fin cfg0.N, win0_10.index t = ![0, 0] := (by decide +kernel : ∀ t : Fin grid0.N, _)
theorem index_11 : ∀ t : Fin cfg0.N, win0_11.index t = ![0, 0] := (by decide +kernel : ∀ t : Fin grid0.N, _)
theorem index_12 : ∀ t : Fin cfg0.N, win0_12.index t = ![t.val / 4 % 4, t.val % 4, 0] := (by decide +kernel : ∀ t : Fin grid0.N, _)

theorem V_wg (p k : Fin 256) : V m c main_v0 (ix2 p k) = WG m c p k := by
  simp only [V, hostOps0, StableHlo.TRef.unary, StableHlo.TRef.toBuf, StableHlo.TRef.ofBuf, cast_eq]
  after_results_simp
  rfl
theorem V_wb (n : Fin 4) (p : Fin 256) (k : Fin 1024) : V m c main_v1 (ix3 n p k) = WB m c n p k := by
  simp only [V, hostOps0, StableHlo.TRef.unary, StableHlo.TRef.toBuf, StableHlo.TRef.ofBuf, cast_eq]
  after_results_simp
  rfl
theorem V_wo (p k : Fin 1024) : V m c main_v2 (ix2 p k) = WO m c p k := by
  simp only [V, hostOps0, StableHlo.TRef.unary, StableHlo.TRef.toBuf, StableHlo.TRef.ofBuf, cast_eq]
  after_results_simp
  rfl
theorem V_lg (k : Fin 1024) : V m c main_v3 (ix2 0 k) = LG m c k := by
  simp only [V, hostOps0, StableHlo.TRef.unary, StableHlo.TRef.toBuf, StableHlo.TRef.ofBuf, cast_eq]
  after_results_simp
  clean_types
  pointwise []
  rfl
theorem V_lb (k : Fin 1024) : V m c main_v4 (ix2 0 k) = LB m c k := by
  simp only [V, hostOps0, StableHlo.TRef.unary, StableHlo.TRef.toBuf, StableHlo.TRef.ofBuf, cast_eq]
  after_results_simp
  clean_types
  pointwise []
  rfl
theorem V_s5 (b : Fin 4) (q : Fin 512) (t : Fin 8) (p : Fin 256) : V m c main_v5 (ix3 b q ⟨t.val * 256 + p.val, by omega⟩)
    = S5 m c b ⟨q.val * 8 + t.val, by omega⟩ p := by
  simp only [V, hostOps0, StableHlo.TRef.unary, StableHlo.TRef.toBuf, StableHlo.TRef.ofBuf, cast_eq]
  after_results_simp
  clean_types
  pointwise []
  unfold S5
  refine congrArg (fun r => m (c.tc.loc main_arg1) (ix3 b r p)) (Fin.ext ?_)
  simp only
  omega

theorem staged_x (t : Fin cfg0.N) (r k : Fin 1024) : (iblk m c 0 t : Vec Ideal S1x1024x1024 .f32) (ix3 0 r k) = X m c (bi t.val) (row t.val r) k := by
  show V m c main_arg0 ((win0_0.blk t).view.emb (ix3 0 r k)) = _
  rw [V_main_arg0]
  unfold X
  refine congrArg _ ?_
  blk_ext [index_0, bi, row]
theorem staged_hy (t : Fin cfg0.N) (r : Fin 1024) (k : Fin 256) : (iblk m c 2 t : Vec Ideal S1x1024x256 .f32) (ix3 0 r k) = HY m c (bi t.val) (row t.val r) k := by
  show V m c main_arg2 ((win0_2.blk t).view.emb (ix3 0 r k)) = _
  rw [V_main_arg2]
  unfold HY
  refine congrArg _ ?_
  blk_ext [index_2, bi, row]
theorem staged_na (t : Fin cfg0.N) (r : Fin 1024) (k : Fin 256) : (iblk m c 3 t : Vec Ideal S1x1024x256 .f32) (ix3 0 r k) = NA m c (bi t.val) (row t.val r) k := by
  show V m c main_arg3 ((win0_3.blk t).view.emb (ix3 0 r k)) = _
  rw [V_main_arg3]
  unfold NA
  refine congrArg _ ?_
  blk_ext [index_3, bi, row]
theorem staged_sw (t : Fin cfg0.N) (r : Fin 1024) (k : Fin 256) : (iblk m c 4 t : Vec Ideal S1x1024x256 .f32) (ix3 0 r k) = SW m c (bi t.val) (row t.val r) k := by
  show V m c main_arg4 ((win0_4.blk t).view.emb (ix3 0 r k)) = _
  rw [V_main_arg4]
  unfold SW
  refine congrArg _ ?_
  blk_ext [index_4, bi, row]
theorem staged_gt (t : Fin cfg0.N) (r : Fin 1024) (n : Fin 4) (k : Fin 1024) : (iblk m c 5 t : Vec Ideal S1x1024x4096 .bf16) (ix3 0 r ⟨n.val * 1024 + k.val, by omega⟩) = GT m c (bi t.val) (row t.val r) n k := by
  show V m c main_arg5 ((win0_5.blk t).view.emb (ix3 0 r ⟨n.val * 1024 + k.val, by omega⟩)) = _
  rw [V_main_arg5]
  unfold GT
  refine congrArg _ ?_
  blk_ext [index_5, bi, row]
theorem staged_gm (t : Fin cfg0.N) (k : Fin 1024) : (iblk m c 6 t : Vec Ideal S1x1x1024 .f32) (ix3 0 0 k) = GM m c (bi t.val) k := by
  show V m c main_arg6 ((win0_6.blk t).view.emb (ix3 0 0 k)) = _
  rw [V_main_arg6]
  unfold GM
  refine congrArg _ ?_
  blk_ext [index_6, bi]
theorem staged_wg (t : Fin cfg0.N) (p k : Fin 256) : (iblk m c 7 t : Vec Ideal S256x256 .bf16) (ix2 p k) = WG m c p k := by
  rw [← V_wg]
  show V m c main_v0 ((win0_7.blk t).view.emb (ix2 p k)) = _
  refine congrArg _ ?_
  blk_ext [index_7]
theorem staged_wb (t : Fin cfg0.N) (n : Fin 4) (p : Fin 256) (k : Fin 1024) : (iblk m c 8 t : Vec Ideal S4x256x1024 .bf16) (ix3 n p k) = WB m c n p k := by
  rw [← V_wb]
  show V m c main_v1 ((win0_8.blk t).view.emb (ix3 n p k)) = _
  refine congrArg _ ?_
  blk_ext [index_8]
theorem staged_wo (t : Fin cfg0.N) (p k : Fin 1024) : (iblk m c 9 t : Vec Ideal S1024x1024 .bf16) (ix2 p k) = WO m c p k := by
  rw [← V_wo]
  show V m c main_v2 ((win0_9.blk t).view.emb (ix2 p k)) = _
  refine congrArg _ ?_
  blk_ext [index_9]
theorem staged_lg (t : Fin cfg0.N) (k : Fin 1024) : (iblk m c 10 t : Vec Ideal S1x1024 .f32) (ix2 0 k) = LG m c k := by
  rw [← V_lg]
  show V m c main_v3 ((win0_10.blk t).view.emb (ix2 0 k)) = _
  refine congrArg _ ?_
  blk_ext [index_10]
theorem staged_lb (t : Fin cfg0.N) (k : Fin 1024) : (iblk m c 11 t : Vec Ideal S1x1024 .f32) (ix2 0 k) = LB m c k := by
  rw [← V_lb]
  show V m c main_v4 ((win0_11.blk t).view.emb (ix2 0 k)) = _
  refine congrArg _ ?_
  blk_ext [index_11]
theorem staged_s5 (t : Fin cfg0.N) (r : Fin 1024) (p : Fin 256) : unpack (iblk m c 1 t) r p = S5 m c (bi t.val) (row t.val r) p := by
  have e : row t.val r = ⟨(t.val % 4 * 128 + r.val / 8) * 8 + r.val % 8, by omega⟩ := Fin.ext (by simp only [row]; omega)
  rw [e, ← V_s5 m c (bi t.val) ⟨t.val % 4 * 128 + r.val / 8, by omega⟩ ⟨r.val % 8, by omega⟩ p]
  unfold unpack
  show V m c main_v5 ((win0_1.blk t).view.emb (ix3 0 ⟨r.val / 8, by omega⟩ ⟨r.val % 8 * 256 + p.val, by omega⟩)) = _
  refine congrArg _ ?_
  blk_ext [index_1, bi]

/-- The result array. -/
def res : S4x4096x1024.Idx → EReal :=
  fun j => mergeOut (X m c) (S5 m c) (HY m c) (NA m c) (SW m c) (GT m c) (GM m c) (WG m c) (WB m c) (WO m c) (LG m c) (LB m c) (j 0) (j 1) (j 2)

theorem staged_s5_row (t : Fin cfg0.N) (r : Fin 1024) : unpack (iblk m c 1 t) r = S5 m c (bi t.val) (row t.val r) := funext (staged_s5 m c t r)

theorem blk_staged (t : Fin cfg0.N) :
    mergeBlk (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t)
      = fun j => mergeOut (X m c) (S5 m c) (HY m c) (NA m c) (SW m c) (GT m c) (GM m c) (WG m c) (WB m c) (WO m c) (LG m c) (LB m c)
          (bi t.val) (row t.val (j 1)) (j 2) := by
  funext j
  idx_vars j
  rw [mergeBlk_ix3, staged_s5_row]
  simp only [staged_x, staged_hy, staged_na, staged_sw, staged_gt, staged_gm, staged_wg, staged_wb, staged_wo, staged_lg, staged_lb]
  rfl

theorem final : (dats m 0 c).arrAt 12 cfg0.N = res m c := by
  refine (dats m 0 c).arrAt_eq_of_covers 12 _ (by decide +kernel) fun t hf y => ?_
  blk_simp
  rw [after0_12]
  unfold outsAt0
  rw [out_eq, blk_staged]
  revert y
  intro (y : S1x1024x1024.Idx)
  idx_vars y
  have e : ((win0_12.blk t).view.emb (ix3 y0 y1 y2 : S1x1024x1024.Idx)) = ix3 (bi t.val) (row t.val y1) (⟨y2.val, by omega⟩ : Fin 1024) := by
    blk_ext [index_12, bi, row]
  rw [e]
  rfl

/-- The call runs and leaves the function of MergeSpec.lean as its result, its arguments unchanged. -/
theorem run_value : θ_run (defs (F := Ideal)) (onTc (τ := τ) (main (F := Ideal))) ⟨m, fun _ => 0, ρ⟩ fun r => ∀ c : Dev nD,
      r.2.mem (c.tc.loc main_v6) = res m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)
      ∧ r.2.mem (c.tc.loc main_arg11) = m (c.tc.loc main_arg11) :=
  (θ_run defs _ _).mono (fun _ h c => ⟨(h c).1.trans (final m c), (h c).2⟩) (Value.run_blocks m ρ)

end Cert.Kernel3Ideal.Hand
end
-- ==== Proof.MergeReference.lean ====
/- The merge's reference, entry by entry: the function of rows that MergeSpec.lean names. -/
module

public import proofs.«01_k».proof.Proof.Gen.Reference3Ideal.Run
public import proofs.«01_k».proof.Proof.Gen.Reference3Ideal
public import proofs.«01_k».proof.Proof.MergeSpec
public import Idealize.ShloMosaic.Lib.Pointwise
public import Idealize.ShloMosaic.Lib.Quiescent

@[expose] public section
set_option maxRecDepth 16384
noncomputable section
namespace Cert.Reference3Ideal.Hand
open Idealize.ShloMosaic Idealize.ShloMosaic.TcCoe Idealize.ShloMosaic.Tactic
open Cert.Reference3Ideal Cert.Reference3Ideal.Gen Cert.Reference3Ideal.Value Cert.InProj Cert.Trunk

variable (m : (ℓ : Loc nD τ sig) → Buf (Elt Ideal) ℓ) (c : Dev nD)

/-- The tokens. -/
def X (b : Fin 4) (r : Fin 4096) (k : Fin 1024) : EReal := m (c.tc.loc main_arg0) (ix3 b r k)
/-- The first branch's rows. -/
def S5 (b : Fin 4) (r : Fin 4096) (k : Fin 256) : EReal := m (c.tc.loc main_arg1) (ix3 b r k)
/-- The second branch's. -/
def HY (b : Fin 4) (r : Fin 4096) (k : Fin 256) : EReal := m (c.tc.loc main_arg2) (ix3 b r k)
/-- The third branch's. -/
def NA (b : Fin 4) (r : Fin 4096) (k : Fin 256) : EReal := m (c.tc.loc main_arg3) (ix3 b r k)
/-- The fourth branch's. -/
def SW (b : Fin 4) (r : Fin 4096) (k : Fin 256) : EReal := m (c.tc.loc main_arg4) (ix3 b r k)
/-- The branches' gates, 1024 columns to a branch. -/
def GT (b : Fin 4) (r : Fin 4096) (n : Fin 4) (k : Fin 1024) : EReal := m (c.tc.loc main_arg5) (ix3 b r ⟨n.val * 1024 + k.val, by omega⟩)
/-- The residual's gates. -/
def GM (b : Fin 4) (k : Fin 1024) : EReal := m (c.tc.loc main_arg6) (ix3 b 0 k)
/-- The gated unit's weights. -/
def WG (p k : Fin 256) : EReal := m (c.tc.loc main_arg7) (ix2 p k)
/-- The branches' projections. -/
def WB (n : Fin 4) (p : Fin 256) (k : Fin 1024) : EReal := m (c.tc.loc main_arg8) (ix3 n p k)
/-- The last projection. -/
def WO (p k : Fin 1024) : EReal := m (c.tc.loc main_arg9) (ix2 p k)
/-- The last normalisation's scale. -/
def LG (k : Fin 1024) : EReal := m (c.tc.loc main_arg10) (ix1 k)
/-- The last normalisation's shift. -/
def LB (k : Fin 1024) : EReal := m (c.tc.loc main_arg11) (ix1 k)

/-- The cube as the reference brackets it. -/
theorem gelu_eq (v : EReal) : v * (Ideal.ofBits FTy.f32 1056964608#32 * (1
    + Ideal.tanh (Ideal.ofBits FTy.f32 1061962282#32 * (v + Ideal.ofBits FTy.f32 1027024659#32 * (v * v * v))))) = gelu v := by
  rw [mul_assoc v v v]
  rfl

set_option maxHeartbeats 2000000 in
theorem out (b : Fin 4) (r : Fin 4096) (k : Fin 1024) : res_main_v60 m c (ix3 b r k)
    = mergeOut (X m c) (S5 m c) (HY m c) (NA m c) (SW m c) (GT m c) (GM m c) (WG m c) (WB m c) (WO m c) (LG m c) (LB m c) b r k := by
  unfold res_main_v60
  generalize hD : Host.dotGeneral (F := Ideal) dot_S4x4096x256_S256x256_S4x4096x256_2_0_01_1_n_n none _ _ = D
  have hz : ∀ (b : Fin 4) (r : Fin 4096) (k : Fin 256), D (ix3 b r k) = ∑ p, gelu (S5 m c b r p) * WG m c p k := by
    intro b r k
    rw [← hD]
    pointwise []
    simp only [gelu_eq]
    rfl
  clear hD
  generalize hC : concatenate S4x4096x4x256 2 [⟨S4x4096x1x256, _⟩, ⟨S4x4096x1x256, _⟩, ⟨S4x4096x1x256, _⟩, ⟨S4x4096x1x256, _⟩] _ = C
  have hc : ∀ (b : Fin 4) (r : Fin 4096) (n : Fin 4) (p : Fin 256), C (ix4 b r n p) = rows4 (S5 m c b r) (HY m c b r) (NA m c b r) (SW m c b r) (WG m c) n p := by
    intro b r n p
    rw [← hC]
    fin_cases n
    all_goals pointwise []
    · simp only [hz]
      exact congrArg (· * _) (gelu_eq (S5 m c b r p))
    all_goals rfl
  clear hC hz
  generalize hE : Host.dotGeneral (F := Ideal) dot_S4x256x1024_S4x4096x4x256_S4x1024x4x4096_1_3_2_01_0_2 none _ _ = E
  have he : ∀ (n : Fin 4) (k : Fin 1024) (b : Fin 4) (r : Fin 4096), E (ix4 n k b r)
      = proj (rows4 (S5 m c b r) (HY m c b r) (NA m c b r) (SW m c b r) (WG m c) n) (WB m c n) k := by
    intro n k b r
    rw [← hE]
    pointwise []
    simp only [hc]
    exact Finset.sum_congr rfl fun p _ => mul_comm _ _
  clear hE hc
  generalize hM : Host.dotGeneral (F := Ideal) dot_S4x4096x4x1024_S4x4096x4x1024_S4x4096x1024_2_2_n_n_013_013 none _ _ = M
  have hm : ∀ (b : Fin 4) (r : Fin 4096) (k : Fin 1024), M (ix3 b r k)
      = mixRow (rows4 (S5 m c b r) (HY m c b r) (NA m c b r) (SW m c b r) (WG m c)) (WB m c) (GT m c b r) k := by
    intro b r k
    rw [← hM]
    pointwise []
    simp only [he]
    exact Fin.sum_univ_four _
  clear hM he
  generalize hO : Host.dotGeneral (F := Ideal) dot_S4x4096x1024_S1024x1024_S4x4096x1024_2_0_01_1_n_n none _ _ = O
  have ho : ∀ (b : Fin 4) (r : Fin 4096) (k : Fin 1024), O (ix3 b r k)
      = ∑ p, mixRow (rows4 (S5 m c b r) (HY m c b r) (NA m c b r) (SW m c b r) (WG m c)) (WB m c) (GT m c b r) p * WO m c p k := by
    intro b r k
    rw [← hO]
    pointwise []
    simp only [hm]
    rfl
  clear hO hm
  pointwise []
  simp only [ho]
  rfl

/-- The reference runs and leaves that function as its result, its arguments unchanged. -/
theorem run_value (ρ : Dev nD → PrngReg) :
    θ_run (defs (F := Ideal)) (onTc (τ := τ) (main (F := Ideal))) ⟨m, fun _ => 0, ρ⟩ fun r => ∀ c : Dev nD,
      (∀ b q k, r.2.mem (c.tc.loc main_v60) (ix3 b q k)
        = mergeOut (X m c) (S5 m c) (HY m c) (NA m c) (SW m c) (GT m c) (GM m c) (WG m c) (WB m c) (WO m c) (LG m c) (LB m c) b q k)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)
      ∧ r.2.mem (c.tc.loc main_arg11) = m (c.tc.loc main_arg11) := by
  refine (θ_run defs _ _).mono (fun r h c => ⟨fun b q k => ?_, (h c).2⟩) (run m ρ)
  rw [(h c).1]; exact out m c b q k

/-- Its arguments end unchanged; it has no semaphore. -/
theorem quiescent (ρ : Dev nD → PrngReg) : θ_run (defs (F := Ideal)) (onTc (τ := τ) (main (F := Ideal))) ⟨m, fun _ => 0, ρ⟩ fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)
      ∧ r.2.mem (c.tc.loc main_arg11) = m (c.tc.loc main_arg11)) ∧ r.2.sem = fun _ => 0 :=
  (θ_run defs _ _).mono (fun r h => ⟨fun c => (h c).2, sem_eq_zero_of_no_sems rfl r.2⟩) (run_value m ρ)

end Cert.Reference3Ideal.Hand
-- ==== Proof.AttnSpec.lean ====
/- Attention of one query over a window of keys, a second set of keys and a sink, as a function of its scores. -/
module

public import Idealize.ShloMosaic.PureOps.Ideal
public import Mathlib.Algebra.BigOperators.Fin

@[expose] public section

noncomputable section

namespace Cert.Trunk

open Idealize.ShloMosaic

/-- The largest of the scores `sl`, `sc` and `sk`. -/
def top {n k : ℕ} (sl : Fin n → EReal) (sc : Fin k → EReal) (sk : EReal) : EReal :=
  max (max (Finset.univ.sup sl) (Finset.univ.sup sc)) sk

/-- The average of `vl` and `vc` with the exponentials of the scores `sl` and `sc` as weights; the score `sk` has a weight
    and no value. -/
def attend {n k : ℕ} (sl vl : Fin n → EReal) (sc vc : Fin k → EReal) (sk : EReal) : EReal :=
  Ideal.div ((∑ i, Ideal.exp (sl i - top sl sc sk) * vl i) + ∑ j, Ideal.exp (sc j - top sl sc sk) * vc j)
    ((∑ i, Ideal.exp (sl i - top sl sc sk)) + (∑ j, Ideal.exp (sc j - top sl sc sk)) + Ideal.exp (sk - top sl sc sk))

/-- The three parts of a sum over joined scores. -/
theorem sum_three {a b n : ℕ} (h : n = a + b + 1) (f : Fin n → EReal) :
    ∑ i, f i = (∑ i : Fin a, f ⟨i.val, by omega⟩) + (∑ j : Fin b, f ⟨a + j.val, by omega⟩) + f ⟨a + b, by omega⟩ := by
  subst h
  rw [Fin.sum_univ_add, Fin.sum_univ_add, Fin.sum_univ_one]
  rfl

/-- The three parts of the largest of joined scores. -/
theorem sup_three {a b n : ℕ} (h : n = a + b + 1) (f : Fin n → EReal) :
    Finset.univ.sup f = max (max (Finset.univ.sup fun i : Fin a => f ⟨i.val, by omega⟩)
      (Finset.univ.sup fun j : Fin b => f ⟨a + j.val, by omega⟩)) (f ⟨a + b, by omega⟩) := by
  refine le_antisymm (Finset.sup_le fun i _ => ?_) (max_le (max_le (Finset.sup_le fun i _ => ?_) (Finset.sup_le fun i _ => ?_)) ?_)
  · by_cases h1 : i.val < a
    · exact le_max_of_le_left (le_max_of_le_left (Finset.le_sup (f := fun i : Fin a => f ⟨i.val, by omega⟩) (Finset.mem_univ ⟨i.val, h1⟩)))
    · by_cases h2 : i.val < a + b
      · have e : i = ⟨a + (i.val - a), by omega⟩ := Fin.ext (by simp only; omega)
        refine le_max_of_le_left (le_max_of_le_right (le_trans (le_of_eq (congrArg f e))
          (Finset.le_sup (f := fun j : Fin b => f ⟨a + j.val, by omega⟩) (Finset.mem_univ ⟨i.val - a, by omega⟩))))
      · have e : i = ⟨a + b, by omega⟩ := Fin.ext (by simp only; omega)
        exact le_max_of_le_right (le_of_eq (congrArg f e))
  · exact Finset.le_sup (f := f) (Finset.mem_univ _)
  · exact Finset.le_sup (f := f) (Finset.mem_univ _)
  · exact Finset.le_sup (f := f) (Finset.mem_univ _)

/-- A score of −∞ has weight 0. -/
theorem exp_masked (m : EReal) : Ideal.exp (⊥ - m) = 0 := by
  rw [sub_eq_add_neg, EReal.bot_add, Ideal.exp_bot]

/-- A sum over a window of `n` places that hold each of the entries `w` once is the sum over those entries. -/
theorem sum_places {n k : ℕ} (p : Fin n → Prop) [DecidablePred p] (w : Fin k → Prop) [DecidablePred w] (pos : Fin n → Fin k)
    (hw : ∀ i, p i → w (pos i)) (inj : ∀ i j, p i → p j → pos i = pos j → i = j) (onto : ∀ r, w r → ∃ i, p i ∧ pos i = r)
    (f : Fin n → EReal) (g : Fin k → EReal) (hf : ∀ i, p i → f i = g (pos i)) (f0 : ∀ i, ¬ p i → f i = 0) (g0 : ∀ r, ¬ w r → g r = 0) :
    ∑ i, f i = ∑ r, g r := by
  rw [← Finset.sum_filter_of_ne (p := p) (fun i _ h => by_contra fun hp => h (f0 i hp)),
    ← Finset.sum_filter_of_ne (p := w) (f := g) (fun r _ h => by_contra fun hp => h (g0 r hp))]
  refine Finset.sum_bij (fun i _ => pos i) ?_ ?_ ?_ ?_
  · intro i hi
    exact Finset.mem_filter.2 ⟨Finset.mem_univ _, hw i (Finset.mem_filter.1 hi).2⟩
  · intro i hi j hj h
    exact inj i j (Finset.mem_filter.1 hi).2 (Finset.mem_filter.1 hj).2 h
  · intro r hr
    obtain ⟨i, hi, e⟩ := onto r (Finset.mem_filter.1 hr).2
    exact ⟨i, Finset.mem_filter.2 ⟨Finset.mem_univ _, hi⟩, e⟩
  · intro i hi
    exact hf i (Finset.mem_filter.1 hi).2

/-- The same of the largest entry. -/
theorem sup_places {n k : ℕ} (p : Fin n → Prop) [DecidablePred p] (w : Fin k → Prop) [DecidablePred w] (pos : Fin n → Fin k)
    (hw : ∀ i, p i → w (pos i)) (onto : ∀ r, w r → ∃ i, p i ∧ pos i = r) (s : Fin k → EReal) :
    (Finset.univ.sup fun i => if p i then s (pos i) else ⊥) = Finset.univ.sup fun r => if w r then s r else ⊥ := by
  refine le_antisymm (Finset.sup_le fun i _ => ?_) (Finset.sup_le fun r _ => ?_)
  · split
    · rename_i h
      refine le_trans (le_of_eq ?_) (Finset.le_sup (Finset.mem_univ (pos i)))
      rw [if_pos (hw i h)]
    · exact bot_le
  · split
    · rename_i h
      obtain ⟨i, hi, e⟩ := onto r h
      refine le_trans (le_of_eq ?_) (Finset.le_sup (Finset.mem_univ i))
      rw [if_pos hi, e]
    · exact bot_le

/-- Attention over a window of places, the others masked, is attention over the entries that the window holds. -/
theorem attend_places {n k l : ℕ} (p : Fin n → Prop) [DecidablePred p] (w : Fin k → Prop) [DecidablePred w] (pos : Fin n → Fin k)
    (hw : ∀ i, p i → w (pos i)) (inj : ∀ i j, p i → p j → pos i = pos j → i = j) (onto : ∀ r, w r → ∃ i, p i ∧ pos i = r)
    (s v : Fin k → EReal) (u t : Fin n → EReal) (ht : ∀ i, p i → t i = s (pos i)) (hu : ∀ i, p i → u i = v (pos i)) (sc vc : Fin l → EReal) (sk : EReal) :
    attend (fun i => if p i then t i else ⊥) u sc vc sk = attend (fun r => if w r then s r else ⊥) v sc vc sk := by
  have e : (fun i => if p i then t i else ⊥) = fun i => if p i then s (pos i) else ⊥ := by
    funext i
    split
    · exact ht i ‹_›
    · rfl
  rw [e]
  have ht : top (fun i => if p i then s (pos i) else ⊥) sc sk = top (fun r => if w r then s r else ⊥) sc sk := by
    unfold top
    rw [sup_places p w pos hw onto s]
  unfold attend
  rw [ht]
  generalize top (fun r => if w r then s r else ⊥) sc sk = m
  rw [sum_places p w pos hw inj onto _ (fun r => Ideal.exp ((if w r then s r else ⊥) - m) * v r)
      (fun i hi => by simp only [if_pos hi, if_pos (hw i hi), hu i hi]) (fun i hi => by simp only [if_neg hi, exp_masked, zero_mul])
      (fun r hr => by simp only [if_neg hr, exp_masked, zero_mul]),
    sum_places p w pos hw inj onto _ (fun r => Ideal.exp ((if w r then s r else ⊥) - m))
      (fun i hi => by simp only [if_pos hi, if_pos (hw i hi)]) (fun i hi => by simp only [if_neg hi, exp_masked])
      (fun r hr => by simp only [if_neg hr, exp_masked])]

/-- Entry `d` of head `h` of query `r`: the attention of the query over the keys at most 128 tokens away, the context's keys and
    the head's sink. Two heads share the 64 columns of a key and of a value. -/
def windowed (Q : Fin 4096 → Fin 256 → EReal) (K : Fin 4096 → Fin 256 → EReal) (KC VC : Fin 256 → Fin 128 → EReal) (S : Fin 4 → EReal)
    (r : Fin 4096) (h : Fin 4) (d : Fin 64) : EReal :=
  attend (fun k : Fin 4096 => if k.val ≤ r.val + 128 ∧ r.val ≤ k.val + 128
      then ∑ x : Fin 64, Q r ⟨h.val * 64 + x.val, by omega⟩ * K k ⟨h.val / 2 * 64 + x.val, by omega⟩ else ⊥)
    (fun k => K k ⟨128 + h.val / 2 * 64 + d.val, by omega⟩)
    (fun c : Fin 256 => ∑ x : Fin 64, Q r ⟨h.val * 64 + x.val, by omega⟩ * KC c ⟨h.val / 2 * 64 + x.val, by omega⟩)
    (fun c => VC c ⟨h.val / 2 * 64 + d.val, by omega⟩) (S h)

end Cert.Trunk

end
-- ==== Proof.WindowRows.lean ====
/- The attention body's values, entry by entry. -/
module

public import proofs.«01_k».proof.Proof.AttnSpec
public import proofs.«01_k».proof.Proof.Gen.Kernel4Ideal.Frame
public import proofs.«01_k».proof.Proof.Gen.Kernel4Ideal.Skeleton
public import proofs.«01_k».proof.Proof.Blocks
public import Idealize.ShloMosaic.Lib.Pointwise

@[expose] public section

set_option maxRecDepth 16384

noncomputable section

namespace Cert.Kernel4Ideal.Hand

open Idealize.ShloMosaic Idealize.ShloMosaic.TcCoe Idealize.ShloMosaic.Tactic
open Cert.Kernel4Ideal Cert.Kernel4Ideal.Gen Cert.Trunk

/-- The rows' numbers. -/
def rowNo : IVec S512x1 32 := iota .tc S512x1 32 [0] iota_S512x1_d0_w32

/-- Which of the two stacked heads a row belongs to. -/
theorem head_no : ∀ r : Fin 512, Scalar.select
        (IntOp.andi
          (IntOp.cmpi .ne (IntOp.subi (BitVec.setWidth 32 (IntOp.cmpi .sgt (BitVec.ofNat 32 r.val) 0#32)) (BitVec.setWidth 32 (IntOp.cmpi .slt (BitVec.ofNat 32 r.val) 0#32)))
            (Scalar.subi (Scalar.extui (Scalar.cmpi .sgt 256#32 0#32)) (Scalar.extui (Scalar.cmpi .slt 256#32 0#32))))
          (IntOp.cmpi .ne (IntOp.remsi .vector (BitVec.ofNat 32 r.val) 256#32) 0#32))
        (IntOp.subi (IntOp.divsi .vector (BitVec.ofNat 32 r.val) 256#32) 1#32) (IntOp.divsi .vector (BitVec.ofNat 32 r.val) 256#32) = BitVec.ofNat 32 (r.val / 256) := by
  decide +kernel

/-- Which of the four staged blocks a key belongs to. -/
theorem block_no : ∀ c : Fin 512, Scalar.select
        (IntOp.andi
          (IntOp.cmpi .ne (IntOp.subi (BitVec.setWidth 32 (IntOp.cmpi .sgt (BitVec.ofNat 32 c.val) 0#32)) (BitVec.setWidth 32 (IntOp.cmpi .slt (BitVec.ofNat 32 c.val) 0#32)))
            (Scalar.subi (Scalar.extui (Scalar.cmpi .sgt 128#32 0#32)) (Scalar.extui (Scalar.cmpi .slt 128#32 0#32))))
          (IntOp.cmpi .ne (IntOp.remsi .vector (BitVec.ofNat 32 c.val) 128#32) 0#32))
        (IntOp.subi (IntOp.divsi .vector (BitVec.ofNat 32 c.val) 128#32) 1#32) (IntOp.divsi .vector (BitVec.ofNat 32 c.val) 128#32) = BitVec.ofNat 32 (c.val / 128) := by
  decide +kernel

/-- The query that a stacked row holds. -/
theorem query_no : ∀ r : Fin 512, Scalar.select
      (IntOp.andi (IntOp.xori (IntOp.cmpi .slt (IntOp.remsi .vector (BitVec.ofNat 32 r.val) (Scalar.select (Scalar.cmpi .eq 256#32 0#32) 1#32 256#32)) 0#32) (Scalar.cmpi .slt (Scalar.select (Scalar.cmpi .eq 256#32 0#32) 1#32 256#32) 0#32)) (IntOp.cmpi .ne (IntOp.remsi .vector (BitVec.ofNat 32 r.val) (Scalar.select (Scalar.cmpi .eq 256#32 0#32) 1#32 256#32)) 0#32))
      (IntOp.addi (IntOp.remsi .vector (BitVec.ofNat 32 r.val) (Scalar.select (Scalar.cmpi .eq 256#32 0#32) 1#32 256#32)) (Scalar.select (Scalar.cmpi .eq 256#32 0#32) 1#32 256#32)) (IntOp.remsi .vector (BitVec.ofNat 32 r.val) (Scalar.select (Scalar.cmpi .eq 256#32 0#32) 1#32 256#32)) = BitVec.ofNat 32 (r.val % 256) := by
  decide +kernel

theorem near_fin : ∀ d : Fin 768, IntOp.cmpi .sle (IntOp.absi (BitVec.ofNat 32 d.val - 384#32)) 128#32 = if 256 ≤ d.val ∧ d.val ≤ 512 then 1#1 else 0#1 := by
  decide +kernel

theorem after_fin : ∀ (i : Fin 16) (q : Fin 4), IntOp.cmpi .sge (IntOp.addi (Scalar.subi (Scalar.muli (BitVec.ofNat 32 i.val) 2#32) 1#32) (BitVec.ofNat 32 q.val)) 0#32
    = if 1 ≤ 2 * i.val + q.val then 1#1 else 0#1 := by
  decide +kernel

theorem before_fin : ∀ (i : Fin 16) (q : Fin 4), IntOp.cmpi .slt (IntOp.addi (Scalar.subi (Scalar.muli (BitVec.ofNat 32 i.val) 2#32) 1#32) (BitVec.ofNat 32 q.val)) 32#32
    = if 2 * i.val + q.val < 33 then 1#1 else 0#1 := by
  decide +kernel

theorem near_word (d : ℕ) (hd : d < 768) : IntOp.cmpi .sle (IntOp.absi (BitVec.ofNat 32 d - 384#32)) 128#32 = if 256 ≤ d ∧ d ≤ 512 then 1#1 else 0#1 :=
  near_fin ⟨d, hd⟩

theorem after_word (i : Fin 16) (q : ℕ) (hq : q < 4) : IntOp.cmpi .sge (IntOp.addi (Scalar.subi (Scalar.muli (BitVec.ofNat 32 i.val) 2#32) 1#32) (BitVec.ofNat 32 q)) 0#32
    = if 1 ≤ 2 * i.val + q then 1#1 else 0#1 :=
  after_fin i ⟨q, hq⟩

theorem before_word (i : Fin 16) (q : ℕ) (hq : q < 4) : IntOp.cmpi .slt (IntOp.addi (Scalar.subi (Scalar.muli (BitVec.ofNat 32 i.val) 2#32) 1#32) (BitVec.ofNat 32 q)) 32#32
    = if 2 * i.val + q < 33 then 1#1 else 0#1 :=
  before_fin i ⟨q, hq⟩

theorem distance (c r : ℕ) (hc : c < 512) (hr : r < 256) :
    IntOp.subi (IntOp.subi (BitVec.ofNat 32 c) 128#32) (BitVec.ofNat 32 r) = BitVec.ofNat 32 (c + 256 - r) - 384#32 := by
  show BitVec.ofNat 32 c - 128#32 - BitVec.ofNat 32 r = _
  apply BitVec.eq_of_toNat_eq
  simp only [BitVec.toNat_sub, BitVec.toNat_ofNat]
  omega

/-- Which keys of the four staged blocks query `r` of block `i` sees: those at most 128 tokens away, of a block that there is. -/
def sees (i r c : ℕ) : Prop := (r ≤ c ∧ c ≤ r + 256) ∧ 1 ≤ 2 * i + c / 128 ∧ 2 * i + c / 128 < 33

instance (i r c : ℕ) : Decidable (sees i r c) := inferInstanceAs (Decidable (_ ∧ _))

theorem mask_entry (i : Fin 16) (r c : Fin 512) (a b : EReal) :
    Scalar.select (k0_pay9 (BitVec.ofNat 32 i.val) k0_pay6 k0_pay7 k0_pay8 (ix2 r c)) a b = if sees i.val (r.val % 256) c.val then a else b := by
  have e : k0_pay9 (BitVec.ofNat 32 i.val) k0_pay6 k0_pay7 k0_pay8 (ix2 r c) = if sees i.val (r.val % 256) c.val then 1#1 else 0#1 := by
    unfold k0_pay9 k0_pay7 k0_pay8 k0_pay6
    pointwise []
    rw [query_no r, block_no c, distance c.val (r.val % 256) (by omega) (by omega), near_word (c.val + 256 - r.val % 256) (by omega),
      after_word i (c.val / 128) (by omega), before_word i (c.val / 128) (by omega)]
    by_cases h1 : r.val % 256 ≤ c.val ∧ c.val ≤ r.val % 256 + 256
    · rw [if_pos (show 256 ≤ c.val + 256 - r.val % 256 ∧ c.val + 256 - r.val % 256 ≤ 512 by omega)]
      by_cases h2 : 1 ≤ 2 * i.val + c.val / 128
      · by_cases h3 : 2 * i.val + c.val / 128 < 33
        · rw [if_pos h2, if_pos h3, if_pos (show sees i.val (r.val % 256) c.val from ⟨h1, h2, h3⟩)]
          rfl
        · rw [if_pos h2, if_neg h3, if_neg (show ¬ sees i.val (r.val % 256) c.val from fun h => h3 h.2.2)]
          rfl
      · rw [if_neg h2, if_neg (show ¬ sees i.val (r.val % 256) c.val from fun h => h2 h.2.1)]
        split <;> rfl
    · rw [if_neg (show ¬ (256 ≤ c.val + 256 - r.val % 256 ∧ c.val + 256 - r.val % 256 ≤ 512) by omega),
        if_neg (show ¬ sees i.val (r.val % 256) c.val from fun h => h1 h.1)]
      by_cases h2 : 1 ≤ 2 * i.val + c.val / 128
      · by_cases h3 : 2 * i.val + c.val / 128 < 33
        · rw [if_pos h2, if_pos h3]
          rfl
        · rw [if_pos h2, if_neg h3]
          rfl
      · by_cases h3 : 2 * i.val + c.val / 128 < 33
        · rw [if_neg h2, if_pos h3]
          rfl
        · rw [if_neg h2, if_neg h3]
          rfl
  rw [e]
  split <;> rfl

theorem pick_head (r : Fin 512) (a b : EReal) :
    Scalar.select (IntOp.cmpi .eq (BitVec.ofNat 32 (r.val / 256)) 1#32) b (Scalar.select (IntOp.cmpi .eq (BitVec.ofNat 32 (r.val / 256)) 0#32) a 0)
      = if r.val < 256 then a else b := by
  split
  · rw [show r.val / 256 = 0 by omega]
    rfl
  · rw [show r.val / 256 = 1 by omega]
    rfl

theorem sink_first (a b : EReal) (r : Fin 512) (z : Fin 1) :
    k0_pay17 (F := Ideal) rowNo (k0_pay14 a) 256#32 k0_pay15 k0_pay16 b (ix2 r z) = if r.val < 256 then a else b := by
  unfold k0_pay17 k0_pay14 k0_pay15 k0_pay16 rowNo
  pointwise []
  rw [head_no r]
  exact pick_head r a b

theorem sink_second (a b : EReal) (r : Fin 512) (z : Fin 1) :
    k0_pay31 (F := Ideal) rowNo (k0_pay29 a) 256#32 k0_pay30 0#32 b (ix2 r z) = if r.val < 256 then a else b := by
  unfold k0_pay31 k0_pay29 k0_pay30 rowNo
  pointwise []
  rw [head_no r]
  exact pick_head r a b

/-- The masked scores' constant is −∞. -/
theorem mask_bot : Named.named (F := Ideal) κ "mask" (φ := .f32) 0xF149F2CA#32 = ⊥ := IdealRules.named_const.ideal_named_scalar _ _ _ _ rfl

theorem neg_inf : Ideal.ofBits .f32 0xFF800000#32 = ⊥ := by
  simp [Ideal.ofBits, Ideal.ieee]

theorem fold_bot {n : ℕ} (f : Fin n → EReal) : Finset.fold max ⊥ f Finset.univ = Finset.univ.sup f := rfl

section Pair

variable (v79 : FVec Ideal S512x512 .f32) (v81 : FVec Ideal S512x256 .f32) (a : IVec S512x1 32) (b : FVec Ideal S512x1 .f32) (k : BitVec 32) (d e : IVec S512x1 32)
  (f : BitVec 32) (s : EReal) (v10 : FVec Ideal S512x256 .bf16) (v14 : FVec Ideal S256x128 .bf16)

theorem top_first (r : Fin 512) (z : Fin 1) : k0_pay18 (F := Ideal) v79 v81 a b k d e s (ix2 r z)
    = top (fun c : Fin 512 => v79 (ix2 r c)) (fun c : Fin 256 => v81 (ix2 r c)) (k0_pay17 (F := Ideal) a b k d e s (ix2 r z)) := by
  unfold k0_pay18
  generalize k0_pay17 (F := Ideal) a b k d e s = S
  pointwise []
  rw [neg_inf, fold_bot, fold_bot]
  rfl

theorem top_second (r : Fin 512) (z : Fin 1) : k0_pay32 (F := Ideal) v79 v81 a b k d f s (ix2 r z)
    = top (fun c : Fin 512 => v79 (ix2 r c)) (fun c : Fin 256 => v81 (ix2 r c)) (k0_pay31 (F := Ideal) a b k d f s (ix2 r z)) := by
  unfold k0_pay32
  generalize k0_pay31 (F := Ideal) a b k d f s = S
  pointwise []
  rw [neg_inf, fold_bot, fold_bot]
  rfl

theorem quot_first (r : Fin 512) (x : Fin 64) : k0_pay23 (F := Ideal) (k0_pay21 v10 v14 v79 v81 a b k d e s) (k0_pay22 v79 v81 a b k d e s) (ix2 r x)
    = attend (fun c : Fin 512 => v79 (ix2 r c)) (fun c => v10 (ix2 c ⟨128 + x.val, by omega⟩)) (fun c : Fin 256 => v81 (ix2 r c)) (fun c => v14 (ix2 c ⟨x.val, by omega⟩))
        (k0_pay17 (F := Ideal) a b k d e s (ix2 r 0)) := by
  unfold attend
  rw [← top_first v79 v81 a b k d e s r 0]
  unfold k0_pay23 k0_pay21 k0_pay22 k0_pay19 k0_pay20
  generalize k0_pay17 (F := Ideal) a b k d e s = S
  generalize k0_pay18 (F := Ideal) v79 v81 a b k d e s = M
  pointwise []

/-- The second pair of heads' quotient. -/
def quot (r : Fin 512) (x : Fin 64) : EReal :=
  attend (fun c : Fin 512 => v79 (ix2 r c)) (fun c => v10 (ix2 c ⟨192 + x.val, by omega⟩)) (fun c : Fin 256 => v81 (ix2 r c)) (fun c => v14 (ix2 c ⟨64 + x.val, by omega⟩))
    (k0_pay31 (F := Ideal) a b k d f s (ix2 r 0))

theorem stored_eq (v171 v172 : FVec Ideal S256x64 .f32) (z : Fin 1) (r j : Fin 256) :
    k0_pay1 (F := Ideal) v14 v171 v172 (k0_pay34 v79 v81 a b k d f s) (k0_pay35 v79 v81 a b k d f s) (k0_pay36 v79 v81 a b k d f s) (k0_pay37 v10) (ix3 z r j)
      = if h : j.val < 64 then v171 (ix2 r ⟨j.val, h⟩) else if h : j.val - 64 < 64 then v172 (ix2 r ⟨j.val - 64, h⟩)
          else if h : j.val - 64 - 64 < 64 then quot v79 v81 a b k d f s v10 v14 ⟨r.val, by omega⟩ ⟨j.val - 64 - 64, h⟩
            else quot v79 v81 a b k d f s v10 v14 ⟨256 + r.val, by omega⟩ ⟨j.val - 64 - 64 - 64, by omega⟩ := by
  unfold quot attend
  rw [← top_second v79 v81 a b k d f s _ 0, ← top_second v79 v81 a b k d f s _ 0]
  unfold k0_pay1 k0_pay36 k0_pay37 k0_pay35 k0_pay34 k0_pay33
  generalize k0_pay31 (F := Ideal) a b k d f s = S
  generalize k0_pay32 (F := Ideal) v79 v81 a b k d f s = M
  pointwise []

end Pair

/-- Two heads' queries, one above the other. -/
theorem stacked (v1 : FVec Ideal S256x256 .bf16) (o : ℕ) (ho : o ≤ 128) (r : Fin 512) (x : Fin 64) :
    (if h : r.val < 256 then v1 (ix2 ⟨r.val, h⟩ ⟨o + x.val, by omega⟩) else v1 (ix2 ⟨r.val - 256, by omega⟩ ⟨o + 64 + x.val, by omega⟩))
      = v1 (ix2 ⟨r.val % 256, by omega⟩ ⟨o + r.val / 256 * 64 + x.val, by omega⟩) := by
  split
  · refine congrArg v1 (congrArg₂ _ (Fin.ext ?_) (Fin.ext ?_))
    · show r.val = r.val % 256
      omega
    · show o + x.val = o + r.val / 256 * 64 + x.val
      omega
  · refine congrArg v1 (congrArg₂ _ (Fin.ext ?_) (Fin.ext ?_))
    · show r.val - 256 = r.val % 256
      omega
    · show o + 64 + x.val = o + r.val / 256 * 64 + x.val
      omega

theorem first_scores (ok : IVec S512x512 1) (v1 : FVec Ideal S256x256 .bf16) (v10 : FVec Ideal S512x256 .bf16) (r c : Fin 512) :
    k0_pay12 (F := Ideal) ok (k0_pay10 v1) (k0_pay11 v10) (constant S512x512 .f32 0x00000000#32) (ix2 r c)
      = Scalar.select (ok (ix2 r c)) (∑ x : Fin 64, v1 (ix2 ⟨r.val % 256, by omega⟩ ⟨0 + r.val / 256 * 64 + x.val, by omega⟩) * v10 (ix2 c ⟨x.val, by omega⟩)) ⊥ := by
  simp only [← stacked v1 0 (by omega)]
  unfold k0_pay12 k0_pay10 k0_pay11
  pointwise []
  rw [mask_bot]

theorem second_scores (ok : IVec S512x512 1) (v1 : FVec Ideal S256x256 .bf16) (v10 : FVec Ideal S512x256 .bf16) (r c : Fin 512) :
    k0_pay27 (F := Ideal) v1 v10 ok (ix2 r c)
      = Scalar.select (ok (ix2 r c)) (∑ x : Fin 64, v1 (ix2 ⟨r.val % 256, by omega⟩ ⟨128 + r.val / 256 * 64 + x.val, by omega⟩) * v10 (ix2 c ⟨64 + x.val, by omega⟩)) ⊥ := by
  simp only [← stacked v1 128 (by omega)]
  unfold k0_pay27 k0_pay26
  pointwise []
  rw [mask_bot]

theorem first_context (v1 : FVec Ideal S256x256 .bf16) (v12 : FVec Ideal S256x128 .bf16) (r : Fin 512) (c : Fin 256) :
    k0_pay13 (F := Ideal) v12 (k0_pay10 v1) (ix2 r c)
      = ∑ x : Fin 64, v1 (ix2 ⟨r.val % 256, by omega⟩ ⟨0 + r.val / 256 * 64 + x.val, by omega⟩) * v12 (ix2 c ⟨x.val, by omega⟩) := by
  simp only [← stacked v1 0 (by omega)]
  unfold k0_pay13 k0_pay10
  pointwise []

theorem second_context (v1 : FVec Ideal S256x256 .bf16) (v12 : FVec Ideal S256x128 .bf16) (r : Fin 512) (c : Fin 256) :
    k0_pay28 (F := Ideal) v1 v12 (ix2 r c)
      = ∑ x : Fin 64, v1 (ix2 ⟨r.val % 256, by omega⟩ ⟨128 + r.val / 256 * 64 + x.val, by omega⟩) * v12 (ix2 c ⟨64 + x.val, by omega⟩) := by
  simp only [← stacked v1 128 (by omega)]
  unfold k0_pay28 k0_pay26
  pointwise []

/-- The four staged blocks, one above the other. -/
def keys (x1 x2 x3 x4 : Vec Ideal S1x128x256 .bf16) (c : Fin 512) (k : Fin 256) : EReal :=
  if h : c.val < 128 then x1 (ix3 0 ⟨c.val, h⟩ k) else if h : c.val - 128 < 128 then x2 (ix3 0 ⟨c.val - 128, h⟩ k)
    else if h : c.val - 128 - 128 < 128 then x3 (ix3 0 ⟨c.val - 128 - 128, h⟩ k) else x4 (ix3 0 ⟨c.val - 128 - 128 - 128, by omega⟩ k)

theorem keys_eq (x1 x2 x3 x4 : Vec Ideal S1x128x256 .bf16) (c : Fin 512) (k : Fin 256) :
    k0_pay3 (F := Ideal) x1 x2 x3 x4 (ix2 c k) = keys x1 x2 x3 x4 c k := by
  unfold k0_pay3 keys
  pointwise []

theorem query_eq (x : Vec Ideal S1x256x256 .bf16) (r k : Fin 256) : k0_pay2 (F := Ideal) x (ix2 r k) = x (ix3 0 r k) := by
  unfold k0_pay2
  pointwise []
theorem keyc_eq (x : Vec Ideal S1x256x128 .bf16) (r : Fin 256) (k : Fin 128) : k0_pay4 (F := Ideal) x (ix2 r k) = x (ix3 0 r k) := by
  unfold k0_pay4
  pointwise []
theorem valc_eq (x : Vec Ideal S1x256x128 .bf16) (r : Fin 256) (k : Fin 128) : k0_pay5 (F := Ideal) x (ix2 r k) = x (ix3 0 r k) := by
  unfold k0_pay5
  pointwise []
theorem top_half (a b : FVec Ideal S512x64 .f32) (r : Fin 256) (x : Fin 64) : k0_pay24 (F := Ideal) a b (ix2 r x) = k0_pay23 a b (ix2 ⟨r.val, by omega⟩ x) := by
  unfold k0_pay24
  generalize k0_pay23 a b = D
  pointwise []
theorem low_half (a b : FVec Ideal S512x64 .f32) (r : Fin 256) (x : Fin 64) : k0_pay25 (F := Ideal) a b (ix2 r x) = k0_pay23 a b (ix2 ⟨256 + r.val, by omega⟩ x) := by
  unfold k0_pay25
  generalize k0_pay23 a b = D
  pointwise []

end Cert.Kernel4Ideal.Hand

end
-- ==== Proof.WindowBlock.lean ====
/- What the attention's body leaves in the block of results, as a function of the blocks staged. -/
module

public import proofs.«01_k».proof.Proof.WindowRows

@[expose] public section

set_option maxRecDepth 16384

noncomputable section

namespace Cert.Kernel4Ideal.Hand

open Idealize.ShloMosaic Idealize.ShloMosaic.TcCoe Idealize.ShloMosaic.Tactic
open Cert.Kernel4Ideal Cert.Kernel4Ideal.Gen Cert.Trunk
open Cert.KernelIdeal.Hand (emb_ix3)

/-- A load of a unit-stride rectangle of three axes, entry by entry. -/
theorem load3 {l n k o p q a b d : ℕ} {e : EltTy} {mr : Memref sig .tc .vmem ⟨3, ![l, n, k]⟩ e} (h : mr.IsWhole)
    (x : Vec Ideal ⟨3, ![l, n, k]⟩ e) (inb : ∀ y, ![a, b, d] y + ![o, p, q] y ≤ (⟨3, ![l, n, k]⟩ : Shape).size y) (i : Fin o) (j : Fin p) (r : Fin q) :
    View.readAt (Elt Ideal) mr.view (Rect.unit (s := ⟨3, ![l, n, k]⟩) ![a, b, d] ![o, p, q] inb).toLoadRect (h.unread x) (ix3 i j r)
      = x (ix3 ⟨a + i.val, (Nat.add_lt_add_left i.isLt a).trans_le (inb 0)⟩ ⟨b + j.val, (Nat.add_lt_add_left j.isLt b).trans_le (inb 1)⟩
          ⟨d + r.val, (Nat.add_lt_add_left r.isLt d).trans_le (inb 2)⟩) :=
  (h.readAt_unread x _ _).trans (congrArg x (emb_ix3 inb i j r _ _ _))

/-- A load of one of the four sinks. -/
theorem load_cell {mr : Memref sig .tc .smem S4 .f32} (h : mr.IsWhole) (x : Vec Ideal S4 .f32) (a : ℕ) (ha : a < 4) (inb : ∀ y, ![a] y + S1.size y ≤ S4.size y)
    (hn : 0 < S1.numel) : View.readAt (Elt Ideal) mr.view (Rect.unit (s := S4) ![a] S1.size inb).toLoadRect (h.unread x) (Shape.Idx.first hn) = x (ix1 ⟨a, ha⟩) := by
  refine (h.readAt_unread x _ _).trans (congrArg x ?_)
  funext y
  obtain rfl : y = 0 := Subsingleton.elim _ _
  refine Fin.ext ?_
  rfl

variable (c : Dev nD) (i : grid0.Coords) (arg2 : Memref sig .tc .vmem S1x256x256 .bf16) (harg2 : arg2.IsWhole) (arg3 : Memref sig .tc .vmem S1x128x256 .bf16) (harg3 : arg3.IsWhole)
  (arg4 : Memref sig .tc .vmem S1x128x256 .bf16) (harg4 : arg4.IsWhole) (arg5 : Memref sig .tc .vmem S1x128x256 .bf16) (harg5 : arg5.IsWhole)
  (arg6 : Memref sig .tc .vmem S1x128x256 .bf16) (harg6 : arg6.IsWhole) (arg7 : Memref sig .tc .vmem S1x256x128 .bf16) (harg7 : arg7.IsWhole)
  (arg8 : Memref sig .tc .vmem S1x256x128 .bf16) (harg8 : arg8.IsWhole) (arg9 : Memref sig .tc .smem S4 .f32) (harg9 : arg9.IsWhole)
  (arg10 : Memref sig .tc .vmem S1x256x256 .f32) (harg10 : arg10.IsWhole)
  (x0 : Vec Ideal S1x256x256 .bf16) (x1 x2 x3 x4 : Vec Ideal S1x128x256 .bf16) (x5 x6 : Vec Ideal S1x256x128 .bf16) (x7 : Vec Ideal S4 .f32)

theorem run_query (r k : Fin 256) : kernelRun0_A.sl.r (F := Ideal) c arg2 harg2 x0 (ix2 r k) = x0 (ix3 0 r k) := by
  unfold kernelRun0_A.sl.r
  rw [query_eq]
  simp only [load3, zero_add, Fin.val_eq_zero]
  rfl

theorem run_keys (r : Fin 512) (k : Fin 256) :
    kernelRun0_A.sl.r_1 (F := Ideal) c arg3 harg3 arg4 harg4 arg5 harg5 arg6 harg6 x1 x2 x3 x4 (ix2 r k) = keys x1 x2 x3 x4 r k := by
  unfold kernelRun0_A.sl.r_1
  rw [keys_eq]
  unfold keys
  simp only [load3, zero_add, Fin.val_eq_zero]
  rfl

theorem run_keyc (r : Fin 256) (k : Fin 128) : kernelRun0_A.sl.r_2 (F := Ideal) c arg7 harg7 x5 (ix2 r k) = x5 (ix3 0 r k) := by
  unfold kernelRun0_A.sl.r_2
  rw [keyc_eq]
  simp only [load3, zero_add, Fin.val_eq_zero]
  rfl

theorem run_valc (r : Fin 256) (k : Fin 128) : kernelRun0_A.sl.r_3 (F := Ideal) c arg8 harg8 x6 (ix2 r k) = x6 (ix3 0 r k) := by
  unfold kernelRun0_A.sl.r_3
  rw [valc_eq]
  simp only [load3, zero_add, Fin.val_eq_zero]
  rfl

/-- Entry `d` of head `h` of query `r` of the block numbered `n`, the head's 64 columns of the queries from `o` on and those of the keys from `g` on. -/
def blockAtt (n : ℕ) (o g : ℕ) (ho : o ≤ 192) (hg : g ≤ 64) (s : EReal) (r : Fin 256) (d : Fin 64) : EReal :=
  attend (fun k : Fin 512 => if sees n r.val k.val then ∑ x : Fin 64, x0 (ix3 0 r ⟨o + x.val, by omega⟩) * keys x1 x2 x3 x4 k ⟨g + x.val, by omega⟩ else ⊥)
    (fun k => keys x1 x2 x3 x4 k ⟨128 + g + d.val, by omega⟩)
    (fun k : Fin 256 => ∑ x : Fin 64, x0 (ix3 0 r ⟨o + x.val, by omega⟩) * x5 (ix3 0 k ⟨g + x.val, by omega⟩))
    (fun k => x6 (ix3 0 k ⟨g + d.val, by omega⟩)) s

theorem first_pair (R : Fin 512) (d : Fin 64) :
    k0_pay23 (F := Ideal) (kernelRun0_A.sl.r_12 c i arg2 harg2 arg3 harg3 arg4 harg4 arg5 harg5 arg6 harg6 arg7 harg7 arg8 harg8 arg9 harg9 x0 x1 x2 x3 x4 x5 x6 x7)
        (kernelRun0_A.sl.r_13 c i arg2 harg2 arg3 harg3 arg4 harg4 arg5 harg5 arg6 harg6 arg7 harg7 arg9 harg9 x0 x1 x2 x3 x4 x5 x7) (ix2 R d)
      = blockAtt x0 x1 x2 x3 x4 x5 x6 (i 1).val (0 + R.val / 256 * 64) 0 (by omega) (by omega) (if R.val < 256 then x7 (ix1 0) else x7 (ix1 1)) ⟨R.val % 256, by omega⟩ d := by
  unfold kernelRun0_A.sl.r_12 kernelRun0_A.sl.r_13
  rw [quot_first]
  unfold kernelRun0_A.sl.r_10
  rw [show kernelRun0_A.sl.v82 = rowNo from rfl, sink_first]
  unfold kernelRun0_A.sl.r_8 kernelRun0_A.sl.r_9 kernelRun0_A.sl.r_5 kernelRun0_A.sl.r_6 kernelRun0_A.sl.r_4 kernelRun0_A.sl.r_7 kernelRun0_A.sl.r_11
  rw [show kernelRun0_A.sl.cst (F := Ideal) = constant S512x512 .f32 0x00000000#32 from rfl]
  rw [load_cell harg9 x7 0 (by omega), load_cell harg9 x7 1 (by omega)]
  simp only [first_scores, first_context, run_query, run_keys, run_keyc, run_valc]
  unfold blockAtt
  simp only [zero_add, Nat.add_zero, mask_entry (i 1)]
  rfl

theorem second_pair (R : Fin 512) (d : Fin 64) :
    quot (kernelRun0_A.sl.r_17 (F := Ideal) c i arg2 harg2 arg3 harg3 arg4 harg4 arg5 harg5 arg6 harg6 x0 x1 x2 x3 x4) (kernelRun0_A.sl.r_18 c arg2 harg2 arg7 harg7 x0 x5)
        kernelRun0_A.sl.v82 (kernelRun0_A.sl.r_19 c arg9 harg9 x7) 256#32 k0_pay30 0#32 (kernelRun0_A.sl.r_20 c arg9 harg9 x7)
        (kernelRun0_A.sl.r_1 c arg3 harg3 arg4 harg4 arg5 harg5 arg6 harg6 x1 x2 x3 x4) (kernelRun0_A.sl.r_3 c arg8 harg8 x6) R d
      = blockAtt x0 x1 x2 x3 x4 x5 x6 (i 1).val (128 + R.val / 256 * 64) 64 (by omega) (by omega) (if R.val < 256 then x7 (ix1 2) else x7 (ix1 3)) ⟨R.val % 256, by omega⟩ d := by
  unfold quot kernelRun0_A.sl.r_19
  rw [show kernelRun0_A.sl.v82 = rowNo from rfl, sink_second]
  unfold kernelRun0_A.sl.r_17 kernelRun0_A.sl.r_18 kernelRun0_A.sl.r_4 kernelRun0_A.sl.r_14 kernelRun0_A.sl.r_20
  rw [load_cell harg9 x7 2 (by omega), load_cell harg9 x7 3 (by omega)]
  simp only [second_scores, second_context, run_query, run_keys, run_keyc, run_valc]
  unfold blockAtt
  simp only [mask_entry (i 1)]
  rfl

/-- The block of results, as a function of the blocks staged. -/
def attBlk (n : ℕ) : Vec Ideal S1x256x256 .f32 := fun j =>
  blockAtt x0 x1 x2 x3 x4 x5 x6 n ((j 2).val / 64 * 64) ((j 2).val / 64 / 2 * 64) (by have := (j 2).isLt; change _ < 256 at this; omega)
    (by have := (j 2).isLt; change _ < 256 at this; omega) (x7 (ix1 ⟨(j 2).val / 64, by have := (j 2).isLt; change _ < 256 at this; omega⟩)) (j 1)
    ⟨(j 2).val % 64, by omega⟩

theorem attBlk_ix3 (n : ℕ) (z : Fin 1) (r j : Fin 256) : attBlk x0 x1 x2 x3 x4 x5 x6 x7 n (ix3 z r j)
    = blockAtt x0 x1 x2 x3 x4 x5 x6 n (j.val / 64 * 64) (j.val / 64 / 2 * 64) (by omega) (by omega) (x7 (ix1 ⟨j.val / 64, by omega⟩)) r ⟨j.val % 64, by omega⟩ := rfl

/-- Equal arguments give equal entries. -/
theorem blockAtt_congr (n : ℕ) {o o' g g' : ℕ} {ho : o ≤ 192} {hg : g ≤ 64} {ho' : o' ≤ 192} {hg' : g' ≤ 64} {s s' : EReal} {r r' : Fin 256} {d d' : Fin 64}
    (eo : o = o') (eg : g = g') (es : s = s') (er : r = r') (ed : d = d') :
    blockAtt x0 x1 x2 x3 x4 x5 x6 n o g ho hg s r d = blockAtt x0 x1 x2 x3 x4 x5 x6 n o' g' ho' hg' s' r' d' := by
  subst eo eg es er ed
  rfl

/-- The body's store leaves that block. -/
theorem out_eq : out0_A_8 c i arg2 harg2 arg3 harg3 arg4 harg4 arg5 harg5 arg6 harg6 arg7 harg7 arg8 harg8 arg9 harg9 arg10 harg10 x0 x1 x2 x3 x4 x5 x6 x7
    = attBlk x0 x1 x2 x3 x4 x5 x6 x7 (i 1).val := by
  funext y
  unfold out0_A_8
  refine View.read_writes_apply_of_pieces _ _ (attBlk x0 x1 x2 x3 x4 x5 x6 x7 (i 1).val) _ ?_ y (cover0_A_8 c i arg2 harg2 arg3 harg3 arg4 harg4 arg5 harg5
    arg6 harg6 arg7 harg7 arg8 harg8 arg9 harg9 arg10 harg10 x0 x1 x2 x3 x4 x5 x6 x7 y)
  intro p hp j
  dsimp only [kernelRun0_A] at hp
  simp only [List.mem_cons, List.not_mem_nil, or_false] at hp
  obtain rfl := hp
  revert j
  intro (j : S1x256x256.Idx)
  idx_vars j
  rw [emb_ix3 _ _ _ _ (by omega) (by omega) (by omega), attBlk_ix3]
  unfold kernelRun0_A.sl.r_21 kernelRun0_A.sl.r_22 kernelRun0_A.sl.r_23 kernelRun0_A.sl.r_24
  dsimp only
  rw [stored_eq]
  unfold kernelRun0_A.sl.r_15 kernelRun0_A.sl.r_16
  simp only [top_half, low_half, first_pair, second_pair]
  have h2 := j2.isLt
  split
  · refine blockAtt_congr _ _ _ _ _ _ _ _ (by omega) (by omega) ?_ (Fin.ext (by simp only; omega)) (Fin.ext (by simp only; omega))
    rw [if_pos (by omega)]
    exact congrArg x7 (congrArg ix1 (Fin.ext (by show 0 = (0 + j2.val) / 64; omega)))
  · split
    · refine blockAtt_congr _ _ _ _ _ _ _ _ (by omega) (by omega) ?_ (Fin.ext (by simp only; omega)) (Fin.ext (by simp only; omega))
      rw [if_neg (by omega)]
      exact congrArg x7 (congrArg ix1 (Fin.ext (by show 1 = (0 + j2.val) / 64; omega)))
    · split
      · refine blockAtt_congr _ _ _ _ _ _ _ _ (by omega) (by omega) ?_ (Fin.ext (by simp only; omega)) (Fin.ext (by simp only; omega))
        rw [if_pos (by omega)]
        exact congrArg x7 (congrArg ix1 (Fin.ext (by show 2 = (0 + j2.val) / 64; omega)))
      · refine blockAtt_congr _ _ _ _ _ _ _ _ (by omega) (by omega) ?_ (Fin.ext (by simp only; omega)) (Fin.ext (by simp only; omega))
        rw [if_neg (by omega)]
        exact congrArg x7 (congrArg ix1 (Fin.ext (by show 3 = (0 + j2.val) / 64; omega)))

end Cert.Kernel4Ideal.Hand
end
-- ==== Proof.WindowValue.lean ====
/- The attention call's windows as rows and columns of the arguments, and its result array. -/
module

public import proofs.«01_k».proof.Proof.WindowBlock
public import proofs.«01_k».proof.Proof.Gen.Kernel4Ideal.Value
public import Idealize.ShloMosaic.Lib.StableHlo.ReadAt
public import Idealize.ShloMosaic.Lib.Pipeline.ValueKit

@[expose] public section

set_option maxRecDepth 16384

noncomputable section

namespace Cert.Kernel4Ideal.Hand

open Idealize.ShloMosaic Idealize.ShloMosaic.TcCoe Idealize.ShloMosaic.Tactic Idealize.SL.Sem
open Cert.Kernel4Ideal Cert.Kernel4Ideal.Gen Cert.Trunk

variable (m : (ℓ : Loc nD τ sig) → Buf (Elt Ideal) ℓ) (ρ : Dev nD → PrngReg) (c : Dev nD)

/-- The queries. -/
def Q (b : Fin 4) (r : Fin 4096) (k : Fin 256) : EReal := m (c.tc.loc main_arg0) (ix3 b r k)
/-- The tokens' keys and values, side by side. -/
def K (b : Fin 4) (r : Fin 4096) (k : Fin 256) : EReal := m (c.tc.loc main_arg1) (ix3 b r k)
/-- The context's keys. -/
def KC (b : Fin 4) (r : Fin 256) (k : Fin 128) : EReal := m (c.tc.loc main_arg2) (ix3 b r ⟨2048 + k.val, by omega⟩)
/-- The context's values. -/
def VC (b : Fin 4) (r : Fin 256) (k : Fin 128) : EReal := m (c.tc.loc main_arg2) (ix3 b r ⟨2176 + k.val, by omega⟩)
/-- The sinks. -/
def S (h : Fin 4) : EReal := m (c.tc.loc main_arg3) (ix1 h)

/-- The batch of point `n`. -/
def bi (n : ℕ) : Fin 4 := ⟨n / 16 % 4, by omega⟩
/-- Row `r` of point `n`'s block of queries. -/
def row (n : ℕ) (r : Fin 256) : Fin 4096 := ⟨n % 16 * 256 + r.val, by omega⟩
/-- The token that key `k` of the four blocks staged for block `i` is. -/
def place (i : ℕ) (k : Fin 512) : Fin 4096 := ⟨min (2 * i + k.val / 128 - 1) 31 * 128 + k.val % 128, by omega⟩

theorem index_0 : ∀ t : Fin cfg0.N, win0_0.index t = ![t.val / 16 % 4, t.val % 16, 0] := (by decide +kernel : ∀ t : Fin grid0.N, _)
theorem index_1 : ∀ t : Fin cfg0.N, win0_1.index t = ![t.val / 16 % 4, min (2 * (t.val % 16) + 0 - 1) 31, 0] := (by decide +kernel : ∀ t : Fin grid0.N, _)
theorem index_2 : ∀ t : Fin cfg0.N, win0_2.index t = ![t.val / 16 % 4, min (2 * (t.val % 16) + 1 - 1) 31, 0] := (by decide +kernel : ∀ t : Fin grid0.N, _)
theorem index_3 : ∀ t : Fin cfg0.N, win0_3.index t = ![t.val / 16 % 4, min (2 * (t.val % 16) + 2 - 1) 31, 0] := (by decide +kernel : ∀ t : Fin grid0.N, _)
theorem index_4 : ∀ t : Fin cfg0.N, win0_4.index t = ![t.val / 16 % 4, min (2 * (t.val % 16) + 3 - 1) 31, 0] := (by decide +kernel : ∀ t : Fin grid0.N, _)
theorem index_5 : ∀ t : Fin cfg0.N, win0_5.index t = ![t.val / 16 % 4, 0, 16] := (by decide +kernel : ∀ t : Fin grid0.N, _)
theorem index_6 : ∀ t : Fin cfg0.N, win0_6.index t = ![t.val / 16 % 4, 0, 17] := (by decide +kernel : ∀ t : Fin grid0.N, _)
theorem index_7 : ∀ t : Fin cfg0.N, win0_7.index t = ![0] := (by decide +kernel : ∀ t : Fin grid0.N, _)
theorem index_8 : ∀ t : Fin cfg0.N, win0_8.index t = ![t.val / 16 % 4, t.val % 16, 0] := (by decide +kernel : ∀ t : Fin grid0.N, _)
theorem coord_1 : ∀ t : Fin cfg0.N, (grid0.coords t 1).val = t.val % 16 := (by decide +kernel : ∀ t : Fin grid0.N, _)

theorem staged_q (t : Fin cfg0.N) (r k : Fin 256) : (iblk m c 0 t : Vec Ideal S1x256x256 .bf16) (ix3 0 r k) = Q m c (bi t.val) (row t.val r) k := by
  show V m c main_arg0 ((win0_0.blk t).view.emb (ix3 0 r k)) = _
  rw [V_main_arg0]
  unfold Q
  refine congrArg _ ?_
  blk_ext [index_0, bi, row]
theorem staged_kc (t : Fin cfg0.N) (r : Fin 256) (k : Fin 128) : (iblk m c 5 t : Vec Ideal S1x256x128 .bf16) (ix3 0 r k) = KC m c (bi t.val) r k := by
  show V m c main_arg2 ((win0_5.blk t).view.emb (ix3 0 r k)) = _
  rw [V_main_arg2]
  unfold KC
  refine congrArg _ ?_
  blk_ext [index_5, bi]
theorem staged_vc (t : Fin cfg0.N) (r : Fin 256) (k : Fin 128) : (iblk m c 6 t : Vec Ideal S1x256x128 .bf16) (ix3 0 r k) = VC m c (bi t.val) r k := by
  show V m c main_arg2 ((win0_6.blk t).view.emb (ix3 0 r k)) = _
  rw [V_main_arg2]
  unfold VC
  refine congrArg _ ?_
  blk_ext [index_6, bi]
theorem staged_s (t : Fin cfg0.N) (h : Fin 4) : (iblk m c 7 t : Vec Ideal S4 .f32) (ix1 h) = S m c h := by
  show V m c main_arg3 ((win0_7.blk t).view.emb (ix1 h)) = _
  rw [V_main_arg3]
  unfold S
  refine congrArg _ ?_
  blk_ext [index_7]
theorem staged_k1 (t : Fin cfg0.N) (r : Fin 128) (k : Fin 256) : (iblk m c 1 t : Vec Ideal S1x128x256 .bf16) (ix3 0 r k)
    = K m c (bi t.val) ⟨min (2 * (t.val % 16) + 0 - 1) 31 * 128 + r.val, by omega⟩ k := by
  show V m c main_arg1 ((win0_1.blk t).view.emb (ix3 0 r k)) = _
  rw [V_main_arg1]
  unfold K
  refine congrArg _ ?_
  blk_ext [index_1, bi]
theorem staged_k2 (t : Fin cfg0.N) (r : Fin 128) (k : Fin 256) : (iblk m c 2 t : Vec Ideal S1x128x256 .bf16) (ix3 0 r k)
    = K m c (bi t.val) ⟨min (2 * (t.val % 16) + 1 - 1) 31 * 128 + r.val, by omega⟩ k := by
  show V m c main_arg1 ((win0_2.blk t).view.emb (ix3 0 r k)) = _
  rw [V_main_arg1]
  unfold K
  refine congrArg _ ?_
  blk_ext [index_2, bi]
theorem staged_k3 (t : Fin cfg0.N) (r : Fin 128) (k : Fin 256) : (iblk m c 3 t : Vec Ideal S1x128x256 .bf16) (ix3 0 r k)
    = K m c (bi t.val) ⟨min (2 * (t.val % 16) + 2 - 1) 31 * 128 + r.val, by omega⟩ k := by
  show V m c main_arg1 ((win0_3.blk t).view.emb (ix3 0 r k)) = _
  rw [V_main_arg1]
  unfold K
  refine congrArg _ ?_
  blk_ext [index_3, bi]
theorem staged_k4 (t : Fin cfg0.N) (r : Fin 128) (k : Fin 256) : (iblk m c 4 t : Vec Ideal S1x128x256 .bf16) (ix3 0 r k)
    = K m c (bi t.val) ⟨min (2 * (t.val % 16) + 3 - 1) 31 * 128 + r.val, by omega⟩ k := by
  show V m c main_arg1 ((win0_4.blk t).view.emb (ix3 0 r k)) = _
  rw [V_main_arg1]
  unfold K
  refine congrArg _ ?_
  blk_ext [index_4, bi]

theorem staged_keys (t : Fin cfg0.N) (r : Fin 512) (k : Fin 256) :
    keys (iblk m c 1 t) (iblk m c 2 t) (iblk m c 3 t) (iblk m c 4 t) r k = K m c (bi t.val) (place (t.val % 16) r) k := by
  have hr := r.isLt
  unfold keys
  split
  · rw [staged_k1]
    exact congrArg (fun x => K m c (bi t.val) x k) (Fin.ext (by simp only [place]; omega))
  · split
    · rw [staged_k2]
      exact congrArg (fun x => K m c (bi t.val) x k) (Fin.ext (by simp only [place]; omega))
    · split
      · rw [staged_k3]
        exact congrArg (fun x => K m c (bi t.val) x k) (Fin.ext (by simp only [place]; omega))
      · rw [staged_k4]
        exact congrArg (fun x => K m c (bi t.val) x k) (Fin.ext (by simp only [place]; omega))

/-- Whether key `k` is at most 128 tokens from query `r`. -/
def near (r k : Fin 4096) : Prop := k.val ≤ r.val + 128 ∧ r.val ≤ k.val + 128

theorem place_near (n : ℕ) (r : Fin 256) (k : Fin 512) (h : sees (n % 16) r.val k.val) : near (row n r) (place (n % 16) k) := by
  obtain ⟨h1, h2, h3⟩ := h
  have := r.isLt
  have := k.isLt
  constructor
  all_goals simp only [row, place]; omega

theorem place_inj (n : ℕ) (r : Fin 256) (k l : Fin 512) (h : sees (n % 16) r.val k.val) (h' : sees (n % 16) r.val l.val)
    (e : place (n % 16) k = place (n % 16) l) : k = l := by
  obtain ⟨h1, h2, h3⟩ := h
  obtain ⟨h4, h5, h6⟩ := h'
  have := k.isLt
  have := l.isLt
  have e' := congrArg Fin.val e
  simp only [place] at e'
  exact Fin.ext (by omega)

theorem place_onto (n : ℕ) (r : Fin 256) (k : Fin 4096) (h : near (row n r) k) : ∃ l : Fin 512, sees (n % 16) r.val l.val ∧ place (n % 16) l = k := by
  obtain ⟨h1, h2⟩ := h
  simp only [row] at h1 h2
  have := r.isLt
  have := k.isLt
  refine ⟨⟨k.val + 128 - n % 16 * 256, by omega⟩, ⟨⟨by simp only; omega, by simp only; omega⟩, by simp only; omega, by simp only; omega⟩, Fin.ext ?_⟩
  simp only [place]
  omega

/-- The result array. -/
def res : S4x4096x256.Idx → EReal :=
  fun j => windowed (Q m c (j 0)) (K m c (j 0)) (KC m c (j 0)) (VC m c (j 0)) (S m c) (j 1) ⟨(j 2).val / 64, by have := (j 2).isLt; change _ < 256 at this; omega⟩
    ⟨(j 2).val % 64, by omega⟩

theorem att_staged (t : Fin cfg0.N) (r : Fin 256) (h : Fin 4) (d : Fin 64) :
    blockAtt (iblk m c 0 t) (iblk m c 1 t) (iblk m c 2 t) (iblk m c 3 t) (iblk m c 4 t) (iblk m c 5 t) (iblk m c 6 t) (t.val % 16) (h.val * 64) (h.val / 2 * 64)
        (by omega) (by omega) (S m c h) r d
      = windowed (Q m c (bi t.val)) (K m c (bi t.val)) (KC m c (bi t.val)) (VC m c (bi t.val)) (S m c) (row t.val r) h d := by
  unfold blockAtt windowed
  simp only [staged_q, staged_keys, staged_kc, staged_vc]
  exact attend_places (fun k : Fin 512 => sees (t.val % 16) r.val k.val) (fun k : Fin 4096 => k.val ≤ (row t.val r).val + 128 ∧ (row t.val r).val ≤ k.val + 128)
    (place (t.val % 16)) (fun k h => place_near t.val r k h) (fun k l => place_inj t.val r k l) (fun k h => place_onto t.val r k h)
    (fun k => ∑ x : Fin 64, Q m c (bi t.val) (row t.val r) ⟨h.val * 64 + x.val, by omega⟩ * K m c (bi t.val) k ⟨h.val / 2 * 64 + x.val, by omega⟩)
    (fun k => K m c (bi t.val) k ⟨128 + h.val / 2 * 64 + d.val, by omega⟩)
    (fun k => K m c (bi t.val) (place (t.val % 16) k) ⟨128 + h.val / 2 * 64 + d.val, by omega⟩)
    (fun k => ∑ x : Fin 64, Q m c (bi t.val) (row t.val r) ⟨h.val * 64 + x.val, by omega⟩ * K m c (bi t.val) (place (t.val % 16) k) ⟨h.val / 2 * 64 + x.val, by omega⟩)
    (fun _ _ => rfl) (fun _ _ => rfl) _ _ _

theorem final : (dats m 0 c).arrAt 8 cfg0.N = res m c := by
  refine (dats m 0 c).arrAt_eq_of_covers 8 _ (by decide +kernel) fun t hf y => ?_
  blk_simp
  rw [after0_8]
  unfold outsAt0
  rw [out_eq, coord_1]
  revert y
  intro (y : S1x256x256.Idx)
  idx_vars y
  have e : ((win0_8.blk t).view.emb (ix3 y0 y1 y2 : S1x256x256.Idx)) = ix3 (bi t.val) (row t.val y1) (⟨y2.val, by omega⟩ : Fin 256) := by
    blk_ext [index_8, bi, row]
  rw [e, attBlk_ix3, staged_s]
  exact att_staged m c t y1 ⟨y2.val / 64, by omega⟩ ⟨y2.val % 64, by omega⟩

/-- The call runs and leaves the function of AttnSpec.lean as its result, its arguments unchanged. -/
theorem run_value : θ_run (defs (F := Ideal)) (onTc (τ := τ) (main (F := Ideal))) ⟨m, fun _ => 0, ρ⟩ fun r => ∀ c : Dev nD,
      r.2.mem (c.tc.loc main_v0) = res m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun _ h c => ⟨(h c).1.trans (final m c), (h c).2⟩) (Value.run_blocks m ρ)

end Cert.Kernel4Ideal.Hand
end
-- ==== Proof.WindowReference.lean ====
/- The attention's reference, entry by entry: the function of rows that AttnSpec.lean names. -/
module

public import proofs.«01_k».proof.Proof.Gen.Reference4Ideal.Run
public import proofs.«01_k».proof.Proof.Gen.Reference4Ideal
public import proofs.«01_k».proof.Proof.AttnSpec
public import Idealize.ShloMosaic.Lib.Pointwise
public import Idealize.ShloMosaic.Lib.Quiescent

@[expose] public section
set_option maxRecDepth 16384
noncomputable section
namespace Cert.Reference4Ideal.Hand
open Idealize.ShloMosaic Idealize.ShloMosaic.TcCoe Idealize.ShloMosaic.Tactic
open Cert.Reference4Ideal Cert.Reference4Ideal.Gen Cert.Reference4Ideal.Value Cert.Trunk

variable (m : (ℓ : Loc nD τ sig) → Buf (Elt Ideal) ℓ) (c : Dev nD)

/-- The queries. -/
def Q (b : Fin 4) (r : Fin 4096) (k : Fin 256) : EReal := m (c.tc.loc main_arg0) (ix3 b r k)
/-- The tokens' keys and values, side by side. -/
def K (b : Fin 4) (r : Fin 4096) (k : Fin 256) : EReal := m (c.tc.loc main_arg1) (ix3 b r k)
/-- The context's keys. -/
def KC (b : Fin 4) (r : Fin 256) (k : Fin 128) : EReal := m (c.tc.loc main_arg2) (ix3 b r ⟨2048 + k.val, by omega⟩)
/-- The context's values. -/
def VC (b : Fin 4) (r : Fin 256) (k : Fin 128) : EReal := m (c.tc.loc main_arg2) (ix3 b r ⟨2176 + k.val, by omega⟩)
/-- The sinks. -/
def S (h : Fin 4) : EReal := m (c.tc.loc main_arg3) (ix1 h)

/-- A query's score of a key. -/
def score (b h : Fin 4) (r k : Fin 4096) : EReal :=
  ∑ x : Fin 64, Q m c b r ⟨h.val * 64 + x.val, by omega⟩ * K m c b k ⟨h.val / 2 * 64 + x.val, by omega⟩
/-- Its score of a context's key. -/
def scorec (b h : Fin 4) (r : Fin 4096) (k : Fin 256) : EReal :=
  ∑ x : Fin 64, Q m c b r ⟨h.val * 64 + x.val, by omega⟩ * KC m c b k ⟨h.val / 2 * 64 + x.val, by omega⟩

theorem near_fin : ∀ d : Fin 8192, IntOp.cmpi .sle (IntOp.absi (BitVec.ofNat 32 d.val - 4096#32)) 128#32 = if 3968 ≤ d.val ∧ d.val ≤ 4224 then 1#1 else 0#1 := by
  decide +kernel

/-- The mask's word for a key and a query. -/
theorem near_word (k r : Fin 4096) : IntOp.cmpi .sle (IntOp.absi (IntOp.subi (BitVec.ofNat 32 k.val) (BitVec.ofNat 32 r.val))) 128#32
    = if k.val ≤ r.val + 128 ∧ r.val ≤ k.val + 128 then 1#1 else 0#1 := by
  have h := near_fin ⟨k.val + (4096 - r.val), by omega⟩
  have e : BitVec.ofNat 32 (k.val + (4096 - r.val)) - 4096#32 = IntOp.subi (BitVec.ofNat 32 k.val) (BitVec.ofNat 32 r.val) := by
    unfold IntOp.subi
    apply BitVec.eq_of_toNat_eq
    simp only [BitVec.toNat_sub, BitVec.toNat_ofNat]
    omega
  rw [← e]
  refine h.trans (if_congr ?_ rfl rfl)
  simp only
  omega

/-- The word of −∞. -/
theorem low : Ideal.ofBits .f32 0xFF800000#32 = ⊥ := by
  simp [Ideal.ofBits, Ideal.ieee]

/-- The score of a key, that of a key out of reach being −∞. -/
def masked (b h : Fin 4) (r k : Fin 4096) : EReal := if k.val ≤ r.val + 128 ∧ r.val ≤ k.val + 128 then score m c b h r k else ⊥

/-- The largest of joined scores. -/
theorem fold_top {a b n : ℕ} (h : n = a + b + 1) (f : Fin n → EReal) : Finset.fold max (Ideal.ofBits .f32 0xFF800000#32) f Finset.univ
    = top (fun i : Fin a => f ⟨i.val, by omega⟩) (fun j : Fin b => f ⟨a + j.val, by omega⟩) (f ⟨a + b, by omega⟩) := by
  rw [low]
  exact sup_three h f

set_option maxHeartbeats 2000000 in
theorem out (b : Fin 4) (r : Fin 4096) (j : Fin 256) : res_main_v51 m c (ix3 b r j)
    = windowed (Q m c b) (K m c b) (KC m c b) (VC m c b) (S m c) r ⟨j.val / 64, by omega⟩ ⟨j.val % 64, by omega⟩ := by
  unfold res_main_v51
  generalize hD : Host.dotGeneral (F := Ideal) dot_S4x4096x4x64_S4x4096x4x64_S4x4x4096x4096_3_3_1_1_02_02 none _ _ = D
  have hd : ∀ (b h : Fin 4) (r k : Fin 4096), D (ix4 b h r k) = score m c b h r k := by
    intro b h r k
    rw [← hD]
    pointwise []
    rfl
  clear hD
  generalize hX : Host.dotGeneral (F := Ideal) dot_S4x4096x4x64_S4x256x4x64_S4x4x4096x256_3_3_1_1_02_02 none _ _ = X
  have hx : ∀ (b h : Fin 4) (r : Fin 4096) (k : Fin 256), X (ix4 b h r k) = scorec m c b h r k := by
    intro b h r k
    rw [← hX]
    pointwise []
    rfl
  clear hX
  generalize hC : concatenate S4x4x4096x4353 3 [⟨S4x4x4096x4096, _⟩, ⟨S4x4x4096x256, _⟩, ⟨S4x4x4096x1, _⟩] _ = C
  have hc : ∀ (b h : Fin 4) (r : Fin 4096) (k : Fin 4353), C (ix4 b h r k)
      = if h1 : k.val < 4096 then masked m c b h r ⟨k.val, h1⟩
        else if h2 : k.val - 4096 < 256 then scorec m c b h r ⟨k.val - 4096, h2⟩ else S m c h := by
    intro b h r k
    rw [← hC]
    pointwise []
    split
    · rename_i h1
      rw [near_word ⟨k.val, h1⟩ r, hd]
      unfold masked
      split
      · rfl
      · exact low
    · split
      · exact hx _ _ _ _
      · rfl
  clear hC hd hx
  have h1 : ∀ (b h : Fin 4) (r k : Fin 4096), C (ix4 b h r ⟨k.val, by omega⟩) = masked m c b h r k := by
    intro b h r k
    rw [hc, dif_pos k.isLt]
  have h2 : ∀ (b h : Fin 4) (r : Fin 4096) (k : Fin 256), C (ix4 b h r ⟨4096 + k.val, by omega⟩) = scorec m c b h r k := by
    intro b h r k
    rw [hc, dif_neg (by simp only; omega), dif_pos (by simp only; omega)]
    exact congrArg _ (Fin.ext (by simp only; omega))
  have h3 : ∀ (b h : Fin 4) (r : Fin 4096), C (ix4 b h r ⟨4096 + 256, by omega⟩) = S m c h := by
    intro b h r
    rw [hc, dif_neg (by simp only; omega), dif_neg (by simp only; omega)]
  clear hc
  generalize hM : Host.reduce (FloatOps.maximumf (F := Ideal) (φ := .f32)) _ _ reducesTo_S4x4x4096x4353_S4x4x4096_d3 h_S_ = M
  have hm : ∀ (b h : Fin 4) (r : Fin 4096), M (ix3 b h r) = top (masked m c b h r) (scorec m c b h r) (S m c h) := by
    intro b h r
    rw [← hM]
    have e := fold_top (a := 4096) (b := 256) (n := 4353) (by norm_num) fun k => C (ix4 b h r k)
    simp only [h1, h2, h3] at e
    pointwise []
    exact e
  clear hM
  generalize hN : Host.reduceAdd (F := Ideal) _ _ reducesTo_S4x4x4096x4353_S4x4x4096_d3 h_S_ = N
  have hn : ∀ (b h : Fin 4) (r : Fin 4096), N (ix3 b h r) = (∑ k, Ideal.exp (masked m c b h r k - M (ix3 b h r)))
      + (∑ k, Ideal.exp (scorec m c b h r k - M (ix3 b h r))) + Ideal.exp (S m c h - M (ix3 b h r)) := by
    intro b h r
    rw [← hN]
    have e := sum_three (a := 4096) (b := 256) (n := 4353) (by norm_num) fun k => Ideal.exp (C (ix4 b h r k) - M (ix3 b h r))
    simp only [h1, h2, h3] at e
    pointwise []
    exact e
  clear hN
  have hk : ∀ x : Fin 4096, m (c.tc.loc main_arg1) (ix3 b x ⟨128 + (j.val / 64 / 2 * 64 + j.val % 64), by omega⟩)
      = K m c b x ⟨128 + j.val / 64 / 2 * 64 + j.val % 64, by omega⟩ := fun x =>
    congrArg (fun z : Fin 256 => m (c.tc.loc main_arg1) (ix3 b x z)) (Fin.ext (by simp only; omega))
  have hv : ∀ x : Fin 256, m (c.tc.loc main_arg2) (ix3 b x ⟨2048 + (128 + (j.val / 64 / 2 * 64 + j.val % 64)), by omega⟩)
      = VC m c b x ⟨j.val / 64 / 2 * 64 + j.val % 64, by omega⟩ := fun x =>
    congrArg (fun z : Fin 2304 => m (c.tc.loc main_arg2) (ix3 b x z)) (Fin.ext (by simp only; omega))
  pointwise []
  simp only [hk, hv, hn, hm, h1, h2]
  rfl

/-- The reference runs and leaves that function as its result, its arguments unchanged. -/
theorem run_value (ρ : Dev nD → PrngReg) :
    θ_run (defs (F := Ideal)) (onTc (τ := τ) (main (F := Ideal))) ⟨m, fun _ => 0, ρ⟩ fun r => ∀ c : Dev nD,
      (∀ b q k, r.2.mem (c.tc.loc main_v51) (ix3 b q k)
        = windowed (Q m c b) (K m c b) (KC m c b) (VC m c b) (S m c) q ⟨k.val / 64, by omega⟩ ⟨k.val % 64, by omega⟩)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  refine (θ_run defs _ _).mono (fun r h c => ⟨fun b q k => ?_, (h c).2⟩) (run m ρ)
  rw [(h c).1]; exact out m c b q k

/-- Its arguments end unchanged; it has no semaphore. -/
theorem quiescent (ρ : Dev nD → PrngReg) : θ_run (defs (F := Ideal)) (onTc (τ := τ) (main (F := Ideal))) ⟨m, fun _ => 0, ρ⟩ fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) ∧ r.2.sem = fun _ => 0 :=
  (θ_run defs _ _).mono (fun r h => ⟨fun c => (h c).2, sem_eq_zero_of_no_sems rfl r.2⟩) (run_value m ρ)

end Cert.Reference4Ideal.Hand
end
-- ==== Proof.CtxSpec.lean ====
/- What the feed-forward half of the layer computes of the context tokens, whose shifts, scales and gates are one row each. -/
module

public import proofs.«01_k».proof.Proof.Trunk

@[expose] public section

set_option maxRecDepth 16384

noncomputable section

namespace Cert.Trunk

open Idealize.ShloMosaic Cert.InProj

/-- A sum over 4096 indices by quarters. -/
theorem sum_quarters (f : Fin 4096 → EReal) : ∑ q, f q
    = (∑ q : Fin 1024, f ⟨q.val, by omega⟩) + (∑ q : Fin 1024, f ⟨1024 + q.val, by omega⟩)
      + (∑ q : Fin 1024, f ⟨2048 + q.val, by omega⟩) + ∑ q : Fin 1024, f ⟨3072 + q.val, by omega⟩ := by
  have e1 : ∑ q : Fin 2048, f ⟨q.val, by omega⟩ = (∑ q : Fin 1024, f ⟨q.val, by omega⟩) + ∑ q : Fin 1024, f ⟨1024 + q.val, by omega⟩ :=
    Fin.sum_univ_add (a := 1024) (b := 1024) fun q => f ⟨q.val, by omega⟩
  have e2 : ∑ q : Fin 3072, f ⟨q.val, by omega⟩ = (∑ q : Fin 2048, f ⟨q.val, by omega⟩) + ∑ q : Fin 1024, f ⟨2048 + q.val, by omega⟩ :=
    Fin.sum_univ_add (a := 2048) (b := 1024) fun q => f ⟨q.val, by omega⟩
  have e3 : ∑ q : Fin 4096, f q = (∑ q : Fin 3072, f ⟨q.val, by omega⟩) + ∑ q : Fin 1024, f ⟨3072 + q.val, by omega⟩ :=
    Fin.sum_univ_add (a := 3072) (b := 1024) f
  rw [e3, e2, e1]

/-- The network's sum over its hidden units by quarters. -/
theorem mlpRow_quarters (h : Fin 1024 → EReal) (w1 : Fin 1024 → Fin 4096 → EReal) (w2 : Fin 4096 → Fin 1024 → EReal) : mlpRow h w1 w2 = fun k =>
    (∑ q : Fin 1024, relu2 (dotRow h fun p => w1 p ⟨q.val, by omega⟩) * w2 ⟨q.val, by omega⟩ k)
      + (∑ q : Fin 1024, relu2 (dotRow h fun p => w1 p ⟨1024 + q.val, by omega⟩) * w2 ⟨1024 + q.val, by omega⟩ k)
      + (∑ q : Fin 1024, relu2 (dotRow h fun p => w1 p ⟨2048 + q.val, by omega⟩) * w2 ⟨2048 + q.val, by omega⟩ k)
      + ∑ q : Fin 1024, relu2 (dotRow h fun p => w1 p ⟨3072 + q.val, by omega⟩) * w2 ⟨3072 + q.val, by omega⟩ k :=
  funext fun k => sum_quarters fun q => relu2 (dotRow h fun p => w1 p q) * w2 q k

/-- The feed-forward half of the layer for the context tokens, entry by entry. -/
def ctxOut (X : Fin 4 → Fin 256 → Fin 1024 → EReal) (SH SC GM : Fin 1024 → EReal) (W1 : Fin 1024 → Fin 4096 → EReal)
    (W2 : Fin 4096 → Fin 1024 → EReal) (LG LB : Fin 1024 → EReal) (b : Fin 4) (r : Fin 256) (k : Fin 1024) : EReal :=
  normed (resid (X b r) GM (mlpRow (hRow (X b r) SC SH) W1 W2)) LG LB k

end Cert.Trunk
end
-- ==== Proof.CtxRows.lean ====
/- The feed-forward call for the context tokens: the function of rows it computes, and what it leaves of one block. It walks
   the hidden units in four quarters. -/
module

public import proofs.«01_k».proof.Proof.Gen.Kernel5Ideal.Frame
public import proofs.«01_k».proof.Proof.Gen.Kernel5Ideal.Skeleton
public import proofs.«01_k».proof.Proof.CtxSpec
public import proofs.«01_k».proof.Proof.Blocks
public import Idealize.ShloMosaic.Lib.Pointwise

@[expose] public section

set_option maxRecDepth 16384

noncomputable section

namespace Cert.Kernel5Ideal.Hand

open Idealize.ShloMosaic Idealize.ShloMosaic.TcCoe Idealize.ShloMosaic.Tactic
open Cert.Kernel5Ideal Cert.Kernel5Ideal.Gen Cert.InProj Cert.Trunk

variable (x : Vec Ideal S1x512x1024 .f32) (sh sc gm : Vec Ideal S1x1x1024 .f32) (wa wb wc wd va vb vc vd : Vec Ideal S1024x1024 .bf16)
  (lg lb : Vec Ideal S1x1024 .f32)

/-- The normalised and modulated rows. -/
theorem pay3_eq (r : Fin 512) (k : Fin 1024) : k0_pay3 x sc sh (ix2 r k)
    = hRow (fun k => x (ix3 0 r k)) (fun k => sc (ix3 0 0 k)) (fun k => sh (ix3 0 0 k)) k := by
  unfold k0_pay3 k0_pay2
  pointwise []
  rfl

/-- The first quarter of the hidden units. -/
theorem pay4_eq (r : Fin 512) (q : Fin 1024) : k0_pay4 x sc sh wa (ix2 r q)
    = relu2 (dotRow (hRow (fun k => x (ix3 0 r k)) (fun k => sc (ix3 0 0 k)) (fun k => sh (ix3 0 0 k))) fun p => wa (ix2 p q)) := by
  unfold k0_pay4
  pointwise []
  simp only [pay3_eq]
  rfl

/-- What the four quarters give, the first one's hidden units being at hand. -/
theorem pay5_eq (h a : FVec Ideal S512x1024 .bf16) (r : Fin 512) (k : Fin 1024) : k0_pay5 h a va wb vb wc vc wd vd (ix2 r k)
    = (∑ q : Fin 1024, a (ix2 r q) * va (ix2 q k))
      + (∑ q : Fin 1024, relu2 (dotRow (fun p => h (ix2 r p)) fun p => wb (ix2 p q)) * vb (ix2 q k))
      + (∑ q : Fin 1024, relu2 (dotRow (fun p => h (ix2 r p)) fun p => wc (ix2 p q)) * vc (ix2 q k))
      + ∑ q : Fin 1024, relu2 (dotRow (fun p => h (ix2 r p)) fun p => wd (ix2 p q)) * vd (ix2 q k) := by
  unfold k0_pay5
  pointwise []
  rfl

theorem pay7_eq (v1 y : FVec Ideal S512x1024 .f32) (z : Fin 1) (r : Fin 512) (k : Fin 1024) :
    k0_pay7 y (k0_pay6 v1) gm lg lb (ix3 z r k)
      = normed (resid (fun k => v1 (ix2 r k)) (fun k => gm (ix3 0 0 k)) (fun k => y (ix2 r k))) (fun k => lg (ix2 0 k)) (fun k => lb (ix2 0 k)) k := by
  unfold k0_pay7 k0_pay6
  pointwise []
  rfl

theorem pay13_eq (v1 p : FVec Ideal S512x1024 .f32) (h a : FVec Ideal S512x1024 .bf16) (r : Fin 512) (k : Fin 1024) :
    k0_pay13 v1 h p a vb wc vc wd vd gm (ix2 r k)
      = resid (fun k => v1 (ix2 r k)) (fun k => gm (ix3 0 0 k))
          (fun k => p (ix2 r k) + (∑ q : Fin 1024, a (ix2 r q) * vb (ix2 q k))
            + (∑ q : Fin 1024, relu2 (dotRow (fun p => h (ix2 r p)) fun p => wc (ix2 p q)) * vc (ix2 q k))
            + ∑ q : Fin 1024, relu2 (dotRow (fun p => h (ix2 r p)) fun p => wd (ix2 p q)) * vd (ix2 q k)) k := by
  unfold k0_pay13
  pointwise []
  rfl

theorem pay1_eq (v1 p : FVec Ideal S512x1024 .f32) (h a : FVec Ideal S512x1024 .bf16) (z : Fin 1) (r : Fin 512) (k : Fin 1024) :
    k0_pay1 (k0_pay13 v1 h p a vb wc vc wd vd gm) (k0_pay14 v1 h p a vb wc vc wd vd gm) lg lb (ix3 z r k)
      = normed (resid (fun k => v1 (ix2 r k)) (fun k => gm (ix3 0 0 k))
          (fun k => p (ix2 r k) + (∑ q : Fin 1024, a (ix2 r q) * vb (ix2 q k))
            + (∑ q : Fin 1024, relu2 (dotRow (fun p => h (ix2 r p)) fun p => wc (ix2 p q)) * vc (ix2 q k))
            + ∑ q : Fin 1024, relu2 (dotRow (fun p => h (ix2 r p)) fun p => wd (ix2 p q)) * vd (ix2 q k)))
          (fun k => lg (ix2 0 k)) (fun k => lb (ix2 0 k)) k := by
  unfold k0_pay1 k0_pay14
  pointwise []
  simp only [pay13_eq]
  rfl

theorem pay2_eq (r : Fin 512) (k : Fin 1024) : k0_pay2 x (ix2 r k) = x (ix3 0 r k) := by
  unfold k0_pay2
  pointwise []
theorem pay8_eq (r : Fin 512) (k : Fin 1024) : k0_pay8 x (ix2 r k) = x (ix3 0 r k) := by
  unfold k0_pay8
  pointwise []

/-- The same rows in the second half of the block, where the mean is at hand. -/
theorem pay10_eq (r : Fin 512) (k : Fin 1024) : k0_pay10 (k0_pay8 x) (k0_pay9 x) sc sh (ix2 r k)
    = hRow (fun k => x (ix3 0 r k)) (fun k => sc (ix3 0 0 k)) (fun k => sh (ix3 0 0 k)) k := by
  unfold k0_pay10 k0_pay9 k0_pay8
  pointwise []
  rfl

/-- What the first quarter gives there. -/
theorem pay11_eq (r : Fin 512) (k : Fin 1024) : k0_pay11 (k0_pay8 x) (k0_pay9 x) sc sh wa va (ix2 r k)
    = ∑ q : Fin 1024, relu2 (dotRow (hRow (fun k => x (ix3 0 r k)) (fun k => sc (ix3 0 0 k)) (fun k => sh (ix3 0 0 k))) fun p => wa (ix2 p q)) * va (ix2 q k) := by
  unfold k0_pay11
  pointwise []
  simp only [pay10_eq]
  rfl

/-- The second quarter of the hidden units there. -/
theorem pay12_eq (r : Fin 512) (q : Fin 1024) : k0_pay12 (k0_pay8 x) (k0_pay9 x) sc sh wb (ix2 r q)
    = relu2 (dotRow (hRow (fun k => x (ix3 0 r k)) (fun k => sc (ix3 0 0 k)) (fun k => sh (ix3 0 0 k))) fun p => wb (ix2 p q)) := by
  unfold k0_pay12
  pointwise []
  simp only [pay10_eq]
  rfl

end Cert.Kernel5Ideal.Hand
end
-- ==== Proof.CtxBlock.lean ====
/- The feed-forward call's windows for the context tokens, as rows and columns of the arguments, and its result after the
   host has given it back the tokens' two axes. -/
module

public import proofs.«01_k».proof.Proof.CtxRows
public import Idealize.ShloMosaic.Lib.StableHlo.ReadAt
public import Idealize.ShloMosaic.Lib.Pipeline.ValueKit

@[expose] public section

set_option maxRecDepth 16384

noncomputable section

namespace Cert.Kernel5Ideal.Hand

open Idealize.ShloMosaic Idealize.ShloMosaic.TcCoe Idealize.ShloMosaic.Tactic Idealize.SL.Sem
open Cert.Kernel5Ideal Cert.Kernel5Ideal.Gen Cert.InProj Cert.Trunk
open Cert.KernelIdeal.Hand (emb_ix2 emb_ix3)

/-! ## The body's loads -/

theorem ld_x0 (x : Vec Ideal S1x1024x1024 .f32) : View.ld x r0_0
    = fun j : S1x512x1024.Idx => x (ix3 0 ⟨(j 1).val, (j 1).isLt.trans (by decide)⟩ (j 2)) := by
  funext (j : S1x512x1024.Idx)
  idx_vars j
  refine (congrArg x (emb_ix3 _ _ _ _ (by omega) (by omega) (by omega))).trans ?_
  simp only [zero_add, Fin.val_eq_zero]; rfl
theorem ld_x11 (x : Vec Ideal S1x1024x1024 .f32) : View.ld x r0_11
    = fun j : S1x512x1024.Idx => x (ix3 0 ⟨512 + (j 1).val, Nat.add_lt_add_left (j 1).isLt 512⟩ (j 2)) := by
  funext (j : S1x512x1024.Idx)
  idx_vars j
  refine (congrArg x (emb_ix3 _ _ _ _ (by omega) (by omega) (by omega))).trans ?_
  simp only [zero_add, Fin.val_eq_zero]; rfl
theorem ld_mod (x : Vec Ideal S1x1x1024 .f32) : View.ld x r0_1 = x := by
  funext (j : S1x1x1024.Idx)
  idx_vars j
  refine (congrArg x (emb_ix3 _ _ _ _ (by omega) (by omega) (by omega))).trans ?_
  simp only [zero_add]
theorem ld_ln (x : Vec Ideal S1x1024 .f32) : View.ld x r0_10 = x := by
  funext (j : S1x1024.Idx)
  idx_vars j
  refine (congrArg x (emb_ix2 _ _ _ (by omega) (by omega))).trans ?_
  simp only [zero_add]
theorem ld_w1a (x : Vec Ideal S1024x4096 .bf16) : View.ld x r0_2 = fun j : S1024x1024.Idx => x (ix2 (j 0) ⟨(j 1).val, (j 1).isLt.trans (by decide)⟩) := by
  funext (j : S1024x1024.Idx)
  idx_vars j
  refine (congrArg x (emb_ix2 _ _ _ (by omega) (by omega))).trans ?_
  simp only [zero_add]
theorem ld_w2a (x : Vec Ideal S4096x1024 .bf16) : View.ld x r0_3 = fun j : S1024x1024.Idx => x (ix2 ⟨(j 0).val, (j 0).isLt.trans (by decide)⟩ (j 1)) := by
  funext (j : S1024x1024.Idx)
  idx_vars j
  refine (congrArg x (emb_ix2 _ _ _ (by omega) (by omega))).trans ?_
  simp only [zero_add]
theorem ld_w1b (x : Vec Ideal S1024x4096 .bf16) : View.ld x r0_4 = fun j : S1024x1024.Idx => x (ix2 (j 0) ⟨1024 + (j 1).val, (Nat.add_lt_add_left (j 1).isLt 1024).trans_le (by decide)⟩) := by
  funext (j : S1024x1024.Idx)
  idx_vars j
  refine (congrArg x (emb_ix2 _ _ _ (by omega) (by omega))).trans ?_
  simp only [zero_add]
theorem ld_w2b (x : Vec Ideal S4096x1024 .bf16) : View.ld x r0_5 = fun j : S1024x1024.Idx => x (ix2 ⟨1024 + (j 0).val, (Nat.add_lt_add_left (j 0).isLt 1024).trans_le (by decide)⟩ (j 1)) := by
  funext (j : S1024x1024.Idx)
  idx_vars j
  refine (congrArg x (emb_ix2 _ _ _ (by omega) (by omega))).trans ?_
  simp only [zero_add]
theorem ld_w1c (x : Vec Ideal S1024x4096 .bf16) : View.ld x r0_6 = fun j : S1024x1024.Idx => x (ix2 (j 0) ⟨2048 + (j 1).val, (Nat.add_lt_add_left (j 1).isLt 2048).trans_le (by decide)⟩) := by
  funext (j : S1024x1024.Idx)
  idx_vars j
  refine (congrArg x (emb_ix2 _ _ _ (by omega) (by omega))).trans ?_
  simp only [zero_add]
theorem ld_w2c (x : Vec Ideal S4096x1024 .bf16) : View.ld x r0_7 = fun j : S1024x1024.Idx => x (ix2 ⟨2048 + (j 0).val, (Nat.add_lt_add_left (j 0).isLt 2048).trans_le (by decide)⟩ (j 1)) := by
  funext (j : S1024x1024.Idx)
  idx_vars j
  refine (congrArg x (emb_ix2 _ _ _ (by omega) (by omega))).trans ?_
  simp only [zero_add]
theorem ld_w1d (x : Vec Ideal S1024x4096 .bf16) : View.ld x r0_8 = fun j : S1024x1024.Idx => x (ix2 (j 0) ⟨3072 + (j 1).val, (Nat.add_lt_add_left (j 1).isLt 3072).trans_le (by decide)⟩) := by
  funext (j : S1024x1024.Idx)
  idx_vars j
  refine (congrArg x (emb_ix2 _ _ _ (by omega) (by omega))).trans ?_
  simp only [zero_add]
theorem ld_w2d (x : Vec Ideal S4096x1024 .bf16) : View.ld x r0_9 = fun j : S1024x1024.Idx => x (ix2 ⟨3072 + (j 0).val, (Nat.add_lt_add_left (j 0).isLt 3072).trans_le (by decide)⟩ (j 1)) := by
  funext (j : S1024x1024.Idx)
  idx_vars j
  refine (congrArg x (emb_ix2 _ _ _ (by omega) (by omega))).trans ?_
  simp only [zero_add]

section Stored

variable (x : Vec Ideal S1x1024x1024 .f32) (sh sc gm : Vec Ideal S1x1x1024 .f32) (w1 : Vec Ideal S1024x4096 .bf16) (w2 : Vec Ideal S4096x1024 .bf16)
  (lg lb : Vec Ideal S1x1024 .f32)

theorem pay15_eq (r : Fin 512) (k : Fin 1024) : k0_pay15 x sh sc gm w1 w2 lg lb (ix2 r k) = x (ix3 0 ⟨512 + r.val, by omega⟩ k) := by
  unfold k0_pay15
  rw [pay8_eq, ld_x11]
  rfl
theorem pay17_eq (r : Fin 512) (k : Fin 1024) : k0_pay17 x sh sc gm w1 w2 lg lb (ix2 r k)
    = hRow (fun k => x (ix3 0 ⟨512 + r.val, by omega⟩ k)) (fun k => sc (ix3 0 0 k)) (fun k => sh (ix3 0 0 k)) k := by
  unfold k0_pay17 k0_pay16 k0_pay15
  rw [pay10_eq, ld_x11, ld_mod, ld_mod]
  rfl
theorem pay18_eq (r : Fin 512) (k : Fin 1024) : k0_pay18 x sh sc gm w1 w2 lg lb (ix2 r k)
    = ∑ q : Fin 1024, relu2 (dotRow (hRow (fun k => x (ix3 0 ⟨512 + r.val, by omega⟩ k)) (fun k => sc (ix3 0 0 k)) (fun k => sh (ix3 0 0 k)))
        fun p => w1 (ix2 p ⟨q.val, by omega⟩)) * w2 (ix2 ⟨q.val, by omega⟩ k) := by
  unfold k0_pay18 k0_pay16 k0_pay15
  rw [pay11_eq, ld_x11, ld_mod, ld_mod, ld_w1a, ld_w2a]
  rfl
theorem pay19_eq (r : Fin 512) (q : Fin 1024) : k0_pay19 x sh sc gm w1 w2 lg lb (ix2 r q)
    = relu2 (dotRow (hRow (fun k => x (ix3 0 ⟨512 + r.val, by omega⟩ k)) (fun k => sc (ix3 0 0 k)) (fun k => sh (ix3 0 0 k)))
        fun p => w1 (ix2 p ⟨1024 + q.val, by omega⟩)) := by
  unfold k0_pay19 k0_pay16 k0_pay15
  rw [pay12_eq, ld_x11, ld_mod, ld_mod, ld_w1b]
  rfl

end Stored

/-- The block of results, as a function of the blocks staged. -/
def ctxBlk (x : Vec Ideal S1x1024x1024 .f32) (sh sc gm : Vec Ideal S1x1x1024 .f32) (w1 : Vec Ideal S1024x4096 .bf16) (w2 : Vec Ideal S4096x1024 .bf16)
    (lg lb : Vec Ideal S1x1024 .f32) : Vec Ideal S1x1024x1024 .f32 :=
  fun j => normed (resid (fun k => x (ix3 0 (j 1) k)) (fun k => gm (ix3 0 0 k))
    (mlpRow (hRow (fun k => x (ix3 0 (j 1) k)) (fun k => sc (ix3 0 0 k)) (fun k => sh (ix3 0 0 k))) (fun p q => w1 (ix2 p q)) fun q k => w2 (ix2 q k)))
    (fun k => lg (ix2 0 k)) (fun k => lb (ix2 0 k)) (j 2)

theorem ctxBlk_ix3 (x : Vec Ideal S1x1024x1024 .f32) (sh sc gm : Vec Ideal S1x1x1024 .f32) (w1 : Vec Ideal S1024x4096 .bf16) (w2 : Vec Ideal S4096x1024 .bf16)
    (lg lb : Vec Ideal S1x1024 .f32) (a : Fin 1) (r k : Fin 1024) : ctxBlk x sh sc gm w1 w2 lg lb (ix3 a r k)
      = normed (resid (fun k => x (ix3 0 r k)) (fun k => gm (ix3 0 0 k))
          (mlpRow (hRow (fun k => x (ix3 0 r k)) (fun k => sc (ix3 0 0 k)) (fun k => sh (ix3 0 0 k))) (fun p q => w1 (ix2 p q)) fun q k => w2 (ix2 q k)))
          (fun k => lg (ix2 0 k)) (fun k => lb (ix2 0 k)) k := rfl

theorem out_eq (x : Vec Ideal S1x1024x1024 .f32) (sh sc gm : Vec Ideal S1x1x1024 .f32) (w1 : Vec Ideal S1024x4096 .bf16) (w2 : Vec Ideal S4096x1024 .bf16)
    (lg lb : Vec Ideal S1x1024 .f32) : out0_8 x sh sc gm w1 w2 lg lb = ctxBlk x sh sc gm w1 w2 lg lb := by
  funext y
  unfold out0_8
  refine View.canon_apply_of_pieces (ctxBlk x sh sc gm w1 w2 lg lb) _ ?_ y (cover0_8 _ _ y)
  intro p hp j
  simp only [List.mem_cons, List.not_mem_nil, or_false] at hp
  rcases hp with rfl | rfl
  · revert j
    intro (j : S1x512x1024.Idx)
    idx_vars j
    rw [emb_ix3 _ _ _ _ (by omega) (by omega) (by omega)]
    rw [pay1_eq, ctxBlk_ix3, mlpRow_quarters, ld_mod, ld_w2b, ld_w1c, ld_w2c, ld_w1d, ld_w2d, ld_ln, ld_ln]
    simp only [pay15_eq, pay17_eq, pay18_eq, pay19_eq, zero_add]
    rfl
  · revert j
    intro (j : S1x512x1024.Idx)
    idx_vars j
    rw [emb_ix3 _ _ _ _ (by omega) (by omega) (by omega)]
    rw [pay7_eq, ctxBlk_ix3, mlpRow_quarters, ld_x0, ld_mod, ld_mod, ld_mod, ld_w1a, ld_w1b, ld_w1c, ld_w1d, ld_w2a, ld_w2b, ld_w2c, ld_w2d, ld_ln, ld_ln]
    simp only [pay2_eq, pay3_eq, pay4_eq, pay5_eq, zero_add]
    rfl

variable (m : (ℓ : Loc nD τ sig) → Buf (Elt Ideal) ℓ) (ρ : Dev nD → PrngReg) (c : Dev nD)

/-- The tokens. -/
def X (b : Fin 4) (r : Fin 256) (k : Fin 1024) : EReal := m (c.tc.loc main_arg0) (ix3 b r k)
/-- The shifts. -/
def SH (k : Fin 1024) : EReal := m (c.tc.loc main_arg1) (ix3 0 0 k)
/-- The scales. -/
def SC (k : Fin 1024) : EReal := m (c.tc.loc main_arg2) (ix3 0 0 k)
/-- The gates. -/
def GM (k : Fin 1024) : EReal := m (c.tc.loc main_arg3) (ix3 0 0 k)
/-- The weights into the hidden units. -/
def W1 (p : Fin 1024) (q : Fin 4096) : EReal := m (c.tc.loc main_arg4) (ix2 p q)
/-- The weights out of them. -/
def W2 (q : Fin 4096) (k : Fin 1024) : EReal := m (c.tc.loc main_arg5) (ix2 q k)
/-- The last normalisation's scale. -/
def LG (k : Fin 1024) : EReal := m (c.tc.loc main_arg6) (ix1 k)
/-- The last normalisation's shift. -/
def LB (k : Fin 1024) : EReal := m (c.tc.loc main_arg7) (ix1 k)

/-- The batch of row `r` of the flat block. -/
def bi (r : Fin 1024) : Fin 4 := ⟨r.val / 256, by omega⟩
/-- Its token there. -/
def qi (r : Fin 1024) : Fin 256 := ⟨r.val % 256, by omega⟩

theorem index_0 : ∀ t : Fin cfg0.N, win0_0.index t = ![0, 0, 0] := (by decide +kernel : ∀ t : Fin grid0.N, _)
theorem index_1 : ∀ t : Fin cfg0.N, win0_1.index t = ![0, 0, 0] := (by decide +kernel : ∀ t : Fin grid0.N, _)
theorem index_2 : ∀ t : Fin cfg0.N, win0_2.index t = ![0, 0, 0] := (by decide +kernel : ∀ t : Fin grid0.N, _)
theorem index_3 : ∀ t : Fin cfg0.N, win0_3.index t = ![0, 0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![0, 0, 0] := (by decide +kernel : ∀ t : Fin grid0.N, _)

theorem V_w1 (p : Fin 1024) (q : Fin 4096) : V m c main_v0 (ix2 p q) = W1 m c p q := by
  simp only [V, V0, hostOps0, List.flatten_cons, List.flatten_nil, List.append_nil, StableHlo.TRef.unary, StableHlo.TRef.toBuf, StableHlo.TRef.ofBuf, cast_eq]
  after_results_simp
  rfl
theorem V_w2 (q : Fin 4096) (k : Fin 1024) : V m c main_v1 (ix2 q k) = W2 m c q k := by
  simp only [V, V0, hostOps0, List.flatten_cons, List.flatten_nil, List.append_nil, StableHlo.TRef.unary, StableHlo.TRef.toBuf, StableHlo.TRef.ofBuf, cast_eq]
  after_results_simp
  rfl
theorem V_lg (k : Fin 1024) : V m c main_v2 (ix2 0 k) = LG m c k := by
  simp only [V, V0, hostOps0, List.flatten_cons, List.flatten_nil, List.append_nil, StableHlo.TRef.unary, StableHlo.TRef.toBuf, StableHlo.TRef.ofBuf, cast_eq]
  after_results_simp
  clean_types
  pointwise []
  rfl
theorem V_lb (k : Fin 1024) : V m c main_v3 (ix2 0 k) = LB m c k := by
  simp only [V, V0, hostOps0, List.flatten_cons, List.flatten_nil, List.append_nil, StableHlo.TRef.unary, StableHlo.TRef.toBuf, StableHlo.TRef.ofBuf, cast_eq]
  after_results_simp
  clean_types
  pointwise []
  rfl

/-- The flat row `r` is row `r % 256` of batch `r / 256`. -/
theorem cast_in (x : S4x256x1024.Idx → EReal) (r k : Fin 1024) :
    shapeCast S1x1024x1024 x shapeCasts_S4x256x1024_S1x1024x1024 (ix3 0 r k) = x (ix3 (bi r) (qi r) k) := by
  refine shapeCast_apply _ _ _ _ ?_
  rw [Shape.rowMajor_val_three, Shape.rowMajor_val_three]
  show (r.val / 256 * 256 + r.val % 256) * 1024 + k.val = (0 * 1024 + r.val) * 1024 + k.val
  omega

/-- Row `r` of batch `b` is the flat row `b * 256 + r`. -/
theorem cast_out (x : S1x1024x1024.Idx → EReal) (b : Fin 4) (r : Fin 256) (k : Fin 1024) :
    shapeCast S4x256x1024 x shapeCasts_S1x1024x1024_S4x256x1024 (ix3 b r k) = x (ix3 0 (⟨b.val * 256 + r.val, by omega⟩ : Fin 1024) k) := by
  refine shapeCast_apply _ _ _ _ ?_
  rw [Shape.rowMajor_val_three, Shape.rowMajor_val_three]
  show (0 * 1024 + (b.val * 256 + r.val)) * 1024 + k.val = (b.val * 256 + r.val) * 1024 + k.val
  omega

theorem V_x (r k : Fin 1024) : V m c main_v4 (ix3 0 r k) = X m c (bi r) (qi r) k := by
  simp only [V, V0, hostOps0, List.flatten_cons, List.flatten_nil, List.append_nil, StableHlo.TRef.unary, StableHlo.TRef.toBuf, StableHlo.TRef.ofBuf, cast_eq]
  after_results_simp
  clean_types
  exact cast_in _ r k

theorem staged_x (t : Fin cfg0.N) (r k : Fin 1024) : (iblk m c 0 t : Vec Ideal S1x1024x1024 .f32) (ix3 0 r k) = X m c (bi r) (qi r) k := by
  rw [← V_x]
  show V m c main_v4 ((win0_0.blk t).view.emb (ix3 0 r k)) = _
  refine congrArg _ ?_
  blk_ext [index_0]
theorem staged_sh (t : Fin cfg0.N) (k : Fin 1024) : (iblk m c 1 t : Vec Ideal S1x1x1024 .f32) (ix3 0 0 k) = SH m c k := by
  show V m c main_arg1 ((win0_1.blk t).view.emb (ix3 0 0 k)) = _
  rw [V_main_arg1]
  unfold SH
  refine congrArg _ ?_
  blk_ext [index_1]
theorem staged_sc (t : Fin cfg0.N) (k : Fin 1024) : (iblk m c 2 t : Vec Ideal S1x1x1024 .f32) (ix3 0 0 k) = SC m c k := by
  show V m c main_arg2 ((win0_2.blk t).view.emb (ix3 0 0 k)) = _
  rw [V_main_arg2]
  unfold SC
  refine congrArg _ ?_
  blk_ext [index_2]
theorem staged_gm (t : Fin cfg0.N) (k : Fin 1024) : (iblk m c 3 t : Vec Ideal S1x1x1024 .f32) (ix3 0 0 k) = GM m c k := by
  show V m c main_arg3 ((win0_3.blk t).view.emb (ix3 0 0 k)) = _
  rw [V_main_arg3]
  unfold GM
  refine congrArg _ ?_
  blk_ext [index_3]
theorem staged_w1 (t : Fin cfg0.N) (p : Fin 1024) (q : Fin 4096) : (iblk m c 4 t : Vec Ideal S1024x4096 .bf16) (ix2 p q) = W1 m c p q := by
  rw [← V_w1]
  show V m c main_v0 ((win0_4.blk t).view.emb (ix2 p q)) = _
  refine congrArg _ ?_
  blk_ext [index_4]
theorem staged_w2 (t : Fin cfg0.N) (q : Fin 4096) (k : Fin 1024) : (iblk m c 5 t : Vec Ideal S4096x1024 .bf16) (ix2 q k) = W2 m c q k := by
  rw [← V_w2]
  show V m c main_v1 ((win0_5.blk t).view.emb (ix2 q k)) = _
  refine congrArg _ ?_
  blk_ext [index_5]
theorem staged_lg (t : Fin cfg0.N) (k : Fin 1024) : (iblk m c 6 t : Vec Ideal S1x1024 .f32) (ix2 0 k) = LG m c k := by
  rw [← V_lg]
  show V m c main_v2 ((win0_6.blk t).view.emb (ix2 0 k)) = _
  refine congrArg _ ?_
  blk_ext [index_6]
theorem staged_lb (t : Fin cfg0.N) (k : Fin 1024) : (iblk m c 7 t : Vec Ideal S1x1024 .f32) (ix2 0 k) = LB m c k := by
  rw [← V_lb]
  show V m c main_v3 ((win0_7.blk t).view.emb (ix2 0 k)) = _
  refine congrArg _ ?_
  blk_ext [index_7]

/-- The flat array of results. -/
def flat : S1x1024x1024.Idx → EReal :=
  fun j => ctxOut (X m c) (SH m c) (SC m c) (GM m c) (W1 m c) (W2 m c) (LG m c) (LB m c) (bi (j 1)) (qi (j 1)) (j 2)
/-- The result array. -/
def res : S4x256x1024.Idx → EReal :=
  fun j => ctxOut (X m c) (SH m c) (SC m c) (GM m c) (W1 m c) (W2 m c) (LG m c) (LB m c) (j 0) (j 1) (j 2)

theorem blk_staged (t : Fin cfg0.N) :
    ctxBlk (iblk m c 0 t) (iblk m c 1 t) (iblk m c 2 t) (iblk m c 3 t) (iblk m c 4 t) (iblk m c 5 t) (iblk m c 6 t) (iblk m c 7 t) = flat m c := by
  funext j
  idx_vars j
  rw [ctxBlk_ix3]
  simp only [staged_x, staged_sh, staged_sc, staged_gm, staged_w1, staged_w2, staged_lg, staged_lb]
  rfl

theorem final : (dats m 0 c).arrAt 8 cfg0.N = flat m c := by
  refine (dats m 0 c).arrAt_eq_of_covers 8 _ (by decide +kernel) fun t hf y => ?_
  blk_simp
  rw [after0_8, out_eq, blk_staged]
  revert y
  intro (y : S1x1024x1024.Idx)
  idx_vars y
  have e : ((win0_8.blk t).view.emb (ix3 y0 y1 y2 : S1x1024x1024.Idx)) = ix3 (⟨y0.val, by omega⟩ : Fin 1) (⟨y1.val, by omega⟩ : Fin 1024) (⟨y2.val, by omega⟩ : Fin 1024) := by
    blk_ext [index_8]
  rw [e]

/-- The host gives the flat array of results back its batch axis. -/
theorem tail : Pipeline.afterTail₀ cfgs (dats m) 0 (V0 m) [hostOps1] c main_v6 = res m c := by
  unfold Pipeline.afterTail₀
  simp only [hostOps1, List.flatten_cons, List.flatten_nil, List.append_nil]
  after_results_simp
  have e : Pipeline.withArrays (cfgs 0).spec c (V0 m c) (fun w => (dats m 0 c).arrAt w (cfgs 0).N) (Proc.tc.devRef main_v5) = flat m c :=
    (Pipeline.withArrays_arr spec0 (by decide) c (V0 m c) (fun w => (dats m 0 c).arrAt w (cfgs 0).N) 8).trans (final m c)
  rw [e]
  funext (j : S4x256x1024.Idx)
  idx_vars j
  refine (cast_out (flat m c) _ _ _).trans ?_
  unfold flat res
  have e0 : bi (⟨j0.val * 256 + j1.val, by omega⟩ : Fin 1024) = j0 := Fin.ext (by show (j0.val * 256 + j1.val) / 256 = _; omega)
  have e1 : qi (⟨j0.val * 256 + j1.val, by omega⟩ : Fin 1024) = j1 := Fin.ext (by show (j0.val * 256 + j1.val) % 256 = _; omega)
  show ctxOut _ _ _ _ _ _ _ _ (bi (⟨j0.val * 256 + j1.val, by omega⟩ : Fin 1024)) (qi (⟨j0.val * 256 + j1.val, by omega⟩ : Fin 1024)) _ = _
  rw [e0, e1]
  rfl

/-- The call runs and leaves that function as its result, its arguments unchanged. -/
theorem run_value : θ_run (defs (F := Ideal)) (onTc (τ := τ) (main (F := Ideal))) ⟨m, fun _ => 0, ρ⟩ fun r => ∀ c : Dev nD,
      r.2.mem (c.tc.loc main_v6) = res m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7) :=
  (θ_run defs _ _).mono (fun _ h c => ⟨(h.1 c |>.2 main_v6 (Pipeline.mem_restRefs_of main_v6 (by decide) (by decide))).trans (tail m c), h.2 c⟩)
    (θ_run_and (run_main m ρ) (unchanged m ρ))

end Cert.Kernel5Ideal.Hand
end
-- ==== Proof.CtxReference.lean ====
/- The feed-forward reference's result for the context tokens, entry by entry: the function of rows that CtxSpec.lean names. -/
module

public import proofs.«01_k».proof.Proof.Gen.Reference5Ideal.Run
public import proofs.«01_k».proof.Proof.Gen.Reference5Ideal
public import proofs.«01_k».proof.Proof.CtxSpec
public import Idealize.ShloMosaic.Lib.Pointwise
public import Idealize.ShloMosaic.Lib.Quiescent

@[expose] public section
set_option maxRecDepth 16384
noncomputable section
namespace Cert.Reference5Ideal.Hand
open Idealize.ShloMosaic Idealize.ShloMosaic.TcCoe Idealize.ShloMosaic.Tactic
open Cert.Reference5Ideal Cert.Reference5Ideal.Gen Cert.Reference5Ideal.Value Cert.InProj Cert.Trunk

variable (m : (ℓ : Loc nD τ sig) → Buf (Elt Ideal) ℓ) (c : Dev nD)

/-- The tokens. -/
def X (b : Fin 4) (r : Fin 256) (k : Fin 1024) : EReal := m (c.tc.loc main_arg0) (ix3 b r k)
/-- The shifts. -/
def SH (k : Fin 1024) : EReal := m (c.tc.loc main_arg1) (ix3 0 0 k)
/-- The scales. -/
def SC (k : Fin 1024) : EReal := m (c.tc.loc main_arg2) (ix3 0 0 k)
/-- The gates. -/
def GM (k : Fin 1024) : EReal := m (c.tc.loc main_arg3) (ix3 0 0 k)
/-- The weights into the hidden units. -/
def W1 (p : Fin 1024) (q : Fin 4096) : EReal := m (c.tc.loc main_arg4) (ix2 p q)
/-- The weights out of them. -/
def W2 (q : Fin 4096) (k : Fin 1024) : EReal := m (c.tc.loc main_arg5) (ix2 q k)
/-- The last normalisation's scale. -/
def LG (k : Fin 1024) : EReal := m (c.tc.loc main_arg6) (ix1 k)
/-- The last normalisation's shift. -/
def LB (k : Fin 1024) : EReal := m (c.tc.loc main_arg7) (ix1 k)

set_option maxHeartbeats 2000000 in
theorem out (b : Fin 4) (r : Fin 256) (k : Fin 1024) :
    res_main_v56 m c (ix3 b r k) = ctxOut (X m c) (SH m c) (SC m c) (GM m c) (W1 m c) (W2 m c) (LG m c) (LB m c) b r k := by
  unfold res_main_v56
  generalize hD : Host.dotGeneral (F := Ideal) dot_S4x256x1024_S1024x4096_S4x256x4096_2_0_01_1_n_n none _ _ = D
  have hz : ∀ (b : Fin 4) (r : Fin 256) (q : Fin 4096), D (ix3 b r q) = dotRow (hRow (X m c b r) (SC m c) (SH m c)) fun p => W1 m c p q := by
    intro b r q
    rw [← hD]
    pointwise []
    rfl
  clear hD
  generalize hE : Host.dotGeneral (F := Ideal) dot_S4x256x4096_S4096x1024_S4x256x1024_2_0_01_1_n_n none _ _ = E
  have hy : ∀ (b : Fin 4) (r : Fin 256) (k : Fin 1024), E (ix3 b r k) = mlpRow (hRow (X m c b r) (SC m c) (SH m c)) (W1 m c) (W2 m c) k := by
    intro b r k
    rw [← hE]
    pointwise []
    simp only [hz]
    rfl
  clear hE hz
  pointwise []
  simp only [hy]
  rfl

/-- The reference runs and leaves that function as its result, its arguments unchanged. -/
theorem run_value (ρ : Dev nD → PrngReg) :
    θ_run (defs (F := Ideal)) (onTc (τ := τ) (main (F := Ideal))) ⟨m, fun _ => 0, ρ⟩ fun r => ∀ c : Dev nD,
      (∀ b q k, r.2.mem (c.tc.loc main_v56) (ix3 b q k) = ctxOut (X m c) (SH m c) (SC m c) (GM m c) (W1 m c) (W2 m c) (LG m c) (LB m c) b q k)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7) := by
  refine (θ_run defs _ _).mono (fun r h c => ⟨fun b q k => ?_, (h c).2⟩) (run m ρ)
  rw [(h c).1]; exact out m c b q k

/-- Its arguments end unchanged; it has no semaphore. -/
theorem quiescent (ρ : Dev nD → PrngReg) : θ_run (defs (F := Ideal)) (onTc (τ := τ) (main (F := Ideal))) ⟨m, fun _ => 0, ρ⟩ fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)) ∧ r.2.sem = fun _ => 0 :=
  (θ_run defs _ _).mono (fun r h => ⟨fun c => (h c).2, sem_eq_zero_of_no_sems rfl r.2⟩) (run_value m ρ)

end Cert.Reference5Ideal.Hand
-- ==== Proof.AdaHost.lean ====
/- The rows the host gathers for the modulation's projection: the times' rows, then the context's row, and what the projection
   does of one row. -/
module

public import proofs.«01_k».proof.Proof.Gen.Kernel6Ideal
public import proofs.«01_k».proof.Proof.Trunk
public import Idealize.ShloMosaic.Lib.Routing.OpsSet

@[expose] public section

set_option maxRecDepth 16384

noncomputable section

namespace Cert.Trunk

open Idealize.ShloMosaic Cert.InProj

/-- One entry of the modulation: the row through `x · σ(x)`, times a column of weights, plus the column's bias. -/
def adaEntry (x w : Fin 1024 → EReal) (b : EReal) : EReal := dotRow (fun k => x k * Ideal.logistic (x k)) w + b

/-- Column `k` of part `i`. -/
def part (i : Fin 6) (k : Fin 1024) : Fin 6144 := ⟨i.val * 1024 + k.val, by omega⟩

end Cert.Trunk

namespace Cert.Kernel6Ideal.Hand

open Idealize.ShloMosaic Idealize.ShloMosaic.TcCoe Idealize.ShloMosaic.Tactic
open Cert.Kernel6Ideal Cert.Kernel6Ideal.Gen Cert.InProj Cert.Trunk

/-- Where an entry of the block of rows set at row 0 lands. -/
theorem lands_rows (idx : IVec S1 32) (h : ∀ j, (idx j).toInt = 0) (u : S4x1024.Idx) (i : S8x1024.Idx) :
    scatter_S8x1024_S1_S4x1024_01_n_0_0.resultIdx? u idx = some i ↔ (u 0).val = (i 0).val ∧ (u 1).val = (i 1).val := by
  have s0 : scatter_S8x1024_S1_S4x1024_01_n_0_0.start u idx 0 = 0 := by
    unfold ScatterDims.start
    rw [dif_pos (by decide)]
    exact h _
  have s1 : scatter_S8x1024_S1_S4x1024_01_n_0_0.start u idx 1 = 0 := by
    unfold ScatterDims.start
    rw [dif_neg (by decide)]
  have w0 : scatter_S8x1024_S1_S4x1024_01_n_0_0.window u 0 = (u 0).val := rfl
  have w1 : scatter_S8x1024_S1_S4x1024_01_n_0_0.window u 1 = (u 1).val := rfl
  rw [Routing.resultIdx?_eq_some]
  constructor
  · intro q
    have q0 := q 0
    have q1 := q 1
    rw [s0, w0] at q0
    rw [s1, w1] at q1
    omega
  · intro q a
    match a with
    | ⟨0, _⟩ => exact (congrArg₂ (· + ·) s0 (congrArg Int.ofNat w0)).trans (by have := q.1; show (0 : Int) + ((u 0).val : Int) = ((i 0).val : Int); omega)
    | ⟨1, _⟩ => exact (congrArg₂ (· + ·) s1 (congrArg Int.ofNat w1)).trans (by have := q.2; show (0 : Int) + ((u 1).val : Int) = ((i 1).val : Int); omega)

/-- Where an entry of the row set at row 4 lands. -/
theorem lands_row (idx : IVec S1 32) (h : ∀ j, (idx j).toInt = 4) (u : S1024.Idx) (i : S8x1024.Idx) :
    scatter_S8x1024_S1_S1024_0_0_0_0.resultIdx? u idx = some i ↔ 4 = (i 0).val ∧ (u 0).val = (i 1).val := by
  have s0 : scatter_S8x1024_S1_S1024_0_0_0_0.start u idx 0 = 4 := by
    unfold ScatterDims.start
    rw [dif_pos (by decide)]
    exact h _
  have s1 : scatter_S8x1024_S1_S1024_0_0_0_0.start u idx 1 = 0 := by
    unfold ScatterDims.start
    rw [dif_neg (by decide)]
  have w0 : scatter_S8x1024_S1_S1024_0_0_0_0.window u 0 = 0 := rfl
  have w1 : scatter_S8x1024_S1_S1024_0_0_0_0.window u 1 = (u 0).val := rfl
  rw [Routing.resultIdx?_eq_some]
  constructor
  · intro q
    have q0 := q 0
    have q1 := q 1
    rw [s0, w0] at q0
    rw [s1, w1] at q1
    omega
  · intro q a
    match a with
    | ⟨0, _⟩ => exact (congrArg₂ (· + ·) s0 (congrArg Int.ofNat w0)).trans (by have := q.1; show (4 : Int) + 0 = ((i 0).val : Int); omega)
    | ⟨1, _⟩ => exact (congrArg₂ (· + ·) s1 (congrArg Int.ofNat w1)).trans (by have := q.2; show (0 : Int) + ((u 0).val : Int) = ((i 1).val : Int); omega)

/-- A row of the block, after both are set. -/
theorem rows_times (z : S8x1024.Idx → EReal) (i0 i4 : IVec S1 32) (h0 : ∀ j, (i0 j).toInt = 0) (h4 : ∀ j, (i4 j).toInt = 4)
    (x : S4x1024.Idx → EReal) (y : S1024.Idx → EReal) (b : Fin 4) (k : Fin 1024) :
    Host.scatter scatter_S8x1024_S1_S1024_0_0_0_0 (fun _ v => v) (Host.scatter scatter_S8x1024_S1_S4x1024_01_n_0_0 (fun _ v => v) z i0 x) i4 y
      (ix2 (⟨b.val, by omega⟩ : Fin 8) k) = x (ix2 b k) := by
  rw [Routing.scatter_set_miss _ _ _ _ _ fun u q => by
    have e : 4 = b.val := ((lands_row i4 h4 u _).1 q).1
    omega]
  refine Routing.scatter_set_hit _ _ _ _ _ _ (fun u q => ?_) (ix2 b k) ((lands_rows i0 h0 _ _).2 ⟨rfl, rfl⟩)
  have e0 : (u 0).val = b.val := ((lands_rows i0 h0 u _).1 q).1
  have e1 : (u 1).val = k.val := ((lands_rows i0 h0 u _).1 q).2
  refine congrArg x (funext fun a => Fin.ext ?_)
  match a with
  | ⟨0, _⟩ => exact e0
  | ⟨1, _⟩ => exact e1

/-- The row after them. -/
theorem rows_ctx (z : S8x1024.Idx → EReal) (i4 : IVec S1 32) (h4 : ∀ j, (i4 j).toInt = 4) (y : S1024.Idx → EReal) (k : Fin 1024) :
    Host.scatter scatter_S8x1024_S1_S1024_0_0_0_0 (fun _ v => v) z i4 y (ix2 (4 : Fin 8) k) = y (ix1 k) := by
  refine Routing.scatter_set_hit _ _ _ _ _ _ (fun u q => ?_) (ix1 k) ((lands_row i4 h4 _ _).2 ⟨rfl, rfl⟩)
  have e1 : (u 0).val = k.val := ((lands_row i4 h4 u _).1 q).2
  refine congrArg y (funext fun a => Fin.ext ?_)
  match a with
  | ⟨0, _⟩ => exact e1

end Cert.Kernel6Ideal.Hand
end
-- ==== Proof.AdaBlock.lean ====
/- The modulation's projection: its windows as rows and columns of the arguments, its array, and the parts the host slices from it. -/
module

public import proofs.«01_k».proof.Proof.Gen.Kernel6Ideal.Frame
public import proofs.«01_k».proof.Proof.AdaHost
public import proofs.«01_k».proof.Proof.Blocks
public import Idealize.ShloMosaic.Lib.Pointwise
public import Idealize.ShloMosaic.Lib.StableHlo.ReadAt
public import Idealize.ShloMosaic.Lib.Pipeline.ValueKit

@[expose] public section

set_option maxRecDepth 16384

noncomputable section

namespace Cert.Kernel6Ideal.Hand

open Idealize.ShloMosaic Idealize.ShloMosaic.TcCoe Idealize.ShloMosaic.Tactic Idealize.SL.Sem
open Cert.Kernel6Ideal Cert.Kernel6Ideal.Gen Cert.InProj Cert.Trunk
open Cert.KernelIdeal.Hand (emb_ix2 emb_ix3)

theorem ld_c (x : Vec Ideal S8x1024 .f32) : View.ld x r0_0 = x := by
  funext (j : S8x1024.Idx)
  idx_vars j
  refine (congrArg x (emb_ix2 _ _ _ (by omega) (by omega))).trans ?_
  simp only [zero_add]
theorem ld_w (x : Vec Ideal S1x1024x512 .f32) : View.ld x r0_1 = x := by
  funext (j : S1x1024x512.Idx)
  idx_vars j
  refine (congrArg x (emb_ix3 _ _ _ _ (by omega) (by omega) (by omega))).trans ?_
  simp only [zero_add]
theorem ld_b (x : Vec Ideal S1x1x512 .f32) : View.ld x r0_2 = x := by
  funext (j : S1x1x512.Idx)
  idx_vars j
  refine (congrArg x (emb_ix3 _ _ _ _ (by omega) (by omega) (by omega))).trans ?_
  simp only [zero_add]

theorem pay1_eq (x : Vec Ideal S8x1024 .f32) (w : Vec Ideal S1x1024x512 .f32) (b : Vec Ideal S1x1x512 .f32) (r : Fin 8) (n : Fin 512) :
    k0_pay1 x w b (ix3 0 r n) = adaEntry (fun k => x (ix2 r k)) (fun k => w (ix3 0 k n)) (b (ix3 0 0 n)) := by
  unfold k0_pay1
  pointwise []
  rfl

/-- The block of results, as a function of the blocks staged. -/
def adaBlk (x : Vec Ideal S8x1024 .f32) (w : Vec Ideal S1x1024x512 .f32) (b : Vec Ideal S1x1x512 .f32) : Vec Ideal S1x8x512 .f32 :=
  fun j => adaEntry (fun k => x (ix2 (j 1) k)) (fun k => w (ix3 0 k (j 2))) (b (ix3 0 0 (j 2)))

theorem out_eq (x : Vec Ideal S8x1024 .f32) (w : Vec Ideal S1x1024x512 .f32) (b : Vec Ideal S1x1x512 .f32) : out0_3 x w b = adaBlk x w b := by
  funext y
  unfold out0_3
  refine View.canon_apply_of_pieces (adaBlk x w b) _ ?_ y (cover0_3 _ y)
  intro p hp j
  simp only [List.mem_cons, List.not_mem_nil, or_false] at hp
  subst hp
  revert j
  intro (j : S1x8x512.Idx)
  idx_vars j
  rw [emb_ix3 _ _ _ _ (by omega) (by omega) (by omega)]
  obtain rfl : j0 = 0 := Subsingleton.elim _ _
  rw [pay1_eq, ld_c, ld_w, ld_b]
  simp only [zero_add]
  rfl

variable (m : (ℓ : Loc nD τ sig) → Buf (Elt Ideal) ℓ) (ρ : Dev nD → PrngReg) (c : Dev nD)

/-- The times' rows. -/
def C (b : Fin 4) (k : Fin 1024) : EReal := m (c.tc.loc main_arg0) (ix2 b k)
/-- The context's row. -/
def CC (k : Fin 1024) : EReal := m (c.tc.loc main_arg1) (ix1 k)
/-- The weights. -/
def W (l : Fin 2) (p : Fin 1024) (n : Fin 6144) : EReal := m (c.tc.loc main_arg2) (ix3 l p n)
/-- The biases. -/
def B (l : Fin 2) (n : Fin 6144) : EReal := m (c.tc.loc main_arg3) (ix2 l n)
/-- The eight rows the host gathers. -/
def R8 (r : Fin 8) (k : Fin 1024) : EReal := V m c main_v4 (ix2 r k)

theorem R8_times (b : Fin 4) : R8 m c ⟨b.val, by omega⟩ = C m c b := by
  funext k
  unfold R8
  simp only [V, V0, hostOps0, List.flatten_cons, List.flatten_nil, List.append_nil, StableHlo.TRef.unary, StableHlo.TRef.toBuf, StableHlo.TRef.ofBuf, cast_eq]
  after_results_simp
  exact rows_times _ _ _ (fun _ => rfl) (fun _ => rfl) _ _ b k
theorem R8_ctx : R8 m c 4 = CC m c := by
  funext k
  unfold R8
  simp only [V, V0, hostOps0, List.flatten_cons, List.flatten_nil, List.append_nil, StableHlo.TRef.unary, StableHlo.TRef.toBuf, StableHlo.TRef.ofBuf, cast_eq]
  after_results_simp
  exact rows_ctx _ _ (fun _ => rfl) _ k

theorem cast_bias (x : S2x6144.Idx → EReal) (l : Fin 2) (n : Fin 6144) :
    shapeCast S2x1x6144 x shapeCasts_S2x6144_S2x1x6144 (ix3 l 0 n) = x (ix2 l n) := by
  refine shapeCast_apply _ _ _ _ ?_
  rw [Shape.rowMajor_val_three, Shape.rowMajor_val_two]
  show l.val * 6144 + n.val = (l.val * 1 + 0) * 6144 + n.val
  omega

theorem V_b (l : Fin 2) (n : Fin 6144) : V m c main_v5 (ix3 l 0 n) = B m c l n := by
  simp only [V, V0, hostOps0, List.flatten_cons, List.flatten_nil, List.append_nil, StableHlo.TRef.unary, StableHlo.TRef.toBuf, StableHlo.TRef.ofBuf, cast_eq]
  after_results_simp
  exact cast_bias _ l n

/-- The layer at a point of the grid. -/
def lay (t : Fin cfg0.N) : Fin 2 := ⟨t.val / 12, by have : t.val < 24 := t.isLt; omega⟩
/-- Column `n` of the block at a point of the grid. -/
def col (t : Fin cfg0.N) (n : Fin 512) : Fin 6144 := ⟨t.val % 12 * 512 + n.val, by omega⟩

theorem index_0 : ∀ t : Fin cfg0.N, win0_0.index t = ![0, 0] := (by decide +kernel : ∀ t : Fin grid0.N, _)
theorem index_1 : ∀ t : Fin cfg0.N, win0_1.index t = ![t.val / 12, 0, t.val % 12] := (by decide +kernel : ∀ t : Fin grid0.N, _)
theorem index_2 : ∀ t : Fin cfg0.N, win0_2.index t = ![t.val / 12, 0, t.val % 12] := (by decide +kernel : ∀ t : Fin grid0.N, _)
theorem index_3 : ∀ t : Fin cfg0.N, win0_3.index t = ![t.val / 12, 0, t.val % 12] := (by decide +kernel : ∀ t : Fin grid0.N, _)

theorem staged_c (t : Fin cfg0.N) (r : Fin 8) (k : Fin 1024) : (iblk m c 0 t : Vec Ideal S8x1024 .f32) (ix2 r k) = R8 m c r k := by
  unfold R8
  show V m c main_v4 ((win0_0.blk t).view.emb (ix2 r k)) = _
  refine congrArg _ ?_
  blk_ext [index_0]
theorem staged_w (t : Fin cfg0.N) (p : Fin 1024) (n : Fin 512) : (iblk m c 1 t : Vec Ideal S1x1024x512 .f32) (ix3 0 p n) = W m c (lay t) p (col t n) := by
  show V m c main_arg2 ((win0_1.blk t).view.emb (ix3 0 p n)) = _
  rw [V_main_arg2]
  unfold W
  refine congrArg _ ?_
  blk_ext [index_1, lay, col]
theorem staged_b (t : Fin cfg0.N) (n : Fin 512) : (iblk m c 2 t : Vec Ideal S1x1x512 .f32) (ix3 0 0 n) = B m c (lay t) (col t n) := by
  rw [← V_b]
  show V m c main_v5 ((win0_2.blk t).view.emb (ix3 0 0 n)) = _
  refine congrArg _ ?_
  blk_ext [index_2, lay, col]

/-- The array of eight rows. -/
def flat : S2x8x6144.Idx → EReal := fun j => adaEntry (R8 m c (j 1)) (fun p => W m c (j 0) p (j 2)) (B m c (j 0) (j 2))

theorem final : (dats m 0 c).arrAt 3 cfg0.N = flat m c := by
  refine (dats m 0 c).arrAt_eq_of_covers 3 _ (by decide +kernel) fun t hf y => ?_
  blk_simp
  rw [after0_3, out_eq]
  revert y
  intro (y : S1x8x512.Idx)
  idx_vars y
  have e : ((win0_3.blk t).view.emb (ix3 y0 y1 y2 : S1x8x512.Idx)) = ix3 (lay t) (⟨y1.val, by omega⟩ : Fin 8) (col t y2) := by
    blk_ext [index_3, lay, col]
  rw [e]
  show adaEntry (fun k => (iblk m c 0 t : Vec Ideal S8x1024 .f32) (ix2 y1 k)) (fun k => (iblk m c 1 t : Vec Ideal S1x1024x512 .f32) (ix3 0 k y2))
    ((iblk m c 2 t : Vec Ideal S1x1x512 .f32) (ix3 0 0 y2)) = _
  simp only [staged_c, staged_w, staged_b]
  rfl

/-- The six parts of a layer's row. -/
def parts (l : Fin 2) (x : Fin 1024 → EReal) (i : Fin 6) (k : Fin 1024) : EReal := adaEntry x (fun p => W m c l p (part i k)) (B m c l (part i k))
/-- They of the times' rows. -/
def resT (l : Fin 2) : S4x1x6x1024.Idx → EReal := fun j => parts m c l (C m c (j 0)) (j 2) (j 3)
/-- They of the context's row. -/
def resC (l : Fin 2) : S1x1x6x1024.Idx → EReal := fun j => parts m c l (CC m c) (j 2) (j 3)

theorem cast_times (x : S1x4x6144.Idx → EReal) (b : Fin 4) (i : Fin 6) (k : Fin 1024) :
    shapeCast S4x1x6x1024 (shapeCast S4x6144 x shapeCasts_S1x4x6144_S4x6144) shapeCasts_S4x6144_S4x1x6x1024 (ix4 b 0 i k) = x (ix3 0 b (part i k)) := by
  refine (shapeCast_apply _ _ _ (ix2 b (part i k)) ?_).trans (shapeCast_apply _ _ _ _ ?_)
  · rw [Shape.rowMajor_val_four, Shape.rowMajor_val_two]
    show b.val * 6144 + (i.val * 1024 + k.val) = ((b.val * 1 + 0) * 6 + i.val) * 1024 + k.val
    omega
  · rw [Shape.rowMajor_val_two, Shape.rowMajor_val_three]
    show (0 * 4 + b.val) * 6144 + (i.val * 1024 + k.val) = b.val * 6144 + (i.val * 1024 + k.val)
    omega
theorem cast_ctx (x : S1x1x6144.Idx → EReal) (i : Fin 6) (k : Fin 1024) :
    shapeCast S1x1x6x1024 (shapeCast S6144 x shapeCasts_S1x1x6144_S6144) shapeCasts_S6144_S1x1x6x1024 (ix4 0 0 i k) = x (ix3 0 0 (part i k)) := by
  refine (shapeCast_apply _ _ _ (ix1 (part i k)) ?_).trans (shapeCast_apply _ _ _ _ ?_)
  · rw [Shape.rowMajor_val_four, Shape.rowMajor_val_one]
    show i.val * 1024 + k.val = ((0 * 1 + 0) * 6 + i.val) * 1024 + k.val
    omega
  · rw [Shape.rowMajor_val_one, Shape.rowMajor_val_three]
    show (0 * 1 + 0) * 6144 + (i.val * 1024 + k.val) = i.val * 1024 + k.val
    omega

/-- The rows of the times sliced from layer `l` of the array. -/
theorem slice_times (l : Fin 2) (h) : shapeCast S4x1x6x1024 (shapeCast S4x6144 (extractStridedSlice S1x4x6144 ![l.val, 0, 0] (flat m c) h) shapeCasts_S1x4x6144_S4x6144)
    shapeCasts_S4x6144_S4x1x6x1024 = resT m c l := by
  funext (j : S4x1x6x1024.Idx)
  idx_vars j
  obtain rfl : j1 = 0 := Subsingleton.elim _ _
  refine (cast_times _ _ _ _).trans ?_
  have e : extractStridedSlice S1x4x6144 ![l.val, 0, 0] (flat m c) h (ix3 0 j0 (part j2 j3)) = flat m c (ix3 l (⟨j0.val, by omega⟩ : Fin 8) (part j2 j3)) := by
    refine congrArg (flat m c) (funext fun a => Fin.ext ?_)
    match a with
    | ⟨0, _⟩ => show l.val + 0 = l.val; omega
    | ⟨1, _⟩ => show 0 + j0.val = j0.val; omega
    | ⟨2, _⟩ => show 0 + (part j2 j3).val = (part j2 j3).val; omega
  rw [e]
  show adaEntry (R8 m c ⟨j0.val, _⟩) _ _ = _
  rw [R8_times]
  rfl
/-- The context's row sliced from layer `l` of the array. -/
theorem slice_ctx (l : Fin 2) (h) : shapeCast S1x1x6x1024 (shapeCast S6144 (extractStridedSlice S1x1x6144 ![l.val, 4, 0] (flat m c) h) shapeCasts_S1x1x6144_S6144)
    shapeCasts_S6144_S1x1x6x1024 = resC m c l := by
  funext (j : S1x1x6x1024.Idx)
  idx_vars j
  obtain rfl : j0 = 0 := Subsingleton.elim _ _
  obtain rfl : j1 = 0 := Subsingleton.elim _ _
  refine (cast_ctx _ _ _).trans ?_
  have e : extractStridedSlice S1x1x6144 ![l.val, 4, 0] (flat m c) h (ix3 0 0 (part j2 j3)) = flat m c (ix3 l (4 : Fin 8) (part j2 j3)) := by
    refine congrArg (flat m c) (funext fun a => Fin.ext ?_)
    match a with
    | ⟨0, _⟩ => show l.val + 0 = l.val; omega
    | ⟨1, _⟩ => rfl
    | ⟨2, _⟩ => show 0 + (part j2 j3).val = (part j2 j3).val; omega
  rw [e]
  show adaEntry (R8 m c 4) _ _ = _
  rw [R8_ctx]
  rfl

theorem arr : Pipeline.withArrays (cfgs 0).spec c (V0 m c) (fun w => (dats m 0 c).arrAt w (cfgs 0).N) (Proc.tc.devRef main_v6) = flat m c :=
  (Pipeline.withArrays_arr spec0 (by decide) c (V0 m c) (fun w => (dats m 0 c).arrAt w (cfgs 0).N) 3).trans (final m c)

theorem tail_v9 : Pipeline.afterTail₀ cfgs (dats m) 0 (V0 m) [hostOps1] c main_v9 = resT m c 0 := by
  unfold Pipeline.afterTail₀
  simp only [hostOps1, List.flatten_cons, List.flatten_nil, List.append_nil]
  after_results_simp
  rw [arr]
  exact slice_times m c 0 _
theorem tail_v12 : Pipeline.afterTail₀ cfgs (dats m) 0 (V0 m) [hostOps1] c main_v12 = resC m c 0 := by
  unfold Pipeline.afterTail₀
  simp only [hostOps1, List.flatten_cons, List.flatten_nil, List.append_nil]
  after_results_simp
  rw [arr]
  exact slice_ctx m c 0 _
theorem tail_v15 : Pipeline.afterTail₀ cfgs (dats m) 0 (V0 m) [hostOps1] c main_v15 = resT m c 1 := by
  unfold Pipeline.afterTail₀
  simp only [hostOps1, List.flatten_cons, List.flatten_nil, List.append_nil]
  after_results_simp
  rw [arr]
  exact slice_times m c 1 _
theorem tail_v18 : Pipeline.afterTail₀ cfgs (dats m) 0 (V0 m) [hostOps1] c main_v18 = resC m c 1 := by
  unfold Pipeline.afterTail₀
  simp only [hostOps1, List.flatten_cons, List.flatten_nil, List.append_nil]
  after_results_simp
  rw [arr]
  exact slice_ctx m c 1 _

/-- The call runs and leaves that function as its results, its arguments unchanged. -/
theorem run_value : θ_run (defs (F := Ideal)) (onTc (τ := τ) (main (F := Ideal))) ⟨m, fun _ => 0, ρ⟩ fun r => ∀ c : Dev nD,
      r.2.mem (c.tc.loc main_v9) = resT m c 0
      ∧ r.2.mem (c.tc.loc main_v12) = resC m c 0
      ∧ r.2.mem (c.tc.loc main_v15) = resT m c 1
      ∧ r.2.mem (c.tc.loc main_v18) = resC m c 1
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun _ h c =>
      ⟨(h.1 c |>.2 main_v9 (Pipeline.mem_restRefs_of main_v9 (by decide) (by decide))).trans (tail_v9 m c),
        (h.1 c |>.2 main_v12 (Pipeline.mem_restRefs_of main_v12 (by decide) (by decide))).trans (tail_v12 m c),
        (h.1 c |>.2 main_v15 (Pipeline.mem_restRefs_of main_v15 (by decide) (by decide))).trans (tail_v15 m c),
        (h.1 c |>.2 main_v18 (Pipeline.mem_restRefs_of main_v18 (by decide) (by decide))).trans (tail_v18 m c), h.2 c⟩)
    (θ_run_and (run_main m ρ) (unchanged m ρ))

end Cert.Kernel6Ideal.Hand
end
-- ==== Proof.AdaReference.lean ====
/- The modulation reference's results, entry by entry: a row through `x · σ(x)`, times a column of weights, plus its bias. -/
module

public import proofs.«01_k».proof.Proof.Gen.Reference6Ideal.Run
public import proofs.«01_k».proof.Proof.Gen.Reference6Ideal
public import proofs.«01_k».proof.Proof.AdaHost
public import Idealize.ShloMosaic.Lib.Pointwise
public import Idealize.ShloMosaic.Lib.Quiescent

@[expose] public section
set_option maxRecDepth 16384
noncomputable section
namespace Cert.Reference6Ideal.Hand
open Idealize.ShloMosaic Idealize.ShloMosaic.TcCoe Idealize.ShloMosaic.Tactic
open Cert.Reference6Ideal Cert.Reference6Ideal.Gen Cert.Reference6Ideal.Value Cert.InProj Cert.Trunk

variable (m : (ℓ : Loc nD τ sig) → Buf (Elt Ideal) ℓ) (c : Dev nD)

/-- The times' rows. -/
def C (b : Fin 4) (k : Fin 1024) : EReal := m (c.tc.loc main_arg0) (ix2 b k)
/-- The context's row. -/
def CC (k : Fin 1024) : EReal := m (c.tc.loc main_arg1) (ix1 k)
/-- The weights. -/
def W (l : Fin 2) (p : Fin 1024) (n : Fin 6144) : EReal := m (c.tc.loc main_arg2) (ix3 l p n)
/-- The biases. -/
def B (l : Fin 2) (n : Fin 6144) : EReal := m (c.tc.loc main_arg3) (ix2 l n)

theorem cast_times (x : S4x1x6144.Idx → EReal) (b : Fin 4) (i : Fin 6) (k : Fin 1024) :
    shapeCast S4x1x6x1024 x shapeCasts_S4x1x6144_S4x1x6x1024 (ix4 b 0 i k) = x (ix3 b 0 (part i k)) := by
  refine shapeCast_apply _ _ _ _ ?_
  rw [Shape.rowMajor_val_four, Shape.rowMajor_val_three]
  show (b.val * 1 + 0) * 6144 + (i.val * 1024 + k.val) = ((b.val * 1 + 0) * 6 + i.val) * 1024 + k.val
  omega
theorem cast_ctx (x : S1x1x6144.Idx → EReal) (i : Fin 6) (k : Fin 1024) :
    shapeCast S1x1x6x1024 x shapeCasts_S1x1x6144_S1x1x6x1024 (ix4 0 0 i k) = x (ix3 0 0 (part i k)) := by
  refine shapeCast_apply _ _ _ _ ?_
  rw [Shape.rowMajor_val_four, Shape.rowMajor_val_three]
  show (0 * 1 + 0) * 6144 + (i.val * 1024 + k.val) = ((0 * 1 + 0) * 6 + i.val) * 1024 + k.val
  omega

/-- The reference runs and leaves that function as its results, its arguments unchanged. -/
theorem run_value (ρ : Dev nD → PrngReg) :
    θ_run (defs (F := Ideal)) (onTc (τ := τ) (main (F := Ideal))) ⟨m, fun _ => 0, ρ⟩ fun r => ∀ c : Dev nD,
      (∀ b i k, r.2.mem (c.tc.loc main_v18) (ix4 b 0 i k) = adaEntry (C m c b) (fun p => W m c 0 p (part i k)) (B m c 0 (part i k)))
      ∧ (∀ i k, r.2.mem (c.tc.loc main_v19) (ix4 0 0 i k) = adaEntry (CC m c) (fun p => W m c 0 p (part i k)) (B m c 0 (part i k)))
      ∧ (∀ b i k, r.2.mem (c.tc.loc main_v38) (ix4 b 0 i k) = adaEntry (C m c b) (fun p => W m c 1 p (part i k)) (B m c 1 (part i k)))
      ∧ (∀ i k, r.2.mem (c.tc.loc main_v39) (ix4 0 0 i k) = adaEntry (CC m c) (fun p => W m c 1 p (part i k)) (B m c 1 (part i k)))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  refine (θ_run defs _ _).mono (fun r h c => ⟨fun b i k => ?_, fun i k => ?_, fun b i k => ?_, fun i k => ?_, (h c).2.2.2.2⟩) (run m ρ)
  · rw [(h c).1]
    refine (cast_times _ b i k).trans ?_
    pointwise []
    rfl
  · rw [(h c).2.1]
    refine (cast_ctx _ i k).trans ?_
    pointwise []
    rfl
  · rw [(h c).2.2.1]
    refine (cast_times _ b i k).trans ?_
    pointwise []
    rfl
  · rw [(h c).2.2.2.1]
    refine (cast_ctx _ i k).trans ?_
    pointwise []
    rfl

/-- Its arguments end unchanged; it has no semaphore. -/
theorem quiescent (ρ : Dev nD → PrngReg) : θ_run (defs (F := Ideal)) (onTc (τ := τ) (main (F := Ideal))) ⟨m, fun _ => 0, ρ⟩ fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) ∧ r.2.sem = fun _ => 0 :=
  (θ_run defs _ _).mono (fun r h => ⟨fun c => (h c).2.2.2.2, sem_eq_zero_of_no_sems rfl r.2⟩) (run_value m ρ)

end Cert.Reference6Ideal.Hand
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Run
public import proofs.«01_k».proof.Proof.Value
public import proofs.«01_k».proof.Proof.Reference
public import proofs.«01_k».proof.Proof.Gen.Kernel2
public import proofs.«01_k».proof.Proof.Gen.Kernel2.Launch
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Launch
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.MlpBlock
public import proofs.«01_k».proof.Proof.MlpReference
public import proofs.«01_k».proof.Proof.MergeValue
public import proofs.«01_k».proof.Proof.MergeReference
public import proofs.«01_k».proof.Proof.Gen.Kernel4
public import proofs.«01_k».proof.Proof.Gen.Kernel4.Launch
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.WindowValue
public import proofs.«01_k».proof.Proof.WindowReference
public import proofs.«01_k».proof.Proof.Gen.Kernel5
public import proofs.«01_k».proof.Proof.Gen.Kernel5.Launch
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Launch
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.CtxBlock
public import proofs.«01_k».proof.Proof.CtxReference
public import proofs.«01_k».proof.Proof.AdaBlock
public import proofs.«01_k».proof.Proof.AdaReference
public import Idealize.ShloMosaic.Adequacy
public import Idealize.ShloMosaic.Init

@[expose] public section

noncomputable section

namespace Cert.Proof

open Idealize.ShloMosaic Idealize.ShloMosaic.Tactic Idealize.SL.Sem

/-- The kernel's two forms are one program: its frame is the other form's, over words. -/
theorem same_program : Cert.quiescent_Kernel = ∀ (m : (ℓ : Loc Cert.KernelIdeal.nD Cert.KernelIdeal.τ Cert.KernelIdeal.sig) → Buf (Elt Bits) ℓ) (ρ : Dev Cert.KernelIdeal.nD → PrngReg),
    Cert.Pre_Kernel m → θ_run (Cert.KernelIdeal.defs (F := Bits)) (onTc (τ := Cert.KernelIdeal.τ) (Cert.KernelIdeal.main (F := Bits))) ⟨m, fun _ => 0, ρ⟩ fun r => (∀ c : Dev Cert.KernelIdeal.nD,
      r.2.mem (c.tc.loc Cert.KernelIdeal.main_arg0) = m (c.tc.loc Cert.KernelIdeal.main_arg0)
      ∧ r.2.mem (c.tc.loc Cert.KernelIdeal.main_arg1) = m (c.tc.loc Cert.KernelIdeal.main_arg1)
      ∧ r.2.mem (c.tc.loc Cert.KernelIdeal.main_arg2) = m (c.tc.loc Cert.KernelIdeal.main_arg2)
      ∧ r.2.mem (c.tc.loc Cert.KernelIdeal.main_arg3) = m (c.tc.loc Cert.KernelIdeal.main_arg3)) ∧ r.2.sem = fun _ => 0 := by
  sl_kernel_rfl

theorem frame_kernel : Cert.quiescent_Kernel := same_program.mpr fun m ρ _ => Cert.KernelIdeal.Hand.quiescent (F := Bits) m ρ

/-- The five arrays of the projection are the reference's. -/
theorem algebraic1 : Cert.algebraic_KernelIdeal_ReferenceIdeal := by
  intro m ρ m' ρ' _ hargs
  refine ⟨_, _, _, _, _, Cert.KernelIdeal.Hand.run_value m ρ, (θ_run _ _ _).mono (fun r h c => ?_) (Cert.ReferenceIdeal.Hand.run_value m' ρ')⟩
  obtain ⟨a0, a1, a2, a3⟩ := hargs c
  have hX : Cert.ReferenceIdeal.Hand.X m' c = Cert.KernelIdeal.Hand.X m c := by funext b q k; exact congrFun a0 _
  have hSH : Cert.ReferenceIdeal.Hand.SH m' c = Cert.KernelIdeal.Hand.SH m c := by funext b k; exact congrFun a1 _
  have hSC : Cert.ReferenceIdeal.Hand.SC m' c = Cert.KernelIdeal.Hand.SC m c := by funext b k; exact congrFun a2 _
  have hW : Cert.ReferenceIdeal.Hand.W m' c = Cert.KernelIdeal.Hand.W m c := by funext q n; exact congrFun a3 _
  obtain ⟨h0, h1, h2, h3, h4, hr⟩ := h c
  rw [hX, hSH, hSC, hW] at h0 h1 h2 h3 h4
  refine ⟨?_, ?_, ?_, ?_, ?_, hr⟩
  · funext (j : Cert.KernelIdeal.S4x4096x2304.Idx); idx_vars j; exact h0 _ _ _
  · funext (j : Cert.KernelIdeal.S4x512x2048.Idx); idx_vars j; exact h1 _ _ _
  · funext (j : Cert.KernelIdeal.S4x4096x4096.Idx); idx_vars j; exact h2 _ _ _
  · funext (j : Cert.KernelIdeal.S4x4096x256.Idx); idx_vars j; exact h3 _ _ _
  · funext (j : Cert.KernelIdeal.S4x4096x256.Idx); idx_vars j; exact h4 _ _ _

/-- The MLP's array is its reference's. -/
theorem algebraic2 : Cert.algebraic_Kernel2Ideal_Reference2Ideal := by
  intro m ρ m' ρ' _ hargs
  refine ⟨_, Cert.Kernel2Ideal.Hand.run_value m ρ, (θ_run _ _ _).mono (fun r h c => ?_) (Cert.Reference2Ideal.Hand.run_value m' ρ')⟩
  obtain ⟨a0, a1, a2, a3, a4, a5, a6, a7⟩ := hargs c
  have hX : Cert.Reference2Ideal.Hand.X m' c = Cert.Kernel2Ideal.Hand.X m c := by funext b q k; exact congrFun a0 _
  have hSH : Cert.Reference2Ideal.Hand.SH m' c = Cert.Kernel2Ideal.Hand.SH m c := by funext b k; exact congrFun a1 _
  have hSC : Cert.Reference2Ideal.Hand.SC m' c = Cert.Kernel2Ideal.Hand.SC m c := by funext b k; exact congrFun a2 _
  have hGM : Cert.Reference2Ideal.Hand.GM m' c = Cert.Kernel2Ideal.Hand.GM m c := by funext b k; exact congrFun a3 _
  have hW1 : Cert.Reference2Ideal.Hand.W1 m' c = Cert.Kernel2Ideal.Hand.W1 m c := by funext q n; exact congrFun a4 _
  have hW2 : Cert.Reference2Ideal.Hand.W2 m' c = Cert.Kernel2Ideal.Hand.W2 m c := by funext q n; exact congrFun a5 _
  have hLG : Cert.Reference2Ideal.Hand.LG m' c = Cert.Kernel2Ideal.Hand.LG m c := by funext k; exact congrFun a6 _
  have hLB : Cert.Reference2Ideal.Hand.LB m' c = Cert.Kernel2Ideal.Hand.LB m c := by funext k; exact congrFun a7 _
  obtain ⟨h0, hr⟩ := h c
  rw [hX, hSH, hSC, hGM, hW1, hW2, hLG, hLB] at h0
  refine ⟨?_, hr⟩
  funext (j : Cert.Kernel2Ideal.S4x4096x1024.Idx); idx_vars j; exact h0 _ _ _

/-- The merge's array is its reference's. -/
theorem algebraic3 : Cert.algebraic_Kernel3Ideal_Reference3Ideal := by
  intro m ρ m' ρ' _ hargs
  refine ⟨_, Cert.Kernel3Ideal.Hand.run_value m ρ, (θ_run _ _ _).mono (fun r h c => ?_) (Cert.Reference3Ideal.Hand.run_value m' ρ')⟩
  obtain ⟨a0, a1, a2, a3, a4, a5, a6, a7, a8, a9, a10, a11⟩ := hargs c
  have hX : Cert.Reference3Ideal.Hand.X m' c = Cert.Kernel3Ideal.Hand.X m c := by funext b q k; exact congrFun a0 _
  have hS5 : Cert.Reference3Ideal.Hand.S5 m' c = Cert.Kernel3Ideal.Hand.S5 m c := by funext b q k; exact congrFun a1 _
  have hHY : Cert.Reference3Ideal.Hand.HY m' c = Cert.Kernel3Ideal.Hand.HY m c := by funext b q k; exact congrFun a2 _
  have hNA : Cert.Reference3Ideal.Hand.NA m' c = Cert.Kernel3Ideal.Hand.NA m c := by funext b q k; exact congrFun a3 _
  have hSW : Cert.Reference3Ideal.Hand.SW m' c = Cert.Kernel3Ideal.Hand.SW m c := by funext b q k; exact congrFun a4 _
  have hGT : Cert.Reference3Ideal.Hand.GT m' c = Cert.Kernel3Ideal.Hand.GT m c := by funext b q n k; exact congrFun a5 _
  have hGM : Cert.Reference3Ideal.Hand.GM m' c = Cert.Kernel3Ideal.Hand.GM m c := by funext b k; exact congrFun a6 _
  have hWG : Cert.Reference3Ideal.Hand.WG m' c = Cert.Kernel3Ideal.Hand.WG m c := by funext p k; exact congrFun a7 _
  have hWB : Cert.Reference3Ideal.Hand.WB m' c = Cert.Kernel3Ideal.Hand.WB m c := by funext n p k; exact congrFun a8 _
  have hWO : Cert.Reference3Ideal.Hand.WO m' c = Cert.Kernel3Ideal.Hand.WO m c := by funext p k; exact congrFun a9 _
  have hLG : Cert.Reference3Ideal.Hand.LG m' c = Cert.Kernel3Ideal.Hand.LG m c := by funext k; exact congrFun a10 _
  have hLB : Cert.Reference3Ideal.Hand.LB m' c = Cert.Kernel3Ideal.Hand.LB m c := by funext k; exact congrFun a11 _
  obtain ⟨h0, hr⟩ := h c
  rw [hX, hS5, hHY, hNA, hSW, hGT, hGM, hWG, hWB, hWO, hLG, hLB] at h0
  refine ⟨?_, hr⟩
  funext (j : Cert.Kernel3Ideal.S4x4096x1024.Idx); idx_vars j; exact h0 _ _ _

/-- The attention's array is its reference's. -/
theorem algebraic4 : Cert.algebraic_Kernel4Ideal_Reference4Ideal := by
  intro m ρ m' ρ' _ hargs
  refine ⟨_, Cert.Kernel4Ideal.Hand.run_value m ρ, (θ_run _ _ _).mono (fun r h c => ?_) (Cert.Reference4Ideal.Hand.run_value m' ρ')⟩
  obtain ⟨a0, a1, a2, a3⟩ := hargs c
  have hQ : Cert.Reference4Ideal.Hand.Q m' c = Cert.Kernel4Ideal.Hand.Q m c := by funext b q k; exact congrFun a0 _
  have hK : Cert.Reference4Ideal.Hand.K m' c = Cert.Kernel4Ideal.Hand.K m c := by funext b q k; exact congrFun a1 _
  have hKC : Cert.Reference4Ideal.Hand.KC m' c = Cert.Kernel4Ideal.Hand.KC m c := by funext b q k; exact congrFun a2 _
  have hVC : Cert.Reference4Ideal.Hand.VC m' c = Cert.Kernel4Ideal.Hand.VC m c := by funext b q k; exact congrFun a2 _
  have hS : Cert.Reference4Ideal.Hand.S m' c = Cert.Kernel4Ideal.Hand.S m c := by funext k; exact congrFun a3 _
  obtain ⟨h0, hr⟩ := h c
  rw [hQ, hK, hKC, hVC, hS] at h0
  refine ⟨?_, hr⟩
  funext (j : Cert.Kernel4Ideal.S4x4096x256.Idx); idx_vars j; exact h0 _ _ _

/-- The mask's literal stands for −∞. -/
theorem preserves4 : Cert.preserves_Kernel4_Kernel4Ideal :=
  IdealRules.named_const.statement Cert.Kernel4Ideal.κ "mask" .f32 0xF149F2CA#32 ⊥ rfl

/-- The context's MLP gives its reference's array. -/
theorem algebraic5 : Cert.algebraic_Kernel5Ideal_Reference5Ideal := by
  intro m ρ m' ρ' _ hargs
  refine ⟨_, Cert.Kernel5Ideal.Hand.run_value m ρ, (θ_run _ _ _).mono (fun r h c => ?_) (Cert.Reference5Ideal.Hand.run_value m' ρ')⟩
  obtain ⟨a0, a1, a2, a3, a4, a5, a6, a7⟩ := hargs c
  have hX : Cert.Reference5Ideal.Hand.X m' c = Cert.Kernel5Ideal.Hand.X m c := by funext b q k; exact congrFun a0 _
  have hSH : Cert.Reference5Ideal.Hand.SH m' c = Cert.Kernel5Ideal.Hand.SH m c := by funext k; exact congrFun a1 _
  have hSC : Cert.Reference5Ideal.Hand.SC m' c = Cert.Kernel5Ideal.Hand.SC m c := by funext k; exact congrFun a2 _
  have hGM : Cert.Reference5Ideal.Hand.GM m' c = Cert.Kernel5Ideal.Hand.GM m c := by funext k; exact congrFun a3 _
  have hW1 : Cert.Reference5Ideal.Hand.W1 m' c = Cert.Kernel5Ideal.Hand.W1 m c := by funext q n; exact congrFun a4 _
  have hW2 : Cert.Reference5Ideal.Hand.W2 m' c = Cert.Kernel5Ideal.Hand.W2 m c := by funext q n; exact congrFun a5 _
  have hLG : Cert.Reference5Ideal.Hand.LG m' c = Cert.Kernel5Ideal.Hand.LG m c := by funext k; exact congrFun a6 _
  have hLB : Cert.Reference5Ideal.Hand.LB m' c = Cert.Kernel5Ideal.Hand.LB m c := by funext k; exact congrFun a7 _
  obtain ⟨h0, hr⟩ := h c
  rw [hX, hSH, hSC, hGM, hW1, hW2, hLG, hLB] at h0
  refine ⟨?_, hr⟩
  funext (j : Cert.Kernel5Ideal.S4x256x1024.Idx); idx_vars j; exact h0 _ _ _

/-- The modulation's arrays are its reference's. -/
theorem algebraic6 : Cert.algebraic_Kernel6Ideal_Reference6Ideal := by
  intro m ρ m' ρ' _ hargs
  refine ⟨_, _, _, _, Cert.Kernel6Ideal.Hand.run_value m ρ, (θ_run _ _ _).mono (fun r h c => ?_) (Cert.Reference6Ideal.Hand.run_value m' ρ')⟩
  obtain ⟨a0, a1, a2, a3⟩ := hargs c
  have hC : Cert.Reference6Ideal.Hand.C m' c = Cert.Kernel6Ideal.Hand.C m c := by funext b k; exact congrFun a0 _
  have hCC : Cert.Reference6Ideal.Hand.CC m' c = Cert.Kernel6Ideal.Hand.CC m c := by funext k; exact congrFun a1 _
  have hW : Cert.Reference6Ideal.Hand.W m' c = Cert.Kernel6Ideal.Hand.W m c := by funext l p n; exact congrFun a2 _
  have hB : Cert.Reference6Ideal.Hand.B m' c = Cert.Kernel6Ideal.Hand.B m c := by funext l n; exact congrFun a3 _
  obtain ⟨h0, h1, h2, h3, hr⟩ := h c
  rw [hC, hW, hB] at h0 h2
  rw [hCC, hW, hB] at h1 h3
  refine ⟨?_, ?_, ?_, ?_, hr⟩
  · funext (j : Cert.Kernel6Ideal.S4x1x6x1024.Idx); idx_vars j
    obtain rfl : j1 = 0 := Subsingleton.elim _ _
    exact h0 _ _ _
  · funext (j : Cert.Kernel6Ideal.S1x1x6x1024.Idx); idx_vars j
    obtain rfl : j0 = 0 := Subsingleton.elim _ _
    obtain rfl : j1 = 0 := Subsingleton.elim _ _
    exact h1 _ _
  · funext (j : Cert.Kernel6Ideal.S4x1x6x1024.Idx); idx_vars j
    obtain rfl : j1 = 0 := Subsingleton.elim _ _
    exact h2 _ _ _
  · funext (j : Cert.Kernel6Ideal.S1x1x6x1024.Idx); idx_vars j
    obtain rfl : j0 = 0 := Subsingleton.elim _ _
    obtain rfl : j1 = 0 := Subsingleton.elim _ _
    exact h3 _ _

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    frame_kernel, fun m ρ _ => Cert.KernelIdeal.Hand.quiescent m ρ, fun m ρ _ => Cert.ReferenceIdeal.Hand.quiescent m ρ,
    fun m ρ _ => Cert.Kernel2.Gen.frame m ρ, fun m ρ _ => Cert.Kernel2Ideal.Gen.frame m ρ, fun m ρ _ => Cert.Reference2Ideal.Hand.quiescent m ρ,
    fun m ρ _ => Cert.Kernel3.Gen.frame m ρ, fun m ρ _ => Cert.Kernel3Ideal.Gen.frame m ρ, fun m ρ _ => Cert.Reference3Ideal.Hand.quiescent m ρ,
    fun m ρ _ => Cert.Kernel4.Gen.frame m ρ, fun m ρ _ => Cert.Kernel4Ideal.Gen.frame m ρ, fun m ρ _ => Cert.Reference4Ideal.Hand.quiescent m ρ,
    fun m ρ _ => Cert.Kernel5.Gen.frame m ρ, fun m ρ _ => Cert.Kernel5Ideal.Gen.frame m ρ, fun m ρ _ => Cert.Reference5Ideal.Hand.quiescent m ρ,
    fun m ρ _ => Cert.Kernel6.Gen.frame m ρ, fun m ρ _ => Cert.Kernel6Ideal.Gen.frame m ρ, fun m ρ _ => Cert.Reference6Ideal.Hand.quiescent m ρ,
    trivial, algebraic1, trivial, algebraic2, trivial, algebraic3, preserves4, algebraic4, trivial, algebraic5, trivial, algebraic6⟩

end Cert.Proof

end
